-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 ((((Real.log 2) * (Real.sqrt 128))⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4096, 2, 128]⟩ ⟨3, ![65536, 2, 128]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![4096, 2, 128]⟩ ⟨3, ![65536, 2, 128]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S256x1024 : Shape := ⟨2, ![256, 1024]⟩
abbrev S1024x1024 : Shape := ⟨2, ![1024, 1024]⟩
abbrev S4096x2x128 : Shape := ⟨3, ![4096, 2, 128]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x2x128 : S_.BroadcastsInDim S4096x2x128 (![] : Fin 0 → Fin S4096x2x128.rank)
  reducesTo_S4096x2x128_S_d0_1_2 : S4096x2x128.ReducesTo [0, 1, 2] S_

variable [Facts]

def fn {F : FTy → Type} [FloatOps F] (main_arg0 : FVec F S256x1024 .f32) (main_arg1 : FVec F S1024x1024 .f32) (main_arg2 : FVec F S1024x1024 .f32) (main_arg3 : FVec F S4096x2x128 .f32) (main_arg4 : FVec F S4096x2x128 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x2x128 .f32 := Host.absf main_arg3
  let main_cst_2 : FVec F S_ .f32 := constant S_ .f32 0x7F800000#32
  let main_v10 : FVec F S4096x2x128 .f32 := broadcastInDim S4096x2x128 ![] bcast_S_S4096x2x128 main_cst_2
  let main_v11 : IVec S4096x2x128 1 := cmpf .olt main_v9 main_v10
  let main_c_3 : IVec S_ 1 := constantI S_ 1 1#1
  let main_v12 : IVec S_ 1 := (fun x v => Host.reduce IntOp.andi x v reducesTo_S4096x2x128_S_d0_1_2 h_S_) main_v11 main_c_3
  let main_v13 : IVec S_ 1 := andi main_v8 main_v12
  main_v13
-- ==== Pre_finite_scores_ReferenceIdeal.lean ====
abbrev S256x1024 : Shape := ⟨2, ![256, 1024]⟩
abbrev S1024x1024 : Shape := ⟨2, ![1024, 1024]⟩
abbrev S65536x2x128 : Shape := ⟨3, ![65536, 2, 128]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S65536x2x128 : S_.BroadcastsInDim S65536x2x128 (![] : Fin 0 → Fin S65536x2x128.rank)
  reducesTo_S65536x2x128_S_d0_1_2 : S65536x2x128.ReducesTo [0, 1, 2] S_

variable [Facts]

def fn {F : FTy → Type} [FloatOps F] (main_arg0 : FVec F S256x1024 .f32) (main_arg1 : FVec F S1024x1024 .f32) (main_arg2 : FVec F S1024x1024 .f32) (main_arg3 : FVec F S65536x2x128 .f32) (main_arg4 : FVec F S65536x2x128 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S65536x2x128 .f32 := Host.absf main_arg3
  let main_cst_2 : FVec F S_ .f32 := constant S_ .f32 0x7F800000#32
  let main_v10 : FVec F S65536x2x128 .f32 := broadcastInDim S65536x2x128 ![] bcast_S_S65536x2x128 main_cst_2
  let main_v11 : IVec S65536x2x128 1 := cmpf .olt main_v9 main_v10
  let main_c_3 : IVec S_ 1 := constantI S_ 1 1#1
  let main_v12 : IVec S_ 1 := (fun x v => Host.reduce IntOp.andi x v reducesTo_S65536x2x128_S_d0_1_2 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S4096x2x128 : Shape := ⟨3, ![4096, 2, 128]⟩
abbrev S256x1152 : Shape := ⟨2, ![256, 1152]⟩
abbrev S16x16x1152 : Shape := ⟨3, ![16, 16, 1152]⟩
abbrev S16x1024 : Shape := ⟨2, ![16, 1024]⟩
abbrev S4096x512 : Shape := ⟨2, ![4096, 512]⟩
abbrev S_ : Shape := ⟨0, ![]⟩
abbrev S4096x128 : Shape := ⟨2, ![4096, 128]⟩
abbrev S4096x1x128 : Shape := ⟨3, ![4096, 1, 128]⟩
abbrev S4096x256 : Shape := ⟨2, ![4096, 256]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S1x16x1152 : Shape := ⟨3, ![1, 16, 1152]⟩
abbrev S16x1152 : Shape := ⟨2, ![16, 1152]⟩
abbrev S16x1 : Shape := ⟨2, ![16, 1]⟩
abbrev S16x128 : Shape := ⟨2, ![16, 128]⟩

abbrev nBuf : Space → Nat
  | .hbm => 6
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S4096x2x128, .f32⟩
  | .hbm, ⟨4, _⟩ => ⟨S4096x2x128, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1152, .bf16⟩
  | .local _ .vmem, ⟨5, _⟩ => ⟨S16x16x1152, .bf16⟩
  | .local _ .vmem, ⟨6, _⟩ => ⟨S16x1024, .bf16⟩
  | .local _ .vmem, ⟨7, _⟩ => ⟨S256x1024, .bf16⟩
  | .local _ .vmem, ⟨8, _⟩ => ⟨S4096x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v16 : BitVec 32 := Scalar.addi v2 c1_i32_16
  let c16_i32_17 : BitVec 32 := 16#32
  let v17 : BitVec 32 := Scalar.remsi v16 c16_i32_17
  let c1_i32_19 : BitVec 32 := 1#32
  let v18 : BitVec 32 := Scalar.muli v17 c1_i32_19
  let v19 : BitVec 32 := Scalar.addi c0_i32_20 v18
  v19.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v20 : BitVec 32 := Scalar.addi v2 c2_i32
  let c16_i32_21 : BitVec 32 := 16#32
  let v21 : BitVec 32 := Scalar.remsi v20 c16_i32_21
  let c1_i32_23 : BitVec 32 := 1#32
  let v22 : BitVec 32 := Scalar.muli v21 c1_i32_23
  let v23 : BitVec 32 := Scalar.addi c0_i32_24 v22
  v23.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v24 : BitVec 32 := Scalar.addi v2 c3_i32
  let c16_i32_25 : BitVec 32 := 16#32
  let v25 : BitVec 32 := Scalar.remsi v24 c16_i32_25
  let c1_i32_27 : BitVec 32 := 1#32
  let v26 : BitVec 32 := Scalar.muli v25 c1_i32_27
  let v27 : BitVec 32 := Scalar.addi c0_i32_28 v26
  v27.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 32 := Scalar.addi v2 c4_i32
  let c16_i32_29 : BitVec 32 := 16#32
  let v29 : BitVec 32 := Scalar.remsi v28 c16_i32_29
  let c1_i32_31 : BitVec 32 := 1#32
  let v30 : BitVec 32 := Scalar.muli v29 c1_i32_31
  let v31 : BitVec 32 := Scalar.addi c0_i32_32 v30
  v31.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v32 : BitVec 32 := Scalar.addi v2 c5_i32
  let c16_i32_33 : BitVec 32 := 16#32
  let v33 : BitVec 32 := Scalar.remsi v32 c16_i32_33
  let c1_i32_35 : BitVec 32 := 1#32
  let v34 : BitVec 32 := Scalar.muli v33 c1_i32_35
  let v35 : BitVec 32 := Scalar.addi c0_i32_36 v34
  v35.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v36 : BitVec 32 := Scalar.addi v2 c6_i32
  let c16_i32_37 : BitVec 32 := 16#32
  let v37 : BitVec 32 := Scalar.remsi v36 c16_i32_37
  let c1_i32_39 : BitVec 32 := 1#32
  let v38 : BitVec 32 := Scalar.muli v37 c1_i32_39
  let v39 : BitVec 32 := Scalar.addi c0_i32_40 v38
  v39.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v40 : BitVec 32 := Scalar.addi v2 c7_i32
  let c16_i32_41 : BitVec 32 := 16#32
  let v41 : BitVec 32 := Scalar.remsi v40 c16_i32_41
  let c1_i32_43 : BitVec 32 := 1#32
  let v42 : BitVec 32 := Scalar.muli v41 c1_i32_43
  let v43 : BitVec 32 := Scalar.addi c0_i32_44 v42
  v43.toNat
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v44 : BitVec 32 := Scalar.addi v2 c8_i32
  let c16_i32_45 : BitVec 32 := 16#32
  let v45 : BitVec 32 := Scalar.remsi v44 c16_i32_45
  let c1_i32_47 : BitVec 32 := 1#32
  let v46 : BitVec 32 := Scalar.muli v45 c1_i32_47
  let v47 : BitVec 32 := Scalar.addi c0_i32_48 v46
  v47.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v48 : BitVec 32 := Scalar.addi v2 c9_i32
  let c16_i32_49 : BitVec 32 := 16#32
  let v49 : BitVec 32 := Scalar.remsi v48 c16_i32_49
  let c1_i32_51 : BitVec 32 := 1#32
  let v50 : BitVec 32 := Scalar.muli v49 c1_i32_51
  let v51 : BitVec 32 := Scalar.addi c0_i32_52 v50
  v51.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v52 : BitVec 32 := Scalar.addi v2 c10_i32
  let c16_i32_53 : BitVec 32 := 16#32
  let v53 : BitVec 32 := Scalar.remsi v52 c16_i32_53
  let c1_i32_55 : BitVec 32 := 1#32
  let v54 : BitVec 32 := Scalar.muli v53 c1_i32_55
  let v55 : BitVec 32 := Scalar.addi c0_i32_56 v54
  v55.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v56 : BitVec 32 := Scalar.addi v2 c11_i32
  let c16_i32_57 : BitVec 32 := 16#32
  let v57 : BitVec 32 := Scalar.remsi v56 c16_i32_57
  let c1_i32_59 : BitVec 32 := 1#32
  let v58 : BitVec 32 := Scalar.muli v57 c1_i32_59
  let v59 : BitVec 32 := Scalar.addi c0_i32_60 v58
  v59.toNat
def k0_dev12 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v60 : BitVec 32 := Scalar.addi v2 c12_i32
  let c16_i32_61 : BitVec 32 := 16#32
  let v61 : BitVec 32 := Scalar.remsi v60 c16_i32_61
  let c1_i32_63 : BitVec 32 := 1#32
  let v62 : BitVec 32 := Scalar.muli v61 c1_i32_63
  let v63 : BitVec 32 := Scalar.addi c0_i32_64 v62
  v63.toNat
def k0_dev13 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v64 : BitVec 32 := Scalar.addi v2 c13_i32
  let c16_i32_65 : BitVec 32 := 16#32
  let v65 : BitVec 32 := Scalar.remsi v64 c16_i32_65
  let c1_i32_67 : BitVec 32 := 1#32
  let v66 : BitVec 32 := Scalar.muli v65 c1_i32_67
  let v67 : BitVec 32 := Scalar.addi c0_i32_68 v66
  v67.toNat
def k0_dev14 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v68 : BitVec 32 := Scalar.addi v2 c14_i32
  let c16_i32_69 : BitVec 32 := 16#32
  let v69 : BitVec 32 := Scalar.remsi v68 c16_i32_69
  let c1_i32_71 : BitVec 32 := 1#32
  let v70 : BitVec 32 := Scalar.muli v69 c1_i32_71
  let v71 : BitVec 32 := Scalar.addi c0_i32_72 v70
  v71.toNat
def k0_dev15 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v72 : BitVec 32 := Scalar.addi v2 c15_i32
  let c16_i32_73 : BitVec 32 := 16#32
  let v73 : BitVec 32 := Scalar.remsi v72 c16_i32_73
  let c1_i32_75 : BitVec 32 := 1#32
  let v74 : BitVec 32 := Scalar.muli v73 c1_i32_75
  let v75 : BitVec 32 := Scalar.addi c0_i32_76 v74
  v75.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v76 : BitVec 32 := Scalar.addi v2 c1_i32_77
  let c16_i32_78 : BitVec 32 := 16#32
  let v77 : BitVec 32 := Scalar.remsi v76 c16_i32_78
  let c16_i32_190 : BitVec 32 := 16#32
  let v283 : BitVec 32 := Scalar.muli v77 c16_i32_190
  let c0_i32_191 : BitVec 32 := 0#32
  let v284 : BitVec 1 := Scalar.cmpi .sge v283 c0_i32_191
  let c128_i32_192 : BitVec 32 := 128#32
  let v285 : BitVec 1 := Scalar.cmpi .slt v283 c128_i32_192
  let v286 : BitVec 1 := Scalar.andi v284 v285
  let v287 : BitVec 32 := Scalar.extui v286
  let c0_i32_194 : BitVec 32 := 0#32
  let v288 : BitVec 1 := Scalar.cmpi .ne v287 c0_i32_194
  v288

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v76 : BitVec 32 := Scalar.addi v2 c1_i32_77
  let c16_i32_78 : BitVec 32 := 16#32
  let v77 : BitVec 32 := Scalar.remsi v76 c16_i32_78
  let c16_i32_79 : BitVec 32 := 16#32
  let v78 : BitVec 32 := Scalar.muli v77 c16_i32_79
  let c0_i32_752 : BitVec 32 := 0#32
  ![v78.toNat, 0]
def k0_dev16 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v76 : BitVec 32 := Scalar.addi v2 c1_i32_77
  let c16_i32_78 : BitVec 32 := 16#32
  let v77 : BitVec 32 := Scalar.remsi v76 c16_i32_78
  let c1_i32_748 : BitVec 32 := 1#32
  let v927 : BitVec 32 := Scalar.muli v77 c1_i32_748
  let v928 : BitVec 32 := Scalar.addi c0_i32_749 v927
  v928.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v79 : BitVec 32 := Scalar.addi v2 c2_i32_80
  let c16_i32_81 : BitVec 32 := 16#32
  let v80 : BitVec 32 := Scalar.remsi v79 c16_i32_81
  let c16_i32_195 : BitVec 32 := 16#32
  let v289 : BitVec 32 := Scalar.muli v80 c16_i32_195
  let c0_i32_196 : BitVec 32 := 0#32
  let v290 : BitVec 1 := Scalar.cmpi .sge v289 c0_i32_196
  let c128_i32_197 : BitVec 32 := 128#32
  let v291 : BitVec 1 := Scalar.cmpi .slt v289 c128_i32_197
  let v292 : BitVec 1 := Scalar.andi v290 v291
  let v293 : BitVec 32 := Scalar.extui v292
  let c0_i32_199 : BitVec 32 := 0#32
  let v294 : BitVec 1 := Scalar.cmpi .ne v293 c0_i32_199
  v294

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v79 : BitVec 32 := Scalar.addi v2 c2_i32_80
  let c16_i32_81 : BitVec 32 := 16#32
  let v80 : BitVec 32 := Scalar.remsi v79 c16_i32_81
  let c16_i32_82 : BitVec 32 := 16#32
  let v81 : BitVec 32 := Scalar.muli v80 c16_i32_82
  let c0_i32_752 : BitVec 32 := 0#32
  ![v81.toNat, 0]
def k0_dev17 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v79 : BitVec 32 := Scalar.addi v2 c2_i32_80
  let c16_i32_81 : BitVec 32 := 16#32
  let v80 : BitVec 32 := Scalar.remsi v79 c16_i32_81
  let c1_i32_748 : BitVec 32 := 1#32
  let v927 : BitVec 32 := Scalar.muli v80 c1_i32_748
  let v928 : BitVec 32 := Scalar.addi c0_i32_749 v927
  v928.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v82 : BitVec 32 := Scalar.addi v2 c3_i32_83
  let c16_i32_84 : BitVec 32 := 16#32
  let v83 : BitVec 32 := Scalar.remsi v82 c16_i32_84
  let c16_i32_200 : BitVec 32 := 16#32
  let v295 : BitVec 32 := Scalar.muli v83 c16_i32_200
  let c0_i32_201 : BitVec 32 := 0#32
  let v296 : BitVec 1 := Scalar.cmpi .sge v295 c0_i32_201
  let c128_i32_202 : BitVec 32 := 128#32
  let v297 : BitVec 1 := Scalar.cmpi .slt v295 c128_i32_202
  let v298 : BitVec 1 := Scalar.andi v296 v297
  let v299 : BitVec 32 := Scalar.extui v298
  let c0_i32_204 : BitVec 32 := 0#32
  let v300 : BitVec 1 := Scalar.cmpi .ne v299 c0_i32_204
  v300

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v82 : BitVec 32 := Scalar.addi v2 c3_i32_83
  let c16_i32_84 : BitVec 32 := 16#32
  let v83 : BitVec 32 := Scalar.remsi v82 c16_i32_84
  let c16_i32_85 : BitVec 32 := 16#32
  let v84 : BitVec 32 := Scalar.muli v83 c16_i32_85
  let c0_i32_752 : BitVec 32 := 0#32
  ![v84.toNat, 0]
def k0_dev18 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v82 : BitVec 32 := Scalar.addi v2 c3_i32_83
  let c16_i32_84 : BitVec 32 := 16#32
  let v83 : BitVec 32 := Scalar.remsi v82 c16_i32_84
  let c1_i32_748 : BitVec 32 := 1#32
  let v927 : BitVec 32 := Scalar.muli v83 c1_i32_748
  let v928 : BitVec 32 := Scalar.addi c0_i32_749 v927
  v928.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_86 : BitVec 32 := 4#32
  let v85 : BitVec 32 := Scalar.addi v2 c4_i32_86
  let c16_i32_87 : BitVec 32 := 16#32
  let v86 : BitVec 32 := Scalar.remsi v85 c16_i32_87
  let c16_i32_205 : BitVec 32 := 16#32
  let v301 : BitVec 32 := Scalar.muli v86 c16_i32_205
  let c0_i32_206 : BitVec 32 := 0#32
  let v302 : BitVec 1 := Scalar.cmpi .sge v301 c0_i32_206
  let c128_i32_207 : BitVec 32 := 128#32
  let v303 : BitVec 1 := Scalar.cmpi .slt v301 c128_i32_207
  let v304 : BitVec 1 := Scalar.andi v302 v303
  let v305 : BitVec 32 := Scalar.extui v304
  let c0_i32_209 : BitVec 32 := 0#32
  let v306 : BitVec 1 := Scalar.cmpi .ne v305 c0_i32_209
  v306

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_86 : BitVec 32 := 4#32
  let v85 : BitVec 32 := Scalar.addi v2 c4_i32_86
  let c16_i32_87 : BitVec 32 := 16#32
  let v86 : BitVec 32 := Scalar.remsi v85 c16_i32_87
  let c16_i32_88 : BitVec 32 := 16#32
  let v87 : BitVec 32 := Scalar.muli v86 c16_i32_88
  let c0_i32_752 : BitVec 32 := 0#32
  ![v87.toNat, 0]
def k0_dev19 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_86 : BitVec 32 := 4#32
  let v85 : BitVec 32 := Scalar.addi v2 c4_i32_86
  let c16_i32_87 : BitVec 32 := 16#32
  let v86 : BitVec 32 := Scalar.remsi v85 c16_i32_87
  let c1_i32_748 : BitVec 32 := 1#32
  let v927 : BitVec 32 := Scalar.muli v86 c1_i32_748
  let v928 : BitVec 32 := Scalar.addi c0_i32_749 v927
  v928.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v88 : BitVec 32 := Scalar.addi v2 c5_i32_89
  let c16_i32_90 : BitVec 32 := 16#32
  let v89 : BitVec 32 := Scalar.remsi v88 c16_i32_90
  let c16_i32_210 : BitVec 32 := 16#32
  let v307 : BitVec 32 := Scalar.muli v89 c16_i32_210
  let c0_i32_211 : BitVec 32 := 0#32
  let v308 : BitVec 1 := Scalar.cmpi .sge v307 c0_i32_211
  let c128_i32_212 : BitVec 32 := 128#32
  let v309 : BitVec 1 := Scalar.cmpi .slt v307 c128_i32_212
  let v310 : BitVec 1 := Scalar.andi v308 v309
  let v311 : BitVec 32 := Scalar.extui v310
  let c0_i32_214 : BitVec 32 := 0#32
  let v312 : BitVec 1 := Scalar.cmpi .ne v311 c0_i32_214
  v312

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v88 : BitVec 32 := Scalar.addi v2 c5_i32_89
  let c16_i32_90 : BitVec 32 := 16#32
  let v89 : BitVec 32 := Scalar.remsi v88 c16_i32_90
  let c16_i32_91 : BitVec 32 := 16#32
  let v90 : BitVec 32 := Scalar.muli v89 c16_i32_91
  let c0_i32_752 : BitVec 32 := 0#32
  ![v90.toNat, 0]
def k0_dev20 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v88 : BitVec 32 := Scalar.addi v2 c5_i32_89
  let c16_i32_90 : BitVec 32 := 16#32
  let v89 : BitVec 32 := Scalar.remsi v88 c16_i32_90
  let c1_i32_748 : BitVec 32 := 1#32
  let v927 : BitVec 32 := Scalar.muli v89 c1_i32_748
  let v928 : BitVec 32 := Scalar.addi c0_i32_749 v927
  v928.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v91 : BitVec 32 := Scalar.addi v2 c6_i32_92
  let c16_i32_93 : BitVec 32 := 16#32
  let v92 : BitVec 32 := Scalar.remsi v91 c16_i32_93
  let c16_i32_215 : BitVec 32 := 16#32
  let v313 : BitVec 32 := Scalar.muli v92 c16_i32_215
  let c0_i32_216 : BitVec 32 := 0#32
  let v314 : BitVec 1 := Scalar.cmpi .sge v313 c0_i32_216
  let c128_i32_217 : BitVec 32 := 128#32
  let v315 : BitVec 1 := Scalar.cmpi .slt v313 c128_i32_217
  let v316 : BitVec 1 := Scalar.andi v314 v315
  let v317 : BitVec 32 := Scalar.extui v316
  let c0_i32_219 : BitVec 32 := 0#32
  let v318 : BitVec 1 := Scalar.cmpi .ne v317 c0_i32_219
  v318

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v91 : BitVec 32 := Scalar.addi v2 c6_i32_92
  let c16_i32_93 : BitVec 32 := 16#32
  let v92 : BitVec 32 := Scalar.remsi v91 c16_i32_93
  let c16_i32_94 : BitVec 32 := 16#32
  let v93 : BitVec 32 := Scalar.muli v92 c16_i32_94
  let c0_i32_752 : BitVec 32 := 0#32
  ![v93.toNat, 0]
def k0_dev21 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v91 : BitVec 32 := Scalar.addi v2 c6_i32_92
  let c16_i32_93 : BitVec 32 := 16#32
  let v92 : BitVec 32 := Scalar.remsi v91 c16_i32_93
  let c1_i32_748 : BitVec 32 := 1#32
  let v927 : BitVec 32 := Scalar.muli v92 c1_i32_748
  let v928 : BitVec 32 := Scalar.addi c0_i32_749 v927
  v928.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v94 : BitVec 32 := Scalar.addi v2 c7_i32_95
  let c16_i32_96 : BitVec 32 := 16#32
  let v95 : BitVec 32 := Scalar.remsi v94 c16_i32_96
  let c16_i32_220 : BitVec 32 := 16#32
  let v319 : BitVec 32 := Scalar.muli v95 c16_i32_220
  let c0_i32_221 : BitVec 32 := 0#32
  let v320 : BitVec 1 := Scalar.cmpi .sge v319 c0_i32_221
  let c128_i32_222 : BitVec 32 := 128#32
  let v321 : BitVec 1 := Scalar.cmpi .slt v319 c128_i32_222
  let v322 : BitVec 1 := Scalar.andi v320 v321
  let v323 : BitVec 32 := Scalar.extui v322
  let c0_i32_224 : BitVec 32 := 0#32
  let v324 : BitVec 1 := Scalar.cmpi .ne v323 c0_i32_224
  v324

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v94 : BitVec 32 := Scalar.addi v2 c7_i32_95
  let c16_i32_96 : BitVec 32 := 16#32
  let v95 : BitVec 32 := Scalar.remsi v94 c16_i32_96
  let c16_i32_97 : BitVec 32 := 16#32
  let v96 : BitVec 32 := Scalar.muli v95 c16_i32_97
  let c0_i32_752 : BitVec 32 := 0#32
  ![v96.toNat, 0]
def k0_dev22 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v94 : BitVec 32 := Scalar.addi v2 c7_i32_95
  let c16_i32_96 : BitVec 32 := 16#32
  let v95 : BitVec 32 := Scalar.remsi v94 c16_i32_96
  let c1_i32_748 : BitVec 32 := 1#32
  let v927 : BitVec 32 := Scalar.muli v95 c1_i32_748
  let v928 : BitVec 32 := Scalar.addi c0_i32_749 v927
  v928.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v97 : BitVec 32 := Scalar.addi v2 c8_i32_98
  let c16_i32_99 : BitVec 32 := 16#32
  let v98 : BitVec 32 := Scalar.remsi v97 c16_i32_99
  let c16_i32_225 : BitVec 32 := 16#32
  let v325 : BitVec 32 := Scalar.muli v98 c16_i32_225
  let c0_i32_226 : BitVec 32 := 0#32
  let v326 : BitVec 1 := Scalar.cmpi .sge v325 c0_i32_226
  let c128_i32_227 : BitVec 32 := 128#32
  let v327 : BitVec 1 := Scalar.cmpi .slt v325 c128_i32_227
  let v328 : BitVec 1 := Scalar.andi v326 v327
  let v329 : BitVec 32 := Scalar.extui v328
  let c0_i32_229 : BitVec 32 := 0#32
  let v330 : BitVec 1 := Scalar.cmpi .ne v329 c0_i32_229
  v330

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v97 : BitVec 32 := Scalar.addi v2 c8_i32_98
  let c16_i32_99 : BitVec 32 := 16#32
  let v98 : BitVec 32 := Scalar.remsi v97 c16_i32_99
  let c16_i32_100 : BitVec 32 := 16#32
  let v99 : BitVec 32 := Scalar.muli v98 c16_i32_100
  let c0_i32_752 : BitVec 32 := 0#32
  ![v99.toNat, 0]
def k0_dev23 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v97 : BitVec 32 := Scalar.addi v2 c8_i32_98
  let c16_i32_99 : BitVec 32 := 16#32
  let v98 : BitVec 32 := Scalar.remsi v97 c16_i32_99
  let c1_i32_748 : BitVec 32 := 1#32
  let v927 : BitVec 32 := Scalar.muli v98 c1_i32_748
  let v928 : BitVec 32 := Scalar.addi c0_i32_749 v927
  v928.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v100 : BitVec 32 := Scalar.addi v2 c9_i32_101
  let c16_i32_102 : BitVec 32 := 16#32
  let v101 : BitVec 32 := Scalar.remsi v100 c16_i32_102
  let c16_i32_230 : BitVec 32 := 16#32
  let v331 : BitVec 32 := Scalar.muli v101 c16_i32_230
  let c0_i32_231 : BitVec 32 := 0#32
  let v332 : BitVec 1 := Scalar.cmpi .sge v331 c0_i32_231
  let c128_i32_232 : BitVec 32 := 128#32
  let v333 : BitVec 1 := Scalar.cmpi .slt v331 c128_i32_232
  let v334 : BitVec 1 := Scalar.andi v332 v333
  let v335 : BitVec 32 := Scalar.extui v334
  let c0_i32_234 : BitVec 32 := 0#32
  let v336 : BitVec 1 := Scalar.cmpi .ne v335 c0_i32_234
  v336

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v100 : BitVec 32 := Scalar.addi v2 c9_i32_101
  let c16_i32_102 : BitVec 32 := 16#32
  let v101 : BitVec 32 := Scalar.remsi v100 c16_i32_102
  let c16_i32_103 : BitVec 32 := 16#32
  let v102 : BitVec 32 := Scalar.muli v101 c16_i32_103
  let c0_i32_752 : BitVec 32 := 0#32
  ![v102.toNat, 0]
def k0_dev24 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v100 : BitVec 32 := Scalar.addi v2 c9_i32_101
  let c16_i32_102 : BitVec 32 := 16#32
  let v101 : BitVec 32 := Scalar.remsi v100 c16_i32_102
  let c1_i32_748 : BitVec 32 := 1#32
  let v927 : BitVec 32 := Scalar.muli v101 c1_i32_748
  let v928 : BitVec 32 := Scalar.addi c0_i32_749 v927
  v928.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_104 : BitVec 32 := 10#32
  let v103 : BitVec 32 := Scalar.addi v2 c10_i32_104
  let c16_i32_105 : BitVec 32 := 16#32
  let v104 : BitVec 32 := Scalar.remsi v103 c16_i32_105
  let c16_i32_235 : BitVec 32 := 16#32
  let v337 : BitVec 32 := Scalar.muli v104 c16_i32_235
  let c0_i32_236 : BitVec 32 := 0#32
  let v338 : BitVec 1 := Scalar.cmpi .sge v337 c0_i32_236
  let c128_i32_237 : BitVec 32 := 128#32
  let v339 : BitVec 1 := Scalar.cmpi .slt v337 c128_i32_237
  let v340 : BitVec 1 := Scalar.andi v338 v339
  let v341 : BitVec 32 := Scalar.extui v340
  let c0_i32_239 : BitVec 32 := 0#32
  let v342 : BitVec 1 := Scalar.cmpi .ne v341 c0_i32_239
  v342

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_104 : BitVec 32 := 10#32
  let v103 : BitVec 32 := Scalar.addi v2 c10_i32_104
  let c16_i32_105 : BitVec 32 := 16#32
  let v104 : BitVec 32 := Scalar.remsi v103 c16_i32_105
  let c16_i32_106 : BitVec 32 := 16#32
  let v105 : BitVec 32 := Scalar.muli v104 c16_i32_106
  let c0_i32_752 : BitVec 32 := 0#32
  ![v105.toNat, 0]
def k0_dev25 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_104 : BitVec 32 := 10#32
  let v103 : BitVec 32 := Scalar.addi v2 c10_i32_104
  let c16_i32_105 : BitVec 32 := 16#32
  let v104 : BitVec 32 := Scalar.remsi v103 c16_i32_105
  let c1_i32_748 : BitVec 32 := 1#32
  let v927 : BitVec 32 := Scalar.muli v104 c1_i32_748
  let v928 : BitVec 32 := Scalar.addi c0_i32_749 v927
  v928.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v106 : BitVec 32 := Scalar.addi v2 c11_i32_107
  let c16_i32_108 : BitVec 32 := 16#32
  let v107 : BitVec 32 := Scalar.remsi v106 c16_i32_108
  let c16_i32_240 : BitVec 32 := 16#32
  let v343 : BitVec 32 := Scalar.muli v107 c16_i32_240
  let c0_i32_241 : BitVec 32 := 0#32
  let v344 : BitVec 1 := Scalar.cmpi .sge v343 c0_i32_241
  let c128_i32_242 : BitVec 32 := 128#32
  let v345 : BitVec 1 := Scalar.cmpi .slt v343 c128_i32_242
  let v346 : BitVec 1 := Scalar.andi v344 v345
  let v347 : BitVec 32 := Scalar.extui v346
  let c0_i32_244 : BitVec 32 := 0#32
  let v348 : BitVec 1 := Scalar.cmpi .ne v347 c0_i32_244
  v348

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v106 : BitVec 32 := Scalar.addi v2 c11_i32_107
  let c16_i32_108 : BitVec 32 := 16#32
  let v107 : BitVec 32 := Scalar.remsi v106 c16_i32_108
  let c16_i32_109 : BitVec 32 := 16#32
  let v108 : BitVec 32 := Scalar.muli v107 c16_i32_109
  let c0_i32_752 : BitVec 32 := 0#32
  ![v108.toNat, 0]
def k0_dev26 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v106 : BitVec 32 := Scalar.addi v2 c11_i32_107
  let c16_i32_108 : BitVec 32 := 16#32
  let v107 : BitVec 32 := Scalar.remsi v106 c16_i32_108
  let c1_i32_748 : BitVec 32 := 1#32
  let v927 : BitVec 32 := Scalar.muli v107 c1_i32_748
  let v928 : BitVec 32 := Scalar.addi c0_i32_749 v927
  v928.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_110 : BitVec 32 := 12#32
  let v109 : BitVec 32 := Scalar.addi v2 c12_i32_110
  let c16_i32_111 : BitVec 32 := 16#32
  let v110 : BitVec 32 := Scalar.remsi v109 c16_i32_111
  let c16_i32_245 : BitVec 32 := 16#32
  let v349 : BitVec 32 := Scalar.muli v110 c16_i32_245
  let c0_i32_246 : BitVec 32 := 0#32
  let v350 : BitVec 1 := Scalar.cmpi .sge v349 c0_i32_246
  let c128_i32_247 : BitVec 32 := 128#32
  let v351 : BitVec 1 := Scalar.cmpi .slt v349 c128_i32_247
  let v352 : BitVec 1 := Scalar.andi v350 v351
  let v353 : BitVec 32 := Scalar.extui v352
  let c0_i32_249 : BitVec 32 := 0#32
  let v354 : BitVec 1 := Scalar.cmpi .ne v353 c0_i32_249
  v354

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_110 : BitVec 32 := 12#32
  let v109 : BitVec 32 := Scalar.addi v2 c12_i32_110
  let c16_i32_111 : BitVec 32 := 16#32
  let v110 : BitVec 32 := Scalar.remsi v109 c16_i32_111
  let c16_i32_112 : BitVec 32 := 16#32
  let v111 : BitVec 32 := Scalar.muli v110 c16_i32_112
  let c0_i32_752 : BitVec 32 := 0#32
  ![v111.toNat, 0]
def k0_dev27 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_110 : BitVec 32 := 12#32
  let v109 : BitVec 32 := Scalar.addi v2 c12_i32_110
  let c16_i32_111 : BitVec 32 := 16#32
  let v110 : BitVec 32 := Scalar.remsi v109 c16_i32_111
  let c1_i32_748 : BitVec 32 := 1#32
  let v927 : BitVec 32 := Scalar.muli v110 c1_i32_748
  let v928 : BitVec 32 := Scalar.addi c0_i32_749 v927
  v928.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_113 : BitVec 32 := 13#32
  let v112 : BitVec 32 := Scalar.addi v2 c13_i32_113
  let c16_i32_114 : BitVec 32 := 16#32
  let v113 : BitVec 32 := Scalar.remsi v112 c16_i32_114
  let c16_i32_250 : BitVec 32 := 16#32
  let v355 : BitVec 32 := Scalar.muli v113 c16_i32_250
  let c0_i32_251 : BitVec 32 := 0#32
  let v356 : BitVec 1 := Scalar.cmpi .sge v355 c0_i32_251
  let c128_i32_252 : BitVec 32 := 128#32
  let v357 : BitVec 1 := Scalar.cmpi .slt v355 c128_i32_252
  let v358 : BitVec 1 := Scalar.andi v356 v357
  let v359 : BitVec 32 := Scalar.extui v358
  let c0_i32_254 : BitVec 32 := 0#32
  let v360 : BitVec 1 := Scalar.cmpi .ne v359 c0_i32_254
  v360

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_113 : BitVec 32 := 13#32
  let v112 : BitVec 32 := Scalar.addi v2 c13_i32_113
  let c16_i32_114 : BitVec 32 := 16#32
  let v113 : BitVec 32 := Scalar.remsi v112 c16_i32_114
  let c16_i32_115 : BitVec 32 := 16#32
  let v114 : BitVec 32 := Scalar.muli v113 c16_i32_115
  let c0_i32_752 : BitVec 32 := 0#32
  ![v114.toNat, 0]
def k0_dev28 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_113 : BitVec 32 := 13#32
  let v112 : BitVec 32 := Scalar.addi v2 c13_i32_113
  let c16_i32_114 : BitVec 32 := 16#32
  let v113 : BitVec 32 := Scalar.remsi v112 c16_i32_114
  let c1_i32_748 : BitVec 32 := 1#32
  let v927 : BitVec 32 := Scalar.muli v113 c1_i32_748
  let v928 : BitVec 32 := Scalar.addi c0_i32_749 v927
  v928.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_116 : BitVec 32 := 14#32
  let v115 : BitVec 32 := Scalar.addi v2 c14_i32_116
  let c16_i32_117 : BitVec 32 := 16#32
  let v116 : BitVec 32 := Scalar.remsi v115 c16_i32_117
  let c16_i32_255 : BitVec 32 := 16#32
  let v361 : BitVec 32 := Scalar.muli v116 c16_i32_255
  let c0_i32_256 : BitVec 32 := 0#32
  let v362 : BitVec 1 := Scalar.cmpi .sge v361 c0_i32_256
  let c128_i32_257 : BitVec 32 := 128#32
  let v363 : BitVec 1 := Scalar.cmpi .slt v361 c128_i32_257
  let v364 : BitVec 1 := Scalar.andi v362 v363
  let v365 : BitVec 32 := Scalar.extui v364
  let c0_i32_259 : BitVec 32 := 0#32
  let v366 : BitVec 1 := Scalar.cmpi .ne v365 c0_i32_259
  v366

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_116 : BitVec 32 := 14#32
  let v115 : BitVec 32 := Scalar.addi v2 c14_i32_116
  let c16_i32_117 : BitVec 32 := 16#32
  let v116 : BitVec 32 := Scalar.remsi v115 c16_i32_117
  let c16_i32_118 : BitVec 32 := 16#32
  let v117 : BitVec 32 := Scalar.muli v116 c16_i32_118
  let c0_i32_752 : BitVec 32 := 0#32
  ![v117.toNat, 0]
def k0_dev29 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_116 : BitVec 32 := 14#32
  let v115 : BitVec 32 := Scalar.addi v2 c14_i32_116
  let c16_i32_117 : BitVec 32 := 16#32
  let v116 : BitVec 32 := Scalar.remsi v115 c16_i32_117
  let c1_i32_748 : BitVec 32 := 1#32
  let v927 : BitVec 32 := Scalar.muli v116 c1_i32_748
  let v928 : BitVec 32 := Scalar.addi c0_i32_749 v927
  v928.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_119 : BitVec 32 := 15#32
  let v118 : BitVec 32 := Scalar.addi v2 c15_i32_119
  let c16_i32_120 : BitVec 32 := 16#32
  let v119 : BitVec 32 := Scalar.remsi v118 c16_i32_120
  let c16_i32_260 : BitVec 32 := 16#32
  let v367 : BitVec 32 := Scalar.muli v119 c16_i32_260
  let c0_i32_261 : BitVec 32 := 0#32
  let v368 : BitVec 1 := Scalar.cmpi .sge v367 c0_i32_261
  let c128_i32_262 : BitVec 32 := 128#32
  let v369 : BitVec 1 := Scalar.cmpi .slt v367 c128_i32_262
  let v370 : BitVec 1 := Scalar.andi v368 v369
  let v371 : BitVec 32 := Scalar.extui v370
  let c0_i32_264 : BitVec 32 := 0#32
  let v372 : BitVec 1 := Scalar.cmpi .ne v371 c0_i32_264
  v372

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_119 : BitVec 32 := 15#32
  let v118 : BitVec 32 := Scalar.addi v2 c15_i32_119
  let c16_i32_120 : BitVec 32 := 16#32
  let v119 : BitVec 32 := Scalar.remsi v118 c16_i32_120
  let c16_i32_121 : BitVec 32 := 16#32
  let v120 : BitVec 32 := Scalar.muli v119 c16_i32_121
  let c0_i32_752 : BitVec 32 := 0#32
  ![v120.toNat, 0]
def k0_dev30 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_119 : BitVec 32 := 15#32
  let v118 : BitVec 32 := Scalar.addi v2 c15_i32_119
  let c16_i32_120 : BitVec 32 := 16#32
  let v119 : BitVec 32 := Scalar.remsi v118 c16_i32_120
  let c1_i32_748 : BitVec 32 := 1#32
  let v927 : BitVec 32 := Scalar.muli v119 c1_i32_748
  let v928 : BitVec 32 := Scalar.addi c0_i32_749 v927
  v928.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v76 : BitVec 32 := Scalar.addi v2 c1_i32_77
  let c16_i32_78 : BitVec 32 := 16#32
  let v77 : BitVec 32 := Scalar.remsi v76 c16_i32_78
  let c16_i32_321 : BitVec 32 := 16#32
  let v509 : BitVec 32 := Scalar.muli v77 c16_i32_321
  let c128_i32_322 : BitVec 32 := 128#32
  let v510 : BitVec 1 := Scalar.cmpi .sge v509 c128_i32_322
  let c256_i32_323 : BitVec 32 := 256#32
  let v511 : BitVec 1 := Scalar.cmpi .slt v509 c256_i32_323
  let v512 : BitVec 1 := Scalar.andi v510 v511
  let v513 : BitVec 32 := Scalar.extui v512
  let c0_i32_325 : BitVec 32 := 0#32
  let v514 : BitVec 1 := Scalar.cmpi .ne v513 c0_i32_325
  v514

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v76 : BitVec 32 := Scalar.addi v2 c1_i32_77
  let c16_i32_78 : BitVec 32 := 16#32
  let v77 : BitVec 32 := Scalar.remsi v76 c16_i32_78
  let c16_i32_79 : BitVec 32 := 16#32
  let v78 : BitVec 32 := Scalar.muli v77 c16_i32_79
  let c0_i32_752 : BitVec 32 := 0#32
  ![v78.toNat, 0]
def k0_dev31 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v76 : BitVec 32 := Scalar.addi v2 c1_i32_77
  let c16_i32_78 : BitVec 32 := 16#32
  let v77 : BitVec 32 := Scalar.remsi v76 c16_i32_78
  let c1_i32_748 : BitVec 32 := 1#32
  let v927 : BitVec 32 := Scalar.muli v77 c1_i32_748
  let v928 : BitVec 32 := Scalar.addi c0_i32_749 v927
  v928.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v79 : BitVec 32 := Scalar.addi v2 c2_i32_80
  let c16_i32_81 : BitVec 32 := 16#32
  let v80 : BitVec 32 := Scalar.remsi v79 c16_i32_81
  let c16_i32_326 : BitVec 32 := 16#32
  let v515 : BitVec 32 := Scalar.muli v80 c16_i32_326
  let c128_i32_327 : BitVec 32 := 128#32
  let v516 : BitVec 1 := Scalar.cmpi .sge v515 c128_i32_327
  let c256_i32_328 : BitVec 32 := 256#32
  let v517 : BitVec 1 := Scalar.cmpi .slt v515 c256_i32_328
  let v518 : BitVec 1 := Scalar.andi v516 v517
  let v519 : BitVec 32 := Scalar.extui v518
  let c0_i32_330 : BitVec 32 := 0#32
  let v520 : BitVec 1 := Scalar.cmpi .ne v519 c0_i32_330
  v520

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v79 : BitVec 32 := Scalar.addi v2 c2_i32_80
  let c16_i32_81 : BitVec 32 := 16#32
  let v80 : BitVec 32 := Scalar.remsi v79 c16_i32_81
  let c16_i32_82 : BitVec 32 := 16#32
  let v81 : BitVec 32 := Scalar.muli v80 c16_i32_82
  let c0_i32_752 : BitVec 32 := 0#32
  ![v81.toNat, 0]
def k0_dev32 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v79 : BitVec 32 := Scalar.addi v2 c2_i32_80
  let c16_i32_81 : BitVec 32 := 16#32
  let v80 : BitVec 32 := Scalar.remsi v79 c16_i32_81
  let c1_i32_748 : BitVec 32 := 1#32
  let v927 : BitVec 32 := Scalar.muli v80 c1_i32_748
  let v928 : BitVec 32 := Scalar.addi c0_i32_749 v927
  v928.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v82 : BitVec 32 := Scalar.addi v2 c3_i32_83
  let c16_i32_84 : BitVec 32 := 16#32
  let v83 : BitVec 32 := Scalar.remsi v82 c16_i32_84
  let c16_i32_331 : BitVec 32 := 16#32
  let v521 : BitVec 32 := Scalar.muli v83 c16_i32_331
  let c128_i32_332 : BitVec 32 := 128#32
  let v522 : BitVec 1 := Scalar.cmpi .sge v521 c128_i32_332
  let c256_i32_333 : BitVec 32 := 256#32
  let v523 : BitVec 1 := Scalar.cmpi .slt v521 c256_i32_333
  let v524 : BitVec 1 := Scalar.andi v522 v523
  let v525 : BitVec 32 := Scalar.extui v524
  let c0_i32_335 : BitVec 32 := 0#32
  let v526 : BitVec 1 := Scalar.cmpi .ne v525 c0_i32_335
  v526

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v82 : BitVec 32 := Scalar.addi v2 c3_i32_83
  let c16_i32_84 : BitVec 32 := 16#32
  let v83 : BitVec 32 := Scalar.remsi v82 c16_i32_84
  let c16_i32_85 : BitVec 32 := 16#32
  let v84 : BitVec 32 := Scalar.muli v83 c16_i32_85
  let c0_i32_752 : BitVec 32 := 0#32
  ![v84.toNat, 0]
def k0_dev33 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v82 : BitVec 32 := Scalar.addi v2 c3_i32_83
  let c16_i32_84 : BitVec 32 := 16#32
  let v83 : BitVec 32 := Scalar.remsi v82 c16_i32_84
  let c1_i32_748 : BitVec 32 := 1#32
  let v927 : BitVec 32 := Scalar.muli v83 c1_i32_748
  let v928 : BitVec 32 := Scalar.addi c0_i32_749 v927
  v928.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_86 : BitVec 32 := 4#32
  let v85 : BitVec 32 := Scalar.addi v2 c4_i32_86
  let c16_i32_87 : BitVec 32 := 16#32
  let v86 : BitVec 32 := Scalar.remsi v85 c16_i32_87
  let c16_i32_336 : BitVec 32 := 16#32
  let v527 : BitVec 32 := Scalar.muli v86 c16_i32_336
  let c128_i32_337 : BitVec 32 := 128#32
  let v528 : BitVec 1 := Scalar.cmpi .sge v527 c128_i32_337
  let c256_i32_338 : BitVec 32 := 256#32
  let v529 : BitVec 1 := Scalar.cmpi .slt v527 c256_i32_338
  let v530 : BitVec 1 := Scalar.andi v528 v529
  let v531 : BitVec 32 := Scalar.extui v530
  let c0_i32_340 : BitVec 32 := 0#32
  let v532 : BitVec 1 := Scalar.cmpi .ne v531 c0_i32_340
  v532

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_86 : BitVec 32 := 4#32
  let v85 : BitVec 32 := Scalar.addi v2 c4_i32_86
  let c16_i32_87 : BitVec 32 := 16#32
  let v86 : BitVec 32 := Scalar.remsi v85 c16_i32_87
  let c16_i32_88 : BitVec 32 := 16#32
  let v87 : BitVec 32 := Scalar.muli v86 c16_i32_88
  let c0_i32_752 : BitVec 32 := 0#32
  ![v87.toNat, 0]
def k0_dev34 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_86 : BitVec 32 := 4#32
  let v85 : BitVec 32 := Scalar.addi v2 c4_i32_86
  let c16_i32_87 : BitVec 32 := 16#32
  let v86 : BitVec 32 := Scalar.remsi v85 c16_i32_87
  let c1_i32_748 : BitVec 32 := 1#32
  let v927 : BitVec 32 := Scalar.muli v86 c1_i32_748
  let v928 : BitVec 32 := Scalar.addi c0_i32_749 v927
  v928.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v88 : BitVec 32 := Scalar.addi v2 c5_i32_89
  let c16_i32_90 : BitVec 32 := 16#32
  let v89 : BitVec 32 := Scalar.remsi v88 c16_i32_90
  let c16_i32_341 : BitVec 32 := 16#32
  let v533 : BitVec 32 := Scalar.muli v89 c16_i32_341
  let c128_i32_342 : BitVec 32 := 128#32
  let v534 : BitVec 1 := Scalar.cmpi .sge v533 c128_i32_342
  let c256_i32_343 : BitVec 32 := 256#32
  let v535 : BitVec 1 := Scalar.cmpi .slt v533 c256_i32_343
  let v536 : BitVec 1 := Scalar.andi v534 v535
  let v537 : BitVec 32 := Scalar.extui v536
  let c0_i32_345 : BitVec 32 := 0#32
  let v538 : BitVec 1 := Scalar.cmpi .ne v537 c0_i32_345
  v538

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v88 : BitVec 32 := Scalar.addi v2 c5_i32_89
  let c16_i32_90 : BitVec 32 := 16#32
  let v89 : BitVec 32 := Scalar.remsi v88 c16_i32_90
  let c16_i32_91 : BitVec 32 := 16#32
  let v90 : BitVec 32 := Scalar.muli v89 c16_i32_91
  let c0_i32_752 : BitVec 32 := 0#32
  ![v90.toNat, 0]
def k0_dev35 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_89 : BitVec 32 := 5#32
  let v88 : BitVec 32 := Scalar.addi v2 c5_i32_89
  let c16_i32_90 : BitVec 32 := 16#32
  let v89 : BitVec 32 := Scalar.remsi v88 c16_i32_90
  let c1_i32_748 : BitVec 32 := 1#32
  let v927 : BitVec 32 := Scalar.muli v89 c1_i32_748
  let v928 : BitVec 32 := Scalar.addi c0_i32_749 v927
  v928.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v91 : BitVec 32 := Scalar.addi v2 c6_i32_92
  let c16_i32_93 : BitVec 32 := 16#32
  let v92 : BitVec 32 := Scalar.remsi v91 c16_i32_93
  let c16_i32_346 : BitVec 32 := 16#32
  let v539 : BitVec 32 := Scalar.muli v92 c16_i32_346
  let c128_i32_347 : BitVec 32 := 128#32
  let v540 : BitVec 1 := Scalar.cmpi .sge v539 c128_i32_347
  let c256_i32_348 : BitVec 32 := 256#32
  let v541 : BitVec 1 := Scalar.cmpi .slt v539 c256_i32_348
  let v542 : BitVec 1 := Scalar.andi v540 v541
  let v543 : BitVec 32 := Scalar.extui v542
  let c0_i32_350 : BitVec 32 := 0#32
  let v544 : BitVec 1 := Scalar.cmpi .ne v543 c0_i32_350
  v544

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v91 : BitVec 32 := Scalar.addi v2 c6_i32_92
  let c16_i32_93 : BitVec 32 := 16#32
  let v92 : BitVec 32 := Scalar.remsi v91 c16_i32_93
  let c16_i32_94 : BitVec 32 := 16#32
  let v93 : BitVec 32 := Scalar.muli v92 c16_i32_94
  let c0_i32_752 : BitVec 32 := 0#32
  ![v93.toNat, 0]
def k0_dev36 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v91 : BitVec 32 := Scalar.addi v2 c6_i32_92
  let c16_i32_93 : BitVec 32 := 16#32
  let v92 : BitVec 32 := Scalar.remsi v91 c16_i32_93
  let c1_i32_748 : BitVec 32 := 1#32
  let v927 : BitVec 32 := Scalar.muli v92 c1_i32_748
  let v928 : BitVec 32 := Scalar.addi c0_i32_749 v927
  v928.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v94 : BitVec 32 := Scalar.addi v2 c7_i32_95
  let c16_i32_96 : BitVec 32 := 16#32
  let v95 : BitVec 32 := Scalar.remsi v94 c16_i32_96
  let c16_i32_351 : BitVec 32 := 16#32
  let v545 : BitVec 32 := Scalar.muli v95 c16_i32_351
  let c128_i32_352 : BitVec 32 := 128#32
  let v546 : BitVec 1 := Scalar.cmpi .sge v545 c128_i32_352
  let c256_i32_353 : BitVec 32 := 256#32
  let v547 : BitVec 1 := Scalar.cmpi .slt v545 c256_i32_353
  let v548 : BitVec 1 := Scalar.andi v546 v547
  let v549 : BitVec 32 := Scalar.extui v548
  let c0_i32_355 : BitVec 32 := 0#32
  let v550 : BitVec 1 := Scalar.cmpi .ne v549 c0_i32_355
  v550

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v94 : BitVec 32 := Scalar.addi v2 c7_i32_95
  let c16_i32_96 : BitVec 32 := 16#32
  let v95 : BitVec 32 := Scalar.remsi v94 c16_i32_96
  let c16_i32_97 : BitVec 32 := 16#32
  let v96 : BitVec 32 := Scalar.muli v95 c16_i32_97
  let c0_i32_752 : BitVec 32 := 0#32
  ![v96.toNat, 0]
def k0_dev37 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_95 : BitVec 32 := 7#32
  let v94 : BitVec 32 := Scalar.addi v2 c7_i32_95
  let c16_i32_96 : BitVec 32 := 16#32
  let v95 : BitVec 32 := Scalar.remsi v94 c16_i32_96
  let c1_i32_748 : BitVec 32 := 1#32
  let v927 : BitVec 32 := Scalar.muli v95 c1_i32_748
  let v928 : BitVec 32 := Scalar.addi c0_i32_749 v927
  v928.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v97 : BitVec 32 := Scalar.addi v2 c8_i32_98
  let c16_i32_99 : BitVec 32 := 16#32
  let v98 : BitVec 32 := Scalar.remsi v97 c16_i32_99
  let c16_i32_356 : BitVec 32 := 16#32
  let v551 : BitVec 32 := Scalar.muli v98 c16_i32_356
  let c128_i32_357 : BitVec 32 := 128#32
  let v552 : BitVec 1 := Scalar.cmpi .sge v551 c128_i32_357
  let c256_i32_358 : BitVec 32 := 256#32
  let v553 : BitVec 1 := Scalar.cmpi .slt v551 c256_i32_358
  let v554 : BitVec 1 := Scalar.andi v552 v553
  let v555 : BitVec 32 := Scalar.extui v554
  let c0_i32_360 : BitVec 32 := 0#32
  let v556 : BitVec 1 := Scalar.cmpi .ne v555 c0_i32_360
  v556

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v97 : BitVec 32 := Scalar.addi v2 c8_i32_98
  let c16_i32_99 : BitVec 32 := 16#32
  let v98 : BitVec 32 := Scalar.remsi v97 c16_i32_99
  let c16_i32_100 : BitVec 32 := 16#32
  let v99 : BitVec 32 := Scalar.muli v98 c16_i32_100
  let c0_i32_752 : BitVec 32 := 0#32
  ![v99.toNat, 0]
def k0_dev38 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_98 : BitVec 32 := 8#32
  let v97 : BitVec 32 := Scalar.addi v2 c8_i32_98
  let c16_i32_99 : BitVec 32 := 16#32
  let v98 : BitVec 32 := Scalar.remsi v97 c16_i32_99
  let c1_i32_748 : BitVec 32 := 1#32
  let v927 : BitVec 32 := Scalar.muli v98 c1_i32_748
  let v928 : BitVec 32 := Scalar.addi c0_i32_749 v927
  v928.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v100 : BitVec 32 := Scalar.addi v2 c9_i32_101
  let c16_i32_102 : BitVec 32 := 16#32
  let v101 : BitVec 32 := Scalar.remsi v100 c16_i32_102
  let c16_i32_361 : BitVec 32 := 16#32
  let v557 : BitVec 32 := Scalar.muli v101 c16_i32_361
  let c128_i32_362 : BitVec 32 := 128#32
  let v558 : BitVec 1 := Scalar.cmpi .sge v557 c128_i32_362
  let c256_i32_363 : BitVec 32 := 256#32
  let v559 : BitVec 1 := Scalar.cmpi .slt v557 c256_i32_363
  let v560 : BitVec 1 := Scalar.andi v558 v559
  let v561 : BitVec 32 := Scalar.extui v560
  let c0_i32_365 : BitVec 32 := 0#32
  let v562 : BitVec 1 := Scalar.cmpi .ne v561 c0_i32_365
  v562

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v100 : BitVec 32 := Scalar.addi v2 c9_i32_101
  let c16_i32_102 : BitVec 32 := 16#32
  let v101 : BitVec 32 := Scalar.remsi v100 c16_i32_102
  let c16_i32_103 : BitVec 32 := 16#32
  let v102 : BitVec 32 := Scalar.muli v101 c16_i32_103
  let c0_i32_752 : BitVec 32 := 0#32
  ![v102.toNat, 0]
def k0_dev39 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_101 : BitVec 32 := 9#32
  let v100 : BitVec 32 := Scalar.addi v2 c9_i32_101
  let c16_i32_102 : BitVec 32 := 16#32
  let v101 : BitVec 32 := Scalar.remsi v100 c16_i32_102
  let c1_i32_748 : BitVec 32 := 1#32
  let v927 : BitVec 32 := Scalar.muli v101 c1_i32_748
  let v928 : BitVec 32 := Scalar.addi c0_i32_749 v927
  v928.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_104 : BitVec 32 := 10#32
  let v103 : BitVec 32 := Scalar.addi v2 c10_i32_104
  let c16_i32_105 : BitVec 32 := 16#32
  let v104 : BitVec 32 := Scalar.remsi v103 c16_i32_105
  let c16_i32_366 : BitVec 32 := 16#32
  let v563 : BitVec 32 := Scalar.muli v104 c16_i32_366
  let c128_i32_367 : BitVec 32 := 128#32
  let v564 : BitVec 1 := Scalar.cmpi .sge v563 c128_i32_367
  let c256_i32_368 : BitVec 32 := 256#32
  let v565 : BitVec 1 := Scalar.cmpi .slt v563 c256_i32_368
  let v566 : BitVec 1 := Scalar.andi v564 v565
  let v567 : BitVec 32 := Scalar.extui v566
  let c0_i32_370 : BitVec 32 := 0#32
  let v568 : BitVec 1 := Scalar.cmpi .ne v567 c0_i32_370
  v568

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_104 : BitVec 32 := 10#32
  let v103 : BitVec 32 := Scalar.addi v2 c10_i32_104
  let c16_i32_105 : BitVec 32 := 16#32
  let v104 : BitVec 32 := Scalar.remsi v103 c16_i32_105
  let c16_i32_106 : BitVec 32 := 16#32
  let v105 : BitVec 32 := Scalar.muli v104 c16_i32_106
  let c0_i32_752 : BitVec 32 := 0#32
  ![v105.toNat, 0]
def k0_dev40 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_104 : BitVec 32 := 10#32
  let v103 : BitVec 32 := Scalar.addi v2 c10_i32_104
  let c16_i32_105 : BitVec 32 := 16#32
  let v104 : BitVec 32 := Scalar.remsi v103 c16_i32_105
  let c1_i32_748 : BitVec 32 := 1#32
  let v927 : BitVec 32 := Scalar.muli v104 c1_i32_748
  let v928 : BitVec 32 := Scalar.addi c0_i32_749 v927
  v928.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v106 : BitVec 32 := Scalar.addi v2 c11_i32_107
  let c16_i32_108 : BitVec 32 := 16#32
  let v107 : BitVec 32 := Scalar.remsi v106 c16_i32_108
  let c16_i32_371 : BitVec 32 := 16#32
  let v569 : BitVec 32 := Scalar.muli v107 c16_i32_371
  let c128_i32_372 : BitVec 32 := 128#32
  let v570 : BitVec 1 := Scalar.cmpi .sge v569 c128_i32_372
  let c256_i32_373 : BitVec 32 := 256#32
  let v571 : BitVec 1 := Scalar.cmpi .slt v569 c256_i32_373
  let v572 : BitVec 1 := Scalar.andi v570 v571
  let v573 : BitVec 32 := Scalar.extui v572
  let c0_i32_375 : BitVec 32 := 0#32
  let v574 : BitVec 1 := Scalar.cmpi .ne v573 c0_i32_375
  v574

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v106 : BitVec 32 := Scalar.addi v2 c11_i32_107
  let c16_i32_108 : BitVec 32 := 16#32
  let v107 : BitVec 32 := Scalar.remsi v106 c16_i32_108
  let c16_i32_109 : BitVec 32 := 16#32
  let v108 : BitVec 32 := Scalar.muli v107 c16_i32_109
  let c0_i32_752 : BitVec 32 := 0#32
  ![v108.toNat, 0]
def k0_dev41 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v106 : BitVec 32 := Scalar.addi v2 c11_i32_107
  let c16_i32_108 : BitVec 32 := 16#32
  let v107 : BitVec 32 := Scalar.remsi v106 c16_i32_108
  let c1_i32_748 : BitVec 32 := 1#32
  let v927 : BitVec 32 := Scalar.muli v107 c1_i32_748
  let v928 : BitVec 32 := Scalar.addi c0_i32_749 v927
  v928.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_110 : BitVec 32 := 12#32
  let v109 : BitVec 32 := Scalar.addi v2 c12_i32_110
  let c16_i32_111 : BitVec 32 := 16#32
  let v110 : BitVec 32 := Scalar.remsi v109 c16_i32_111
  let c16_i32_376 : BitVec 32 := 16#32
  let v575 : BitVec 32 := Scalar.muli v110 c16_i32_376
  let c128_i32_377 : BitVec 32 := 128#32
  let v576 : BitVec 1 := Scalar.cmpi .sge v575 c128_i32_377
  let c256_i32_378 : BitVec 32 := 256#32
  let v577 : BitVec 1 := Scalar.cmpi .slt v575 c256_i32_378
  let v578 : BitVec 1 := Scalar.andi v576 v577
  let v579 : BitVec 32 := Scalar.extui v578
  let c0_i32_380 : BitVec 32 := 0#32
  let v580 : BitVec 1 := Scalar.cmpi .ne v579 c0_i32_380
  v580

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_110 : BitVec 32 := 12#32
  let v109 : BitVec 32 := Scalar.addi v2 c12_i32_110
  let c16_i32_111 : BitVec 32 := 16#32
  let v110 : BitVec 32 := Scalar.remsi v109 c16_i32_111
  let c16_i32_112 : BitVec 32 := 16#32
  let v111 : BitVec 32 := Scalar.muli v110 c16_i32_112
  let c0_i32_752 : BitVec 32 := 0#32
  ![v111.toNat, 0]
def k0_dev42 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_110 : BitVec 32 := 12#32
  let v109 : BitVec 32 := Scalar.addi v2 c12_i32_110
  let c16_i32_111 : BitVec 32 := 16#32
  let v110 : BitVec 32 := Scalar.remsi v109 c16_i32_111
  let c1_i32_748 : BitVec 32 := 1#32
  let v927 : BitVec 32 := Scalar.muli v110 c1_i32_748
  let v928 : BitVec 32 := Scalar.addi c0_i32_749 v927
  v928.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_113 : BitVec 32 := 13#32
  let v112 : BitVec 32 := Scalar.addi v2 c13_i32_113
  let c16_i32_114 : BitVec 32 := 16#32
  let v113 : BitVec 32 := Scalar.remsi v112 c16_i32_114
  let c16_i32_381 : BitVec 32 := 16#32
  let v581 : BitVec 32 := Scalar.muli v113 c16_i32_381
  let c128_i32_382 : BitVec 32 := 128#32
  let v582 : BitVec 1 := Scalar.cmpi .sge v581 c128_i32_382
  let c256_i32_383 : BitVec 32 := 256#32
  let v583 : BitVec 1 := Scalar.cmpi .slt v581 c256_i32_383
  let v584 : BitVec 1 := Scalar.andi v582 v583
  let v585 : BitVec 32 := Scalar.extui v584
  let c0_i32_385 : BitVec 32 := 0#32
  let v586 : BitVec 1 := Scalar.cmpi .ne v585 c0_i32_385
  v586

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_113 : BitVec 32 := 13#32
  let v112 : BitVec 32 := Scalar.addi v2 c13_i32_113
  let c16_i32_114 : BitVec 32 := 16#32
  let v113 : BitVec 32 := Scalar.remsi v112 c16_i32_114
  let c16_i32_115 : BitVec 32 := 16#32
  let v114 : BitVec 32 := Scalar.muli v113 c16_i32_115
  let c0_i32_752 : BitVec 32 := 0#32
  ![v114.toNat, 0]
def k0_dev43 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_113 : BitVec 32 := 13#32
  let v112 : BitVec 32 := Scalar.addi v2 c13_i32_113
  let c16_i32_114 : BitVec 32 := 16#32
  let v113 : BitVec 32 := Scalar.remsi v112 c16_i32_114
  let c1_i32_748 : BitVec 32 := 1#32
  let v927 : BitVec 32 := Scalar.muli v113 c1_i32_748
  let v928 : BitVec 32 := Scalar.addi c0_i32_749 v927
  v928.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_116 : BitVec 32 := 14#32
  let v115 : BitVec 32 := Scalar.addi v2 c14_i32_116
  let c16_i32_117 : BitVec 32 := 16#32
  let v116 : BitVec 32 := Scalar.remsi v115 c16_i32_117
  let c16_i32_386 : BitVec 32 := 16#32
  let v587 : BitVec 32 := Scalar.muli v116 c16_i32_386
  let c128_i32_387 : BitVec 32 := 128#32
  let v588 : BitVec 1 := Scalar.cmpi .sge v587 c128_i32_387
  let c256_i32_388 : BitVec 32 := 256#32
  let v589 : BitVec 1 := Scalar.cmpi .slt v587 c256_i32_388
  let v590 : BitVec 1 := Scalar.andi v588 v589
  let v591 : BitVec 32 := Scalar.extui v590
  let c0_i32_390 : BitVec 32 := 0#32
  let v592 : BitVec 1 := Scalar.cmpi .ne v591 c0_i32_390
  v592

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_116 : BitVec 32 := 14#32
  let v115 : BitVec 32 := Scalar.addi v2 c14_i32_116
  let c16_i32_117 : BitVec 32 := 16#32
  let v116 : BitVec 32 := Scalar.remsi v115 c16_i32_117
  let c16_i32_118 : BitVec 32 := 16#32
  let v117 : BitVec 32 := Scalar.muli v116 c16_i32_118
  let c0_i32_752 : BitVec 32 := 0#32
  ![v117.toNat, 0]
def k0_dev44 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_116 : BitVec 32 := 14#32
  let v115 : BitVec 32 := Scalar.addi v2 c14_i32_116
  let c16_i32_117 : BitVec 32 := 16#32
  let v116 : BitVec 32 := Scalar.remsi v115 c16_i32_117
  let c1_i32_748 : BitVec 32 := 1#32
  let v927 : BitVec 32 := Scalar.muli v116 c1_i32_748
  let v928 : BitVec 32 := Scalar.addi c0_i32_749 v927
  v928.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_119 : BitVec 32 := 15#32
  let v118 : BitVec 32 := Scalar.addi v2 c15_i32_119
  let c16_i32_120 : BitVec 32 := 16#32
  let v119 : BitVec 32 := Scalar.remsi v118 c16_i32_120
  let c16_i32_391 : BitVec 32 := 16#32
  let v593 : BitVec 32 := Scalar.muli v119 c16_i32_391
  let c128_i32_392 : BitVec 32 := 128#32
  let v594 : BitVec 1 := Scalar.cmpi .sge v593 c128_i32_392
  let c256_i32_393 : BitVec 32 := 256#32
  let v595 : BitVec 1 := Scalar.cmpi .slt v593 c256_i32_393
  let v596 : BitVec 1 := Scalar.andi v594 v595
  let v597 : BitVec 32 := Scalar.extui v596
  let c0_i32_395 : BitVec 32 := 0#32
  let v598 : BitVec 1 := Scalar.cmpi .ne v597 c0_i32_395
  v598

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_119 : BitVec 32 := 15#32
  let v118 : BitVec 32 := Scalar.addi v2 c15_i32_119
  let c16_i32_120 : BitVec 32 := 16#32
  let v119 : BitVec 32 := Scalar.remsi v118 c16_i32_120
  let c16_i32_121 : BitVec 32 := 16#32
  let v120 : BitVec 32 := Scalar.muli v119 c16_i32_121
  let c0_i32_752 : BitVec 32 := 0#32
  ![v120.toNat, 0]
def k0_dev45 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_119 : BitVec 32 := 15#32
  let v118 : BitVec 32 := Scalar.addi v2 c15_i32_119
  let c16_i32_120 : BitVec 32 := 16#32
  let v119 : BitVec 32 := Scalar.remsi v118 c16_i32_120
  let c1_i32_748 : BitVec 32 := 1#32
  let v927 : BitVec 32 := Scalar.muli v119 c1_i32_748
  let v928 : BitVec 32 := Scalar.addi c0_i32_749 v927
  v928.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_396 : BitVec 32 := 16#32
  let v599 : BitVec 32 := Scalar.muli v2 c16_i32_396
  let v600 : Index := Scalar.indexCast v599
  let c0_397 : Index := 0#32
  ![v600.toNat, 0]
def k0_off32 (d0 : Dev nD) (c1_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v76 : BitVec 32 := Scalar.addi v2 c1_i32_77
  let c16_i32_78 : BitVec 32 := 16#32
  let v77 : BitVec 32 := Scalar.remsi v76 c16_i32_78
  let c16_i32_79 : BitVec 32 := 16#32
  let v78 : BitVec 32 := Scalar.muli v77 c16_i32_79
  let c0_i32_406 : BitVec 32 := 0#32
  ![v78.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_502 : BitVec 32 := 16#32
  let v724 : BitVec 32 := Scalar.muli v2 c16_i32_502
  let v725 : Index := Scalar.indexCast v724
  let c0_503 : Index := 0#32
  ![v725.toNat, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_506 : BitVec 32 := 16#32
  let v731 : BitVec 32 := Scalar.muli v2 c16_i32_506
  let c0_i32_509 : BitVec 32 := 0#32
  ![v731.toNat, 0]
def k0_dev46 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_504 : BitVec 32 := 1#32
  let v729 : BitVec 32 := Scalar.addi v2 c1_i32_504
  let c16_i32_505 : BitVec 32 := 16#32
  let v730 : BitVec 32 := Scalar.remsi v729 c16_i32_505
  let c1_i32_507 : BitVec 32 := 1#32
  let v732 : BitVec 32 := Scalar.muli v730 c1_i32_507
  let v733 : BitVec 32 := Scalar.addi c0_i32_508 v732
  v733.toNat
def k0_dev47 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_510 : BitVec 32 := 2#32
  let v735 : BitVec 32 := Scalar.addi v2 c2_i32_510
  let c16_i32_511 : BitVec 32 := 16#32
  let v736 : BitVec 32 := Scalar.remsi v735 c16_i32_511
  let c1_i32_513 : BitVec 32 := 1#32
  let v738 : BitVec 32 := Scalar.muli v736 c1_i32_513
  let v739 : BitVec 32 := Scalar.addi c0_i32_514 v738
  v739.toNat
def k0_dev48 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_516 : BitVec 32 := 3#32
  let v741 : BitVec 32 := Scalar.addi v2 c3_i32_516
  let c16_i32_517 : BitVec 32 := 16#32
  let v742 : BitVec 32 := Scalar.remsi v741 c16_i32_517
  let c1_i32_519 : BitVec 32 := 1#32
  let v744 : BitVec 32 := Scalar.muli v742 c1_i32_519
  let v745 : BitVec 32 := Scalar.addi c0_i32_520 v744
  v745.toNat
def k0_dev49 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_522 : BitVec 32 := 4#32
  let v747 : BitVec 32 := Scalar.addi v2 c4_i32_522
  let c16_i32_523 : BitVec 32 := 16#32
  let v748 : BitVec 32 := Scalar.remsi v747 c16_i32_523
  let c1_i32_525 : BitVec 32 := 1#32
  let v750 : BitVec 32 := Scalar.muli v748 c1_i32_525
  let v751 : BitVec 32 := Scalar.addi c0_i32_526 v750
  v751.toNat
def k0_dev50 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_528 : BitVec 32 := 5#32
  let v753 : BitVec 32 := Scalar.addi v2 c5_i32_528
  let c16_i32_529 : BitVec 32 := 16#32
  let v754 : BitVec 32 := Scalar.remsi v753 c16_i32_529
  let c1_i32_531 : BitVec 32 := 1#32
  let v756 : BitVec 32 := Scalar.muli v754 c1_i32_531
  let v757 : BitVec 32 := Scalar.addi c0_i32_532 v756
  v757.toNat
def k0_dev51 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_534 : BitVec 32 := 6#32
  let v759 : BitVec 32 := Scalar.addi v2 c6_i32_534
  let c16_i32_535 : BitVec 32 := 16#32
  let v760 : BitVec 32 := Scalar.remsi v759 c16_i32_535
  let c1_i32_537 : BitVec 32 := 1#32
  let v762 : BitVec 32 := Scalar.muli v760 c1_i32_537
  let v763 : BitVec 32 := Scalar.addi c0_i32_538 v762
  v763.toNat
def k0_dev52 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_540 : BitVec 32 := 7#32
  let v765 : BitVec 32 := Scalar.addi v2 c7_i32_540
  let c16_i32_541 : BitVec 32 := 16#32
  let v766 : BitVec 32 := Scalar.remsi v765 c16_i32_541
  let c1_i32_543 : BitVec 32 := 1#32
  let v768 : BitVec 32 := Scalar.muli v766 c1_i32_543
  let v769 : BitVec 32 := Scalar.addi c0_i32_544 v768
  v769.toNat
def k0_dev53 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_546 : BitVec 32 := 8#32
  let v771 : BitVec 32 := Scalar.addi v2 c8_i32_546
  let c16_i32_547 : BitVec 32 := 16#32
  let v772 : BitVec 32 := Scalar.remsi v771 c16_i32_547
  let c1_i32_549 : BitVec 32 := 1#32
  let v774 : BitVec 32 := Scalar.muli v772 c1_i32_549
  let v775 : BitVec 32 := Scalar.addi c0_i32_550 v774
  v775.toNat
def k0_dev54 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_552 : BitVec 32 := 9#32
  let v777 : BitVec 32 := Scalar.addi v2 c9_i32_552
  let c16_i32_553 : BitVec 32 := 16#32
  let v778 : BitVec 32 := Scalar.remsi v777 c16_i32_553
  let c1_i32_555 : BitVec 32 := 1#32
  let v780 : BitVec 32 := Scalar.muli v778 c1_i32_555
  let v781 : BitVec 32 := Scalar.addi c0_i32_556 v780
  v781.toNat
def k0_dev55 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_558 : BitVec 32 := 10#32
  let v783 : BitVec 32 := Scalar.addi v2 c10_i32_558
  let c16_i32_559 : BitVec 32 := 16#32
  let v784 : BitVec 32 := Scalar.remsi v783 c16_i32_559
  let c1_i32_561 : BitVec 32 := 1#32
  let v786 : BitVec 32 := Scalar.muli v784 c1_i32_561
  let v787 : BitVec 32 := Scalar.addi c0_i32_562 v786
  v787.toNat
def k0_dev56 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_564 : BitVec 32 := 11#32
  let v789 : BitVec 32 := Scalar.addi v2 c11_i32_564
  let c16_i32_565 : BitVec 32 := 16#32
  let v790 : BitVec 32 := Scalar.remsi v789 c16_i32_565
  let c1_i32_567 : BitVec 32 := 1#32
  let v792 : BitVec 32 := Scalar.muli v790 c1_i32_567
  let v793 : BitVec 32 := Scalar.addi c0_i32_568 v792
  v793.toNat
def k0_dev57 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_570 : BitVec 32 := 12#32
  let v795 : BitVec 32 := Scalar.addi v2 c12_i32_570
  let c16_i32_571 : BitVec 32 := 16#32
  let v796 : BitVec 32 := Scalar.remsi v795 c16_i32_571
  let c1_i32_573 : BitVec 32 := 1#32
  let v798 : BitVec 32 := Scalar.muli v796 c1_i32_573
  let v799 : BitVec 32 := Scalar.addi c0_i32_574 v798
  v799.toNat
def k0_dev58 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_576 : BitVec 32 := 13#32
  let v801 : BitVec 32 := Scalar.addi v2 c13_i32_576
  let c16_i32_577 : BitVec 32 := 16#32
  let v802 : BitVec 32 := Scalar.remsi v801 c16_i32_577
  let c1_i32_579 : BitVec 32 := 1#32
  let v804 : BitVec 32 := Scalar.muli v802 c1_i32_579
  let v805 : BitVec 32 := Scalar.addi c0_i32_580 v804
  v805.toNat
def k0_dev59 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_582 : BitVec 32 := 14#32
  let v807 : BitVec 32 := Scalar.addi v2 c14_i32_582
  let c16_i32_583 : BitVec 32 := 16#32
  let v808 : BitVec 32 := Scalar.remsi v807 c16_i32_583
  let c1_i32_585 : BitVec 32 := 1#32
  let v810 : BitVec 32 := Scalar.muli v808 c1_i32_585
  let v811 : BitVec 32 := Scalar.addi c0_i32_586 v810
  v811.toNat
def k0_dev60 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_588 : BitVec 32 := 15#32
  let v813 : BitVec 32 := Scalar.addi v2 c15_i32_588
  let c16_i32_589 : BitVec 32 := 16#32
  let v814 : BitVec 32 := Scalar.remsi v813 c16_i32_589
  let c1_i32_591 : BitVec 32 := 1#32
  let v816 : BitVec 32 := Scalar.muli v814 c1_i32_591
  let v817 : BitVec 32 := Scalar.addi c0_i32_592 v816
  v817.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some ((((Real.log 2) * (Real.sqrt 128))⁻¹ : ℝ) : EReal)
  | _ => none
-- ==== ReferenceIdeal.lean ====
abbrev S256x1024 : Shape := ⟨2, ![256, 1024]⟩
abbrev S1024x1024 : Shape := ⟨2, ![1024, 1024]⟩
abbrev S65536x2x128 : Shape := ⟨3, ![65536, 2, 128]⟩
abbrev S256x8x128 : Shape := ⟨3, ![256, 8, 128]⟩
abbrev S65536x2x4x128 : Shape := ⟨4, ![65536, 2, 4, 128]⟩
abbrev S65536x8x128 : Shape := ⟨3, ![65536, 8, 128]⟩
abbrev S8x256x65536 : Shape := ⟨3, ![8, 256, 65536]⟩
abbrev S_ : Shape := ⟨0, ![]⟩
abbrev S8x256 : Shape := ⟨2, ![8, 256]⟩
abbrev S8x256x1 : Shape := ⟨3, ![8, 256, 1]⟩
abbrev S8x128x256 : Shape := ⟨3, ![8, 128, 256]⟩
abbrev S256x8 : Shape := ⟨2, ![256, 8]⟩
abbrev S256x8x1 : Shape := ⟨3, ![256, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S65536x2x128, .f32⟩
  | .hbm, ⟨4, _⟩ => ⟨S65536x2x128, .f32⟩
  | .hbm, ⟨5, _⟩ => ⟨S256x1024, .f32⟩
  | .hbm, ⟨6, _⟩ => ⟨S256x8x128, .f32⟩
  | .hbm, ⟨7, _⟩ => ⟨S65536x2x4x128, .f32⟩
  | .hbm, ⟨8, _⟩ => ⟨S65536x8x128, .f32⟩
  | .hbm, ⟨9, _⟩ => ⟨S65536x2x4x128, .f32⟩
  | .hbm, ⟨10, _⟩ => ⟨S65536x8x128, .f32⟩
  | .hbm, ⟨11, _⟩ => ⟨S8x256x65536, .f32⟩
  | .hbm, ⟨12, _⟩ => ⟨S_, .f32⟩
  | .hbm, ⟨13, _⟩ => ⟨S_, .f32⟩
  | .hbm, ⟨14, _⟩ => ⟨S8x256x65536, .f32⟩
  | .hbm, ⟨15, _⟩ => ⟨S8x256x65536, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S8x256x65536, .f32⟩
  | .hbm, ⟨20, _⟩ => ⟨S8x256x65536, .f32⟩
  | .hbm, ⟨21, _⟩ => ⟨S8x256x65536, .f32⟩
  | .hbm, ⟨22, _⟩ => ⟨S8x128x256, .f32⟩
  | .hbm, ⟨23, _⟩ => ⟨S256x8x128, .f32⟩
  | .hbm, ⟨24, _⟩ => ⟨S_, .f32⟩
  | .hbm, ⟨25, _⟩ => ⟨S8x256, .f32⟩
  | .hbm, ⟨26, _⟩ => ⟨S256x8, .f32⟩
  | .hbm, ⟨27, _⟩ => ⟨S256x8x1, .f32⟩
  | .hbm, ⟨28, _⟩ => ⟨S256x8x128, .f32⟩
  | .hbm, ⟨29, _⟩ => ⟨S256x8x128, .f32⟩
  | .hbm, ⟨30, _⟩ => ⟨S256x1024, .f32⟩
  | .hbm, ⟨31, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Vals.lean ====
/- What the kernel's buffers hold: the queries, the keys and values of one device, the packed partial sums, one device's
   finished rows. Stated over any float values. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.ValueIdx
public import Idealize.ShloMosaic.Lib.Pipeline.Launch
public import Idealize.ShloMosaic.Lib.Pipeline.Kit
public import Idealize.ShloMosaic.Lib.Pipeline.DatRel
public import Idealize.ShloMosaic.Lib.Tactic

@[expose] public section

noncomputable section

namespace Cert.KernelIdeal.Run

open Cert.KernelIdeal Cert.KernelIdeal.Gen
open Idealize.ShloMosaic Idealize.ShloMosaic.TcCoe Idealize.SL.Sem
open Idealize.ShloMosaic.ValueIdx

variable {F : FTy → Type} [FloatOps F] [Named F]
variable (m : (ℓ : Loc nD τ sig) → Buf (Elt F) ℓ)

/-! ## The arguments on one device -/

def xV (c : Dev nD) : Vec F S256x1024 .f32 := m ((c : Thread nD τ).loc main_arg0)
def wqV (c : Dev nD) : Vec F S1024x1024 .f32 := m ((c : Thread nD τ).loc main_arg1)
def woV (c : Dev nD) : Vec F S1024x1024 .f32 := m ((c : Thread nD τ).loc main_arg2)
def kV (c : Dev nD) : Vec F S4096x2x128 .f32 := m ((c : Thread nD τ).loc main_arg3)
def vV (c : Dev nD) : Vec F S4096x2x128 .f32 := m ((c : Thread nD τ).loc main_arg4)

/-- The scaled queries. -/
def qb (c : Dev nD) : FVec F S256x1024 .bf16 := k0_pay1 (xV m c) (wqV m c)

/-- Column block `b` of the key/value scratch: the two key heads, then the two value heads. -/
def kvBlock (c : Dev nD) (b : ℕ) (r : Fin 4096) (j : Fin 128) : Elt F .f32 :=
  if b < 2 then kV m c (ix3 r ⟨b % 2, Nat.mod_lt _ (by decide)⟩ j) else vV m c (ix3 r ⟨b % 2, Nat.mod_lt _ (by decide)⟩ j)

/-- The key/value scratch once the four copies have landed. -/
def kvv (c : Dev nD) : Vec F S4096x512 .f32 :=
  fun i => kvBlock m c ((i 1).val / 128) (i 0) ⟨(i 1).val % 128, Nat.mod_lt _ (by decide)⟩

def kb (c : Dev nD) : FVec F S4096x256 .bf16 := k0_pay3 (kvv m c)
def vb (c : Dev nD) : FVec F S4096x256 .bf16 := k0_pay4 (kvv m c)

theorem sliceQ_ok (a : Fin 2) (h : Fin 8) : S256x1024.Slices ![128 * a.val, 128 * h.val] S128x128 := by
  revert a h; decide
theorem sliceKV_ok (h : Fin 8) : S4096x256.Slices ![0, 128 * (h.val / 4)] S4096x128 := by
  revert h; decide

/-- The queries of head `h`, rows of half `a`. -/
def qH (c : Dev nD) (a : Fin 2) (h : Fin 8) : FVec F S128x128 .bf16 :=
  extractStridedSlice S128x128 ![128 * a.val, 128 * h.val] (qb m c) (sliceQ_ok a h)
def kH (c : Dev nD) (h : Fin 8) : FVec F S4096x128 .bf16 :=
  extractStridedSlice S4096x128 ![0, 128 * (h.val / 4)] (kb m c) (sliceKV_ok h)
def vH (c : Dev nD) (h : Fin 8) : FVec F S4096x128 .bf16 :=
  extractStridedSlice S4096x128 ![0, 128 * (h.val / 4)] (vb m c) (sliceKV_ok h)

/-- The unnormalised weights. -/
def wH (q : FVec F S128x128 .bf16) (k : FVec F S4096x128 .bf16) : FVec F S128x4096 .f32 :=
  exp2 (matmul dot_S128x128_S4096x128_S128x4096_1_1_0_0_n_n none q k (constant S128x4096 .f32 0x00000000#32))

/-- Head `h`'s partial output, rows of half `a`. -/
def oH (c : Dev nD) (a : Fin 2) (h : Fin 8) : FVec F S128x128 .bf16 :=
  shapeCast S128x128 (truncf .bf16 (matmul dot_S128x4096_S4096x128_S128x128_1_0_0_1_n_n none
    (truncf .bf16 (wH (qH m c a h) (kH m c h)) bitsLt_bf16_f32) (vH m c h) (constant S128x128 .f32 0x00000000#32)) bitsLt_bf16_f32)
    shapeCasts_S128x128_S128x128

/-- Head `h`'s partial row sums, rows of half `a`. -/
def lH (c : Dev nD) (a : Fin 2) (h : Fin 8) : FVec F S128x1 .bf16 :=
  shapeCast S128x1 (truncf .bf16 (shapeCast S128x1 (multiReduction .add [1] S128 (wH (qH m c a h) (kH m c h)) 0x00000000#32
    reduces_S128x4096_S128 (.inl rfl) rfl) shapeCasts_S128_S128x1) bitsLt_bf16_f32) shapeCasts_S128x1_S128x1

/-- The packed partial sums of device `c` at a row and a column below 1032: outputs of head `h` in columns `128 h ‥`, its row sums in
    column `1024 + h`. (The columns from 1032 on are never written; the value here stands for nothing.) -/
def pk (c : Dev nD) (r : Fin 256) (col : Fin 1152) : Elt F .bf16 :=
  if h : col.val < 1024 then
    oH m c ⟨r.val / 128, by omega⟩ ⟨col.val / 128, by omega⟩ (ix2 ⟨r.val % 128, Nat.mod_lt _ (by decide)⟩ ⟨col.val % 128, Nat.mod_lt _ (by decide)⟩)
  else lH m c ⟨r.val / 128, by omega⟩ ⟨(col.val - 1024) % 8, Nat.mod_lt _ (by decide)⟩ (ix2 ⟨r.val % 128, Nat.mod_lt _ (by decide)⟩ 0)

/-! ## The reduce-scatter -/

/-- Row `i` of device `c`'s chunk. -/
def chunkRow (c : Dev nD) (i : Fin 16) : Fin 256 := ⟨16 * c.val + i.val, by have : c.val < 16 := c.isLt; omega⟩

/-- The landing buffer of device `c` holds, in slot `d`, the rows of `c`'s chunk that device `c - d` packed: in the columns that
    are ever written. -/
def Landed (c : Dev nD) (a : Vec F S16x16x1152 .bf16) : Prop :=
  ∀ (d : Fin 16) (i : Fin 16) (col : Fin 1152), col.val < 1032 → a (ix3 d i col) = pk m (c - d) (chunkRow c i) col

/-- The finished rows computed from a landing buffer. -/
def fOf (c : Dev nD) (a : Vec F S16x16x1152 .bf16) : FVec F S16x1024 .bf16 :=
  k0_pay68 (k0_pay66 a) (k0_pay67 a) (woV m c)

/-- `f` may be device `c`'s finished rows. -/
def Rows (c : Dev nD) (f : FVec F S16x1024 .bf16) : Prop := ∃ a, Landed m c a ∧ f = fOf m c a

/-- The gathered rows of all devices. -/
def gather (fs : Dev nD → FVec F S16x1024 .bf16) : Vec F S256x1024 .bf16 :=
  fun i => fs ⟨(i 0).val / 16, by have : (i 0).val < 256 := (i 0).isLt; show _ < 16; omega⟩ (ix2 ⟨(i 0).val % 16, Nat.mod_lt _ (by decide)⟩ (i 1))

/-- `out` may be the kernel's result. -/
def Out (out : Vec F S256x1024 .f32) : Prop := ∃ fs, (∀ p, Rows m p (fs p)) ∧ out = k0_pay70 (gather fs)

/-! ## The printed payloads are these -/

theorem pay_o00 (c : Dev nD) : k0_pay7 (qb m c) (kvv m c) = oH m c 0 0 := rfl
theorem pay_l00 (c : Dev nD) : k0_pay8 (k0_pay6 (qb m c) (kvv m c)) = lH m c 0 0 := rfl
theorem pay_o17 (c : Dev nD) : k0_pay63 (qb m c) (kb m c) (vb m c) = oH m c 1 7 := rfl
theorem pay_l17 (c : Dev nD) : k0_pay64 (qb m c) (kb m c) = lH m c 1 7 := rfl
theorem pay_o14 (c : Dev nD) : k0_pay52 (k0_pay48 (qb m c)) (k0_pay49 (kb m c)) (k0_pay50 (vb m c)) (constant S128x4096 .f32 0x00000000#32) = oH m c 1 4 := rfl

end Cert.KernelIdeal.Run

end
-- ==== Proof.Proto.lean ====
/- The protocol of the kernel: its cells, what each duty hands over, the levels, and what a core owes at the start. -/
module

public import proofs.«01_k».proof.Proof.Vals
public import Idealize.ShloMosaic.Lib.ShareLeaves

@[expose] public section

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Duties are distances on the ring of devices. -/
abbrev Du : Type := Fin 16

abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Cells -/

/-- The barrier semaphore, and the send and receive semaphores of the two exchanges and of the local copies. -/
abbrev barS : Sem sig := (SemArray.scalar (sig.barrier 0 rfl) : Sems sig S_).sem

/-- The six semaphores of one device. -/
abbrev csem : Fin 6 → SemLoc sig := fun
  | 0 => .reg barS
  | 1 => .dma cc0_scratch5.sem
  | 2 => .dma cc0_scratch6.sem
  | 3 => .dma cc0_scratch7.sem
  | 4 => .dma cc0_scratch8.sem
  | 5 => .dma cc0_scratch9.sem

abbrev cell (c : Dev nD) (k : Fin 6) : GSem nD τ sig := ((c : Thread nD τ), csem k)

/-- Which of the six a semaphore is; 6 when it is none of them. -/
def kd (s : SemLoc sig) : Fin 7 :=
  if s = csem 0 then 0 else if s = csem 1 then 1 else if s = csem 2 then 2 else if s = csem 3 then 3
  else if s = csem 4 then 4 else if s = csem 5 then 5 else 6

theorem kd_csem (k : Fin 6) : kd (csem k) = k.castSucc := by revert k; decide

theorem kd_eq (s : SemLoc sig) (k : Fin 6) (h : kd s = k.castSucc) : s = csem k := by
  unfold kd at h
  repeat' split at h
  all_goals first
    | (rename_i hs; rw [hs]; exact congrArg csem (Fin.castSucc_injective _ h))
    | (exfalso; have := congrArg Fin.val h; simp at this; omega)

/-- The duties of a kind of cell: every distance but zero; the four column blocks at the local copies. -/
def dut (k : Fin 7) : Finset Du := if k.val < 5 then Finset.univ.filter (fun d => d ≠ 0) else if k.val = 5 then Finset.univ.filter (fun d => d.val < 4) else ∅

/-- A credit of one slot of packed rows, of one block of finished rows, of one local copy. -/
def N1 : ℕ := (Memref.whole cc0_scratch0 : Memref sig .tc .vmem S256x1152 .bf16).view.ref.dmaCredit S16x1152 .bf16
def N2 : ℕ := (Memref.whole cc0_scratch2 : Memref sig .tc .vmem S16x1024 .bf16).view.dmaCredit
def N5 : ℕ := (Memref.whole cc0_scratch4 : Memref sig .tc .vmem S4096x512 .f32).view.ref.dmaCredit S4096x128 .f32

theorem N1_pos : 0 < N1 := sig.dmaCredit_pos _ _ _ _ _ (by decide)
theorem N2_pos : 0 < N2 := sig.dmaCredit_pos _ _ _ _ _ (by decide)
theorem N5_pos : 0 < N5 := sig.dmaCredit_pos _ _ _ _ _ (by decide)

/-- What one duty of a kind of cell adds to its counter. -/
def amt (k : Fin 7) : ℕ := if k.val = 1 ∨ k.val = 2 then N1 else if k.val = 3 ∨ k.val = 4 then N2 else if k.val = 5 then N5 else 1

theorem amt_pos (k : Fin 7) : 0 < amt k := by
  unfold amt
  repeat' split
  · exact N1_pos
  · exact N2_pos
  · exact N5_pos
  · exact Nat.one_pos

/-! ## Regions -/

/-- Slot `d` of the landing buffer. -/
def slotS (d : Du) : Finset S16x16x1152.Idx := Finset.univ.filter (fun i => (i 0).val = d.val)
/-- Device `k`'s chunk of the packed rows. -/
def chunkS (k : Dev nD) : Finset S256x1152.Idx := Finset.univ.filter (fun i => (i 0).val / 16 = k.val)
/-- Device `k`'s rows of the gathered result. -/
def rowsS (k : Dev nD) : Finset S256x1024.Idx := Finset.univ.filter (fun i => (i 0).val / 16 = k.val)
/-- Column block `b` of the key/value scratch. -/
def colS (b : Du) : Finset S4096x512.Idx := Finset.univ.filter (fun i => (i 1).val / 128 = b.val)
/-- Head `h` of the keys or values. -/
def hdS (h : ℕ) : Finset S4096x2x128.Idx := Finset.univ.filter (fun i => (i 1).val = h)

/-! ## What a duty hands over -/

/-- The signal device `c - e` sends `c`: the right to write the slot of `c - e`'s landing buffer and the rows of its gathered result
    that `c` will fill. -/
def barPay (c : Dev nD) (e : Du) : sProp 𝕄 :=
  iprop((∃ f : Vec F S16x16x1152 .bf16, ((((c - e : Dev nD) : Thread nD τ).loc cc0_scratch1) ↦[slotS (-e)]{fullShare} f))
    ∗ (∃ g : Vec F S256x1024 .bf16, ((((c - e : Dev nD) : Thread nD τ).loc cc0_scratch3) ↦[rowsS c]{fullShare} g)))

/-- The chunk of packed rows sent to `c + d` comes back. -/
def packPay (c : Dev nD) (d : Du) : sProp 𝕄 :=
  iprop(∃ f : Vec F S256x1152 .bf16, (((c : Thread nD τ).loc cc0_scratch0) ↦[chunkS (c + d)]{fullShare} f))

/-- Slot `d` of `c`'s landing buffer with the rows `c - d` packed for `c`. -/
def landPay (c : Dev nD) (d : Du) : sProp 𝕄 :=
  iprop(∃ g : Vec F S16x16x1152 .bf16, ⌜∀ (i : Fin 16) (col : Fin 1152), col.val < 1032 → g (ix3 d i col) = pk m (c - d) (chunkRow c i) col⌝
    ∗ (((c : Thread nD τ).loc cc0_scratch1) ↦[slotS d]{fullShare} g))

/-- The share of the finished rows lent to the copy to `c + d` comes back. -/
def rowPay (c : Dev nD) (d : Du) : sProp 𝕄 :=
  iprop(∃ f : Vec F S16x1024 .bf16, (((c : Thread nD τ).loc cc0_scratch2) ↦[Finset.univ]{ShareLeaves.leaf 4 fullShare d} f))

/-- The rows of `c`'s gathered result that `c - d` fills. -/
def gathPay (c : Dev nD) (d : Du) : sProp 𝕄 :=
  iprop(∃ f : Vec F S16x1024 .bf16, ⌜Rows m (c - d) f⌝
    ∗ (((c : Thread nD τ).loc cc0_scratch3) ↦[rowsS (c - d)]{fullShare} (gather (fun _ => f) : Vec F S256x1024 .bf16)))

/-- Column block `b` of the key/value scratch, and the head it was copied from. -/
def copyPay (c : Dev nD) (b : Du) : sProp 𝕄 :=
  iprop((((c : Thread nD τ).loc cc0_scratch4) ↦[colS b]{fullShare} (kvv m c : Vec F S4096x512 .f32))
    ∗ (if b.val < 2 then (((c : Thread nD τ).loc main_arg3) ↦[hdS (b.val % 2)]{fullShare} (kV m c : Vec F S4096x2x128 .f32))
      else (((c : Thread nD τ).loc main_arg4) ↦[hdS (b.val % 2)]{fullShare} (vV m c : Vec F S4096x2x128 .f32))))

/-- The payload of duty `d` of device `c`'s cell of kind `k`. -/
def pay (c : Dev nD) (k : Fin 7) (d : Du) : sProp 𝕄 :=
  match k with
  | 0 => barPay c d
  | 1 => packPay c d
  | 2 => landPay m c d
  | 3 => rowPay c d
  | 4 => gathPay m c d
  | 5 => copyPay m c d
  | _ => iprop(emp)

instance barPay_storable (c : Dev nD) (d : Du) : BI.Storable (upEmb : UEmb _ 𝕄) (barPay (F := F) c d) := by unfold barPay; infer_instance
instance packPay_storable (c : Dev nD) (d : Du) : BI.Storable (upEmb : UEmb _ 𝕄) (packPay (F := F) c d) := by unfold packPay; infer_instance
instance landPay_storable (c : Dev nD) (d : Du) : BI.Storable (upEmb : UEmb _ 𝕄) (landPay m c d) := by unfold landPay; infer_instance
instance rowPay_storable (c : Dev nD) (d : Du) : BI.Storable (upEmb : UEmb _ 𝕄) (rowPay (F := F) c d) := by unfold rowPay; infer_instance
instance gathPay_storable (c : Dev nD) (d : Du) : BI.Storable (upEmb : UEmb _ 𝕄) (gathPay m c d) := by unfold gathPay; infer_instance
instance copyPay_storable (c : Dev nD) (d : Du) : BI.Storable (upEmb : UEmb _ 𝕄) (copyPay m c d) := by
  unfold copyPay; split <;> infer_instance
instance pay_storable (c : Dev nD) (k : Fin 7) (d : Du) : BI.Storable (upEmb : UEmb _ 𝕄) (pay m c k d) := by
  unfold pay; split <;> infer_instance

/-! ## The schedule: one round -/

def Rd : Rounds.Schedule (GSem nD τ sig) Du 𝕄 where
  duties g r := if r = 0 ∧ g.1.2 = .tc then dut (kd g.2) else ∅
  unitless _ := False
  amount g _ _ := amt (kd g.2)
  payload g _ d := pay m g.1.1 (kd g.2) d
  amount_pos g _ _ _ := amt_pos _

instance Rd_payload_storable (g : GSem nD τ sig) (r : ℕ) (d : Du) : BI.Storable (upEmb : UEmb _ 𝕄) ((Rd m).payload g r d) :=
  pay_storable m g.1.1 (kd g.2) d

theorem duties_cell (c : Dev nD) (k : Fin 6) : (Rd m).duties (cell c k) 0 = dut k.castSucc := by
  have h : (Rd m).duties (cell c k) 0 = if (0 : ℕ) = 0 ∧ (cell c k).1.2 = .tc then dut (kd (csem k)) else ∅ := rfl
  rw [h, if_pos ⟨rfl, rfl⟩, kd_csem k]

theorem duties_later (g : GSem nD τ sig) : ∀ r, 1 ≤ r → (Rd m).duties g r = ∅ := fun r hr => by
  exact if_neg fun h => by omega

theorem amount_cell (c : Dev nD) (k : Fin 6) (d : Du) : (Rd m).amount (cell c k) 0 d = amt k.castSucc := congrArg amt (kd_csem k)

theorem payload_cell (c : Dev nD) (k : Fin 6) (d : Du) : (Rd m).payload (cell c k) 0 d = pay m c k.castSucc d := by
  show pay m c (kd (csem k)) d = _
  rw [kd_csem k]

theorem expect_cell (c : Dev nD) (k : Fin 6) : (Rd m).expect (cell c k) 0 = (dut k.castSucc).card * amt k.castSucc := by
  unfold Rounds.Schedule.expect Rounds.Schedule.amountOf
  rw [duties_cell, Finset.sum_congr rfl (fun d _ => amount_cell m c k d), Finset.sum_const, smul_eq_mul]

/-! ## Levels -/

def lvk (k : Fin 7) : ℕ := if k.val = 0 then 1 else if k.val = 2 then 2 else if k.val = 4 then 3 else 0

def L : GSem nD τ sig → Finset Unit := fun g => if g.1.2 = .tc then {()} else ∅
def lv : GSem nD τ sig → Unit → ℕ := fun g _ => lvk (kd g.2)

theorem L_of_tc (g : GSem nD τ sig) (h : g.1.2 = .tc) : L g = {()} := if_pos h

theorem lv_cell (c : Dev nD) (k : Fin 6) : lv (cell c k) () = lvk k.castSucc := congrArg lvk (kd_csem k)

/-- A core may wait on a cell below everything it owes. -/
theorem mayWait_of (c : Dev nD) (sm : SemLoc sig) (O : CellTallies nD τ sig Unit)
    (hO : ∀ g u, 0 < O g u → ∃ (c' : Dev nD) (k : Fin 6), g = cell c' k ∧ lvk (kd sm) < lvk k.castSucc) :
    (levAts L lv : sProp 𝕄) ⊢ MayWait (c : Thread nD τ) sm () O := by
  refine MayOwe.of_cut (L := L) (lev := lv) (lvk (kd sm))
    (fun p hp => by rw [Finset.mem_singleton.mp hp, L_of_tc _ rfl]; exact Finset.mem_singleton_self _)
    (fun g u hg => by
      obtain ⟨c', k, rfl, -⟩ := hO g u hg
      rw [L_of_tc _ rfl]; exact Finset.mem_singleton_self _)
    (fun p hp => by rw [Finset.mem_singleton.mp hp]; exact le_refl _)
    (fun g u hg => by
      obtain ⟨c', k, rfl, h⟩ := hO g u hg
      rw [lv_cell]; exact h)

/-! ## What a core owes at the start -/

/-- The distances from `n + 1` on. -/
def rem (n : ℕ) : Finset Du := Finset.univ.filter (fun d => n < d.val)

/-- What `c` owes at the cells of kind `k` at the distances in `S`. -/
def owe (c : Dev nD) (k : Fin 6) (S : Finset Du) : CellTallies nD τ sig Unit := ∑ d ∈ S, tallyAt (cell (c + d) k) () (amt k.castSucc)

def O₀ (c : Dev nD) : CellTallies nD τ sig Unit := owe c 4 (rem 0) + owe c 2 (rem 0) + owe c 0 (rem 0)

theorem owe_pos (c : Dev nD) (k : Fin 6) (S : Finset Du) (g : GSem nD τ sig) (u : Unit) (h : 0 < owe c k S g u) : ∃ c', g = cell c' k := by
  classical
  unfold owe at h
  rw [Finset.sum_apply, Finsupp.finset_sum_apply] at h
  by_contra hn
  refine absurd h (not_lt.mpr (le_of_eq (Finset.sum_eq_zero fun d _ => ?_)))
  rw [tallyAt_apply, if_neg (fun h' => hn ⟨_, h'.1⟩)]

theorem add_pos_cases (a b : CellTallies nD τ sig Unit) (g : GSem nD τ sig) (u : Unit) (h : 0 < (a + b) g u) : 0 < a g u ∨ 0 < b g u := by
  rw [Pi.add_apply, Finsupp.add_apply] at h; omega

theorem rem_succ (d : Du) (n : ℕ) (hd : d.val = n + 1) : rem n = insert d (rem (n + 1)) := by
  ext e; simp only [rem, Finset.mem_filter, Finset.mem_univ, true_and, Finset.mem_insert, Fin.ext_iff]; omega

theorem not_mem_rem (d : Du) (n : ℕ) (hd : d.val = n + 1) : d ∉ rem (n + 1) := by
  simp only [rem, Finset.mem_filter, Finset.mem_univ, true_and]; omega

theorem rem_last : rem 15 = ∅ := by decide

theorem mem_dut_of_rem (k : Fin 6) (hk : k.val < 5) (d : Du) (hd : d.val ≠ 0) : d ∈ dut k.castSucc := by
  unfold dut
  rw [if_pos (by exact hk)]
  simp only [Finset.mem_filter, Finset.mem_univ, true_and, ne_eq, Fin.ext_iff]
  exact hd

end Cert.KernelIdeal.Run

end
-- ==== Proof.Steps.lean ====
/- One step of each kind: signals, waits. -/
module

public import proofs.«01_k».proof.Proof.Proto

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

section Big
variable {I J : Type} [DecidableEq I]

theorem bs_insert {i : I} {s : Finset I} (h : i ∉ s) {Φ : I → sProp 𝕄} : bigSep (insert i s) Φ = iprop(Φ i ∗ bigSep s Φ) := bigSep_insert h
theorem bs_erase {s : Finset I} {i : I} (h : i ∈ s) {Φ : I → sProp 𝕄} : bigSep s Φ = iprop(Φ i ∗ bigSep (s.erase i) Φ) := bigSep_erase h
theorem bs_elim {s : Finset I} {i : I} (h : i ∈ s) {Φ : I → sProp 𝕄} : bigSep s Φ ⊢ Φ i := bigSep_elim h
theorem bs_union {s t : Finset I} (h : Disjoint s t) {Φ : I → sProp 𝕄} : bigSep (s ∪ t) Φ = iprop(bigSep s Φ ∗ bigSep t Φ) := bigSep_union h
theorem bs_sdiff_split {s t : Finset I} (h : t ⊆ s) {Φ : I → sProp 𝕄} : bigSep s Φ = iprop(bigSep t Φ ∗ bigSep (s \ t) Φ) := bigSep_sdiff_split h
theorem bs_sep {s : Finset I} {Φ Ψ : I → sProp 𝕄} : bigSep s (fun i => iprop(Φ i ∗ Ψ i)) = iprop(bigSep s Φ ∗ bigSep s Ψ) := bigSep_sep s Φ Ψ

end Big

abbrev 𝒱₀ : Variants := Variants.none

/-- Running `p` on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, that round 0 of every cell is reached, the levels. -/
def Ctx : sProp 𝕄 :=
  iprop((bigSep Finset.univ fun ck : Dev nD × Fin 6 => (cellInv ER (Rd m) (K ck) (cell ck.1 ck.2) : sProp 𝕄))
    ∗ (bigSep Finset.univ fun ck : Dev nD × Fin 6 => (reached ER (cell ck.1 ck.2) 0 : sProp 𝕄)) ∗ levAts L lv)

instance Ctx_persistent : BI.Persistent (Ctx m K) := by unfold Ctx; infer_instance

theorem Ctx_inv (c : Dev nD) (k : Fin 6) : Ctx m K ⊢ cellInv ER (Rd m) (K (c, k)) (cell c k) := by
  unfold Ctx; iintro ⟨H, -⟩
  iapply (bs_elim (Φ := fun ck : Dev nD × Fin 6 => (cellInv ER (Rd m) (K ck) (cell ck.1 ck.2) : sProp 𝕄)) (Finset.mem_univ (c, k))); iexact H
theorem Ctx_reached (c : Dev nD) (k : Fin 6) : Ctx m K ⊢ reached ER (cell c k) 0 := by
  unfold Ctx; iintro ⟨-, H, -⟩
  iapply (bs_elim (Φ := fun ck : Dev nD × Fin 6 => (reached ER (cell ck.1 ck.2) 0 : sProp 𝕄)) (Finset.mem_univ (c, k))); iexact H
theorem Ctx_lev : Ctx m K ⊢ (levAts L lv : sProp 𝕄) := by
  unfold Ctx; iintro ⟨-, -, H⟩; iexact H

/-- Device `c` owes `O`, whatever it has waited on. -/
def Ow (c : Dev nD) (O : CellTallies nD τ sig Unit) : sProp 𝕄 := iprop(∃ W, owes (c : Thread nD τ) O W)

/-! ## Draining a cell -/

/-- `j` waits are still to be made on device `c`'s cell of kind `k`. -/
def Coll (c : Dev nD) (k : Fin 6) (j : ℕ) : sProp 𝕄 :=
  iprop(∃ S : Finset Du, ⌜S ⊆ dut k.castSucc⌝ ∗ atPos ER (cell c k) 0 S (((dut k.castSucc).card - j) * amt k.castSucc)
    ∗ (bigSep S fun d => pay m c k.castSucc d) ∗ cred (tallyAt (cell c k) () (j * amt k.castSucc)))

/-- The cell drained: the position past the round, every payload. -/
def Done (c : Dev nD) (k : Fin 6) : sProp 𝕄 :=
  iprop(atPos ER (cell c k) 1 ∅ 0 ∗ bigSep (dut k.castSucc) fun d => pay m c k.castSucc d)

theorem coll_start (c : Dev nD) (k : Fin 6) :
    iprop(atPos ER (cell c k) 0 ∅ 0 ∗ cred (tallyAt (cell c k) () ((dut k.castSucc).card * amt k.castSucc))) ⊢ Coll m c k (dut k.castSucc).card := by
  unfold Coll
  rw [Nat.sub_self, Nat.zero_mul]
  iintro ⟨Ha, Hc⟩
  iexists ∅
  isplitr; · ipureintro; exact Finset.empty_subset _
  isplitl [Ha]; · iexact Ha
  isplitr; · rw [bigSep_empty]; iempintro
  iexact Hc

section Waits
variable {α : Type} {c : Dev nD}

/-- One wait of a drain, not the last. -/
theorem coll_step {w : TpuEff nD τ sig (Elt F) Λ₀ .tc PUnit} {k : Fin 6} {k' : ℕ}
    (hw : ∀ P : PUnit → sProp 𝕄, wpE (defs₀ (F := F)) 𝒱₀ (c : Thread nD τ) none Set.univ w P = waitSpec (c : Thread nD τ) Set.univ (csem k) k' P)
    (hk' : k' = amt k.castSucc) (O : CellTallies nD τ sig Unit) (hO : (levAts L lv : sProp 𝕄) ⊢ MayWait (c : Thread nD τ) (csem k) () O)
    (j : ℕ) (hj : j + 2 ≤ (dut k.castSucc).card) (kt : PUnit → Prog (TpuEff nD τ sig (Elt F) Λ₀ .tc) α) (Q : α → sProp 𝕄) :
    iprop(Ctx m K ∗ Coll m c k (j + 2) ∗ Ow c O) ⊢ iprop(((Coll m c k (j + 1) ∗ Ow c O) -∗ wpc c (kt ⟨⟩) Q) -∗ wpc c (.op w kt) Q) := by
  subst hk'
  unfold Coll Ow
  iintro ⟨#HC, ⟨%S, %hS, Ha, Hp, Hc⟩, ⟨%W, HO⟩⟩ Hk
  ihave #Hl := (Ctx_lev m K) $$ HC
  ihave #Hm := hO $$ Hl
  rw [show (j + 2) * amt k.castSucc = (j + 1) * amt k.castSucc + amt k.castSucc from by ring, ← tallyAt_add]
  ihave Hc := (cred_add _ _).1 $$ Hc
  icases Hc with ⟨Hc, Hc1⟩
  iapply (Rounds.wp_wait 𝒱₀ ER (Rd m) (c : Thread nD τ) none (κ := K (c, k)) hw (Set.mem_univ _) (cr := Finsupp.single () (amt k.castSucc)) (O := O) (W := W)
      {(csem k, ())} (R := 0) (m := ((dut k.castSucc).card - (j + 2)) * amt k.castSucc) (T := S) (by rw [Util.total_single]) (image_single_subset _ _ _)) $$ [HO Ha Hc1]
  · isplitr; · iapply (Ctx_inv m K c k); iexact HC
    isplitl [Hc1]; · iexact Hc1
    isplitl [HO]; · iexact HO
    isplitr; · iexact Hm
    iexact Ha
  iintro %S' ⟨%hS', HO, Ha, Hp'⟩
  iapply Hk
  isplitr [HO]
  · iexists S'
    isplitr; · ipureintro; rw [← duties_cell m c k]; exact hS'.2.1
    isplitl [Ha]
    · rw [show ((dut k.castSucc).card - (j + 1)) * amt k.castSucc = ((dut k.castSucc).card - (j + 2)) * amt k.castSucc + amt k.castSucc from by
        rw [show (dut k.castSucc).card - (j + 1) = ((dut k.castSucc).card - (j + 2)) + 1 from by omega]; ring]
      iexact Ha
    isplitl [Hp Hp']
    · rw [bs_sdiff_split hS'.1]
      isplitl [Hp]; · iexact Hp
      rw [bigSep_congr (fun d _ => (payload_cell m c k d).symm)]; iexact Hp'
    iexact Hc
  · iexists _; iexact HO

/-- The last wait of a drain. -/
theorem coll_last {w : TpuEff nD τ sig (Elt F) Λ₀ .tc PUnit} {k : Fin 6} {k' : ℕ}
    (hw : ∀ P : PUnit → sProp 𝕄, wpE (defs₀ (F := F)) 𝒱₀ (c : Thread nD τ) none Set.univ w P = waitSpec (c : Thread nD τ) Set.univ (csem k) k' P)
    (hk' : k' = amt k.castSucc) (O : CellTallies nD τ sig Unit) (hO : (levAts L lv : sProp 𝕄) ⊢ MayWait (c : Thread nD τ) (csem k) () O)
    (hj : 1 ≤ (dut k.castSucc).card) (kt : PUnit → Prog (TpuEff nD τ sig (Elt F) Λ₀ .tc) α) (Q : α → sProp 𝕄) :
    iprop(Ctx m K ∗ Coll m c k 1 ∗ Ow c O) ⊢ iprop(((Done m c k ∗ Ow c O) -∗ wpc c (kt ⟨⟩) Q) -∗ wpc c (.op w kt) Q) := by
  subst hk'
  unfold Coll Ow Done
  rw [Nat.one_mul]
  iintro ⟨#HC, ⟨%S, %hS, Ha, Hp, Hc1⟩, ⟨%W, HO⟩⟩ Hk
  ihave #Hl := (Ctx_lev m K) $$ HC
  ihave #Hm := hO $$ Hl
  iapply (Rounds.wp_wait_rest_token 𝒱₀ ER (Rd m) (c : Thread nD τ) none (κ := K (c, k)) hw (Set.mem_univ _) () (O := O) (W := W)
      (R := 0) (m := ((dut k.castSucc).card - 1) * amt k.castSucc) (T := S)
      (by rw [expect_cell, ← Nat.succ_mul]; congr 1; omega)) $$ [HO Ha Hc1]
  · isplitr; · iapply (Ctx_inv m K c k); iexact HC
    isplitl [Hc1]; · iexact Hc1
    isplitl [HO]; · iexact HO
    isplitr; · iexact Hm
    iexact Ha
  iintro ⟨HO, Ha, -, Hp'⟩
  iapply Hk
  isplitr [HO]
  · isplitl [Ha]; · iexact Ha
    rw [bs_sdiff_split hS]
    isplitl [Hp]; · iexact Hp
    rw [duties_cell, bigSep_congr (fun d _ => (payload_cell m c k d).symm)]; iexact Hp'
  · iexists _; iexact HO

/-- One wait for the whole round. -/
theorem coll_all {w : TpuEff nD τ sig (Elt F) Λ₀ .tc PUnit} {k : Fin 6} {k' : ℕ}
    (hw : ∀ P : PUnit → sProp 𝕄, wpE (defs₀ (F := F)) 𝒱₀ (c : Thread nD τ) none Set.univ w P = waitSpec (c : Thread nD τ) Set.univ (csem k) k' P)
    (hk' : k' = (dut k.castSucc).card * amt k.castSucc) (O : CellTallies nD τ sig Unit)
    (hO : (levAts L lv : sProp 𝕄) ⊢ MayWait (c : Thread nD τ) (csem k) () O)
    (kt : PUnit → Prog (TpuEff nD τ sig (Elt F) Λ₀ .tc) α) (Q : α → sProp 𝕄) :
    iprop(Ctx m K ∗ (atPos ER (cell c k) 0 ∅ 0 ∗ cred (tallyAt (cell c k) () ((dut k.castSucc).card * amt k.castSucc))) ∗ Ow c O)
      ⊢ iprop(((Done m c k ∗ Ow c O) -∗ wpc c (kt ⟨⟩) Q) -∗ wpc c (.op w kt) Q) := by
  subst hk'
  unfold Ow Done
  iintro ⟨#HC, ⟨Ha, Hc1⟩, ⟨%W, HO⟩⟩ Hk
  ihave #Hl := (Ctx_lev m K) $$ HC
  ihave #Hm := hO $$ Hl
  iapply (Rounds.wp_wait_rest_token 𝒱₀ ER (Rd m) (c : Thread nD τ) none (κ := K (c, k)) hw (Set.mem_univ _) () (O := O) (W := W)
      (R := 0) (m := 0) (T := ∅) (by rw [expect_cell, Nat.zero_add])) $$ [HO Ha Hc1]
  · isplitr; · iapply (Ctx_inv m K c k); iexact HC
    isplitl [Hc1]; · iexact Hc1
    isplitl [HO]; · iexact HO
    isplitr; · iexact Hm
    iexact Ha
  iintro ⟨HO, Ha, -, Hp'⟩
  iapply Hk
  isplitr [HO]
  · isplitl [Ha]; · iexact Ha
    rw [Finset.sdiff_empty, duties_cell, bigSep_congr (fun d _ => (payload_cell m c k d).symm)]; iexact Hp'
  · iexists _; iexact HO

end Waits

/-- A drained cell closes: its counter is zero and the core's again. -/
theorem done_close (c : Dev nD) (k : Fin 6) :
    iprop(Ctx m K ∗ atPos ER (cell c k) 1 ∅ 0) ⊢ iprop(|={Set.univ}=> semVal (cell c k) 0) := by
  iintro ⟨#HC, Ha⟩
  iapply (Rounds.cell_close ER (Rd m) (Set.mem_univ (K (c, k))) (fun h => h) (R := 0 + 1) (duties_later m (cell c k)))
  isplitr; · iapply (Ctx_inv m K c k); iexact HC
  iexact Ha

/-! ## What a core may wait for -/

theorem mw_zero (c : Dev nD) (sm : SemLoc sig) : (levAts L lv : sProp 𝕄) ⊢ MayWait (c : Thread nD τ) sm () 0 := by
  rw [MayWait_zero]; iintro -; iempintro

/-- Owing cells of the two exchanges only, of levels above the waited cell's. -/
theorem mw_owe (c : Dev nD) (sm : SemLoc sig) (S₄ S₂ S₀ : Finset Du) (h4 : lvk (kd sm) < 3) (h2 : S₂ = ∅ ∨ lvk (kd sm) < 2) (h0 : S₀ = ∅ ∨ lvk (kd sm) < 1) :
    (levAts L lv : sProp 𝕄) ⊢ MayWait (c : Thread nD τ) sm () (owe c 4 S₄ + owe c 2 S₂ + owe c 0 S₀) := by
  refine mayWait_of c sm _ fun g u hg => ?_
  rcases add_pos_cases _ _ g u hg with hg | hg
  · rcases add_pos_cases _ _ g u hg with hg | hg
    · obtain ⟨c', rfl⟩ := owe_pos c 4 S₄ g u hg; exact ⟨c', 4, rfl, h4⟩
    · rcases h2 with rfl | h2
      · simp [owe] at hg
      · obtain ⟨c', rfl⟩ := owe_pos c 2 S₂ g u hg; exact ⟨c', 2, rfl, h2⟩
  · rcases h0 with rfl | h0
    · simp [owe] at hg
    · obtain ⟨c', rfl⟩ := owe_pos c 0 S₀ g u hg; exact ⟨c', 0, rfl, h0⟩

theorem owe_empty (c : Dev nD) (k : Fin 6) : owe c k ∅ = 0 := Finset.sum_empty
theorem owe_insert (c : Dev nD) (k : Fin 6) (d : Du) (S : Finset Du) (h : d ∉ S) :
    owe c k (insert d S) = owe c k S + tallyAt (cell (c + d) k) () (amt k.castSucc) := by
  unfold owe; rw [Finset.sum_insert h, add_comm]

/-! ## The opening signals -/

/-- Before signal `n + 1`: what is owed, and the duties' tokens and payloads still to be handed over. -/
def SigSt (c : Dev nD) (n : ℕ) : sProp 𝕄 :=
  iprop(Ow c (owe c 4 (rem 0) + owe c 2 (rem 0) + owe c 0 (rem n))
    ∗ bigSep (rem n) fun d => iprop(dutyTok ER (cell (c + d) 0) 0 d ∗ barPay (F := F) (c + d) d))

theorem pay_zero (c : Dev nD) (d : Du) : pay m c (Fin.castSucc (0 : Fin 6)) d = barPay c d := rfl
theorem pay_one (c : Dev nD) (d : Du) : pay m c (Fin.castSucc (1 : Fin 6)) d = packPay c d := rfl
theorem pay_two (c : Dev nD) (d : Du) : pay m c (Fin.castSucc (2 : Fin 6)) d = landPay m c d := rfl
theorem pay_three (c : Dev nD) (d : Du) : pay m c (Fin.castSucc (3 : Fin 6)) d = rowPay c d := rfl
theorem pay_four (c : Dev nD) (d : Du) : pay m c (Fin.castSucc (4 : Fin 6)) d = gathPay m c d := rfl
theorem pay_five (c : Dev nD) (d : Du) : pay m c (Fin.castSucc (5 : Fin 6)) d = copyPay m c d := rfl

theorem sig_step {α : Type} (c : Dev nD) (d : Du) (n : ℕ) (hd : d.val = n + 1) (dst : Dev nD) (hdst : dst = c + d) (k' : ℕ) (hk' : k' = 1)
    (kt : PUnit → Prog (TpuEff nD τ sig (Elt F) Λ₀ .tc) α) (Q : α → sProp 𝕄) :
    iprop(Ctx m K ∗ SigSt c n) ⊢ iprop((SigSt c (n + 1) -∗ wpc c (kt ⟨⟩) Q) -∗ wpc c (.op (.semSignal (dst : Thread nD τ) barS k') kt) Q) := by
  subst hdst hk'
  unfold SigSt Ow
  rw [rem_succ d n hd, bs_insert (not_mem_rem d n hd), owe_insert _ _ _ _ (not_mem_rem d n hd), ← add_assoc]
  iintro ⟨#HC, ⟨%W, HO⟩, ⟨Ht, Hp⟩, Hr⟩ Hk
  iapply (Rounds.wp_signal 𝒱₀ ER (Rd m) (c : Thread nD τ) none (dst := ((c + d : Dev nD) : Thread nD τ)) (sem := barS) (r := 0) (κ := K (c + d, 0))
      (d := d) (by rw [duties_cell m (c + d) 0]; exact mem_dut_of_rem 0 (by decide) d (by omega)) (amount_cell m (c + d) 0 d) ()
      (owe c 4 (rem 0) + owe c 2 (rem 0) + owe c 0 (rem (n + 1))) rfl) $$ [HO Ht Hp]
  · isplitr; · iapply (Ctx_inv m K (c + d) 0); iexact HC
    isplitl [HO]; · iexact HO
    isplitl [Ht]; · iexact Ht
    isplitl [Hp]; · rw [payload_cell m (c + d) 0 d, pay_zero]; iexact Hp
    iapply (Ctx_reached m K (c + d) 0); iexact HC
  iintro HO
  iapply Hk
  isplitl [HO]; · iexists W; iexact HO
  iexact Hr

end Cert.KernelIdeal.Run

end
-- ==== Proof.Views.lean ====
/- What the kernel's slices cover, read and write. -/
module

public import proofs.«01_k».proof.Proof.Steps

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-! ## Reading and writing through slices of whole buffers -/

theorem unit_emb_val {s : Shape} (off size : Fin s.rank → ℕ) (inb) (j : (Rect.unit (s := s) off size inb).shape.Idx) (a : Fin s.rank) :
    ((Rect.unit (s := s) off size inb).emb j a).val = off a + (j a).val := by
  show off a + 1 * (j a).val = _; rw [Nat.one_mul]

section Slice
variable {Val : EltTy → Type} {κ : Kind} {sp : Space} {s : Shape} {e : EltTy}

theorem write_hit (v : View sig κ sp s e) (f : v.ty.Contents Val) (w : s.Idx → Val e) (j : s.Idx) (i : v.ty.Idx) (h : v.emb j = i) :
    v.write Val f w Finset.univ i = _root_.cast (congrArg Val v.elt_eq.symm) (w j) := by
  subst h; exact View.write_emb_of_mem _ _ (Finset.mem_univ j)

end Slice

/-! ## The packed rows while they are written -/

/-- The first `n` stores of half `a` have been made: outputs at even, row sums at odd steps. -/
def AgrN (c : Dev nD) (a n : ℕ) (f : Vec F S256x1152 .bf16) : Prop :=
  ∀ (r : Fin 256) (col : Fin 1152), r.val / 128 = a →
    (col.val < 1024 → col.val / 128 * 2 < n → f (ix2 r col) = pk m c r col)
    ∧ (1024 ≤ col.val → col.val < 1032 → (col.val - 1024) * 2 + 1 < n → f (ix2 r col) = pk m c r col)

def halfS (a : ℕ) : Finset S256x1152.Idx := Finset.univ.filter (fun i => (i 0).val / 128 = a)

theorem agr_o (c : Dev nD) (a : Fin 2) (h : Fin 8) (f : Vec F S256x1152 .bf16) (off : Fin 2 → ℕ) (hoff : off = ![128 * a.val, 128 * h.val])
    (inb) (hf : AgrN m c a (2 * h.val) f) :
    AgrN m c a (2 * h.val + 1) (((View.whole cc0_scratch0).slice (Rect.unit (s := S256x1152) off S128x128.size inb)).write (Elt F) f (oH m c a h) Finset.univ) := by
  subst hoff
  intro r col hr
  have hr' : r.val < 256 := r.isLt
  refine ⟨fun hc hn => ?_, fun h1 h2 hn => ?_⟩
  · by_cases hh : col.val / 128 = h.val
    · refine Eq.trans (write_hit _ _ _ (ix2 ⟨r.val % 128, Nat.mod_lt _ (by decide)⟩ ⟨col.val % 128, Nat.mod_lt _ (by decide)⟩) _ (by
        funext b; refine Fin.ext ?_
        match b with
        | ⟨0, _⟩ => show 128 * a.val + 1 * (r.val % 128) = r.val; omega
        | ⟨1, _⟩ => show 128 * h.val + 1 * (col.val % 128) = col.val; omega)) ?_
      unfold pk
      rw [dif_pos hc]
      have e1 : (⟨r.val / 128, by omega⟩ : Fin 2) = a := Fin.ext hr
      have e2 : (⟨col.val / 128, by omega⟩ : Fin 8) = h := Fin.ext hh
      rw [e1, e2]; rfl
    · rw [View.write_of_not_mem]
      · exact (hf r col hr).1 hc (by omega)
      · intro hm
        rw [View.setOn_univ, View.set_slice_whole, Rect.mem_set_unit] at hm
        have := hm 1
        have h3 : 128 * h.val ≤ col.val ∧ col.val < 128 * h.val + 128 := this
        omega
  · rw [View.write_of_not_mem]
    · exact (hf r col hr).2 h1 h2 (by omega)
    · intro hm
      rw [View.setOn_univ, View.set_slice_whole, Rect.mem_set_unit] at hm
      have := hm 1
      have h3 : 128 * h.val ≤ col.val ∧ col.val < 128 * h.val + 128 := this
      omega

theorem agr_l (c : Dev nD) (a : Fin 2) (h : Fin 8) (f : Vec F S256x1152 .bf16) (off : Fin 2 → ℕ) (hoff : off = ![128 * a.val, 1024 + h.val])
    (inb) (hf : AgrN m c a (2 * h.val + 1) f) :
    AgrN m c a (2 * h.val + 2) (((View.whole cc0_scratch0).slice (Rect.unit (s := S256x1152) off S128x1.size inb)).write (Elt F) f (lH m c a h) Finset.univ) := by
  subst hoff
  intro r col hr
  have hr' : r.val < 256 := r.isLt
  refine ⟨fun hc hn => ?_, fun h1 h2 hn => ?_⟩
  · rw [View.write_of_not_mem]
    · exact (hf r col hr).1 hc (by omega)
    · intro hm
      rw [View.setOn_univ, View.set_slice_whole, Rect.mem_set_unit] at hm
      have := hm 1
      have h3 : 1024 + h.val ≤ col.val ∧ col.val < 1024 + h.val + 1 := this
      omega
  · by_cases hh : col.val - 1024 = h.val
    · refine Eq.trans (write_hit _ _ _ (ix2 ⟨r.val % 128, Nat.mod_lt _ (by decide)⟩ (0 : Fin 1)) _ (by
        funext b; refine Fin.ext ?_
        match b with
        | ⟨0, _⟩ => show 128 * a.val + 1 * (r.val % 128) = r.val; omega
        | ⟨1, _⟩ => show 1024 + h.val + 1 * 0 = col.val; omega)) ?_
      unfold pk
      rw [dif_neg (by omega)]
      have e1 : (⟨r.val / 128, by omega⟩ : Fin 2) = a := Fin.ext hr
      have e2 : (⟨(col.val - 1024) % 8, Nat.mod_lt _ (by decide)⟩ : Fin 8) = h := Fin.ext (by show (col.val - 1024) % 8 = h.val; omega)
      rw [e1, e2]; rfl
    · rw [View.write_of_not_mem]
      · exact (hf r col hr).2 h1 h2 (by omega)
      · intro hm
        rw [View.setOn_univ, View.set_slice_whole, Rect.mem_set_unit] at hm
        have := hm 1
        have h3 : 1024 + h.val ≤ col.val ∧ col.val < 1024 + h.val + 1 := this
        omega

/-! ## The element sets of the transfers -/

theorem set_chunk (k : Dev nD) (off : Fin 2 → ℕ) (hoff : off = ![16 * k.val, 0]) (inb) :
    ((View.whole cc0_scratch0).slice (Rect.unit (s := S256x1152) off S16x1152.size inb)).set = chunkS k := by
  subst hoff
  rw [View.set_slice_whole]; ext i
  rw [Rect.mem_set_unit]
  simp only [chunkS, Finset.mem_filter, Finset.mem_univ, true_and]
  have h1 : (i 1).val < 1152 := (i 1).isLt
  constructor
  · intro h; have h0 : 16 * k.val ≤ (i 0).val ∧ (i 0).val < 16 * k.val + 16 := h 0; omega
  · intro h a
    match a with
    | ⟨0, _⟩ => show 16 * k.val ≤ (i 0).val ∧ (i 0).val < 16 * k.val + 16; omega
    | ⟨1, _⟩ => show 0 ≤ (i 1).val ∧ (i 1).val < 0 + 1152; omega

theorem set_rows (k : Dev nD) (off : Fin 2 → ℕ) (hoff : off = ![16 * k.val, 0]) (inb) :
    ((View.whole cc0_scratch3).slice (Rect.unit (s := S256x1024) off S16x1024.size inb)).set = rowsS k := by
  subst hoff
  rw [View.set_slice_whole]; ext i
  rw [Rect.mem_set_unit]
  simp only [rowsS, Finset.mem_filter, Finset.mem_univ, true_and]
  have h1 : (i 1).val < 1024 := (i 1).isLt
  constructor
  · intro h; have h0 : 16 * k.val ≤ (i 0).val ∧ (i 0).val < 16 * k.val + 16 := h 0; omega
  · intro h a
    match a with
    | ⟨0, _⟩ => show 16 * k.val ≤ (i 0).val ∧ (i 0).val < 16 * k.val + 16; omega
    | ⟨1, _⟩ => show 0 ≤ (i 1).val ∧ (i 1).val < 0 + 1024; omega

theorem set_slot0 (d : Du) (off : Fin 3 → ℕ) (hoff : off = ![d.val, 0, 0]) (inb) :
    ((View.whole cc0_scratch1).slice (Rect.unit (s := S16x16x1152) off S1x16x1152.size inb)).set = slotS d := by
  subst hoff
  rw [View.set_slice_whole]; ext i
  rw [Rect.mem_set_unit]
  simp only [slotS, Finset.mem_filter, Finset.mem_univ, true_and]
  have h1 : (i 1).val < 16 := (i 1).isLt
  have h2 : (i 2).val < 1152 := (i 2).isLt
  constructor
  · intro h; have h0 : d.val ≤ (i 0).val ∧ (i 0).val < d.val + 1 := h 0; omega
  · intro h a
    match a with
    | ⟨0, _⟩ => show d.val ≤ (i 0).val ∧ (i 0).val < d.val + 1; omega
    | ⟨1, _⟩ => show 0 ≤ (i 1).val ∧ (i 1).val < 0 + 16; omega
    | ⟨2, _⟩ => show 0 ≤ (i 2).val ∧ (i 2).val < 0 + 1152; omega

theorem set_slot (d : Du) (off : Fin 3 → ℕ) (hoff : off = ![d.val, 0, 0]) (inb) (hsq) :
    (((View.whole cc0_scratch1).slice (Rect.unit (s := S16x16x1152) off S1x16x1152.size inb)).reshape S16x1152 hsq).set = slotS d := by
  rw [View.set_reshape, set_slot0 d off hoff]

theorem set_col (b : Du) (hb : b.val < 4) (off : Fin 2 → ℕ) (hoff : off = ![0, 128 * b.val]) (inb) :
    ((View.whole cc0_scratch4).slice (Rect.unit (s := S4096x512) off S4096x128.size inb)).set = colS b := by
  subst hoff
  rw [View.set_slice_whole]; ext i
  rw [Rect.mem_set_unit]
  simp only [colS, Finset.mem_filter, Finset.mem_univ, true_and]
  have h1 : (i 0).val < 4096 := (i 0).isLt
  constructor
  · intro h; have h0 : 128 * b.val ≤ (i 1).val ∧ (i 1).val < 128 * b.val + 128 := h 1; omega
  · intro h a
    match a with
    | ⟨0, _⟩ => show 0 ≤ (i 0).val ∧ (i 0).val < 0 + 4096; omega
    | ⟨1, _⟩ => show 128 * b.val ≤ (i 1).val ∧ (i 1).val < 128 * b.val + 128; omega

theorem mem_head (h : ℕ) (off : Fin 3 → ℕ) (hoff : off = ![0, h, 0]) (inb) :
    (Rect.unit (s := S4096x2x128) off S4096x1x128.size inb).set = hdS h := by
  subst hoff; ext i
  rw [Rect.mem_set_unit]
  simp only [hdS, Finset.mem_filter, Finset.mem_univ, true_and]
  have h1 : (i 0).val < 4096 := (i 0).isLt
  have h2 : (i 2).val < 128 := (i 2).isLt
  constructor
  · intro h'; have h0 : h ≤ (i 1).val ∧ (i 1).val < h + 1 := h' 1; omega
  · intro h' a
    match a with
    | ⟨0, _⟩ => show 0 ≤ (i 0).val ∧ (i 0).val < 0 + 4096; omega
    | ⟨1, _⟩ => show h ≤ (i 1).val ∧ (i 1).val < h + 1; omega
    | ⟨2, _⟩ => show 0 ≤ (i 2).val ∧ (i 2).val < 0 + 128; omega

theorem set_head3 (h : ℕ) (off : Fin 3 → ℕ) (hoff : off = ![0, h, 0]) (inb) (hsq) :
    (((View.whole main_arg3).slice (Rect.unit (s := S4096x2x128) off S4096x1x128.size inb)).reshape S4096x128 hsq).set = hdS h := by
  rw [View.set_reshape, View.set_slice_whole]; exact mem_head h off hoff inb
theorem set_head4 (h : ℕ) (off : Fin 3 → ℕ) (hoff : off = ![0, h, 0]) (inb) (hsq) :
    (((View.whole main_arg4).slice (Rect.unit (s := S4096x2x128) off S4096x1x128.size inb)).reshape S4096x128 hsq).set = hdS h := by
  rw [View.set_reshape, View.set_slice_whole]; exact mem_head h off hoff inb

/-! ## Dropping a unit axis -/

theorem drop_lead (hsq : S16x1152.numel = S1x16x1152.numel) (i : Fin 16) (col : Fin 1152) :
    Shape.reshapeEquiv hsq (ix2 i col) = (ix3 (0 : Fin 1) i col : S1x16x1152.Idx) :=
  Shape.reshapeEquiv_eq_of_rowMajor _ (by rw [Shape.rowMajor_val_two, Shape.rowMajor_val_three]; show (0 * 16 + i.val) * 1152 + col.val = i.val * 1152 + col.val; omega)

theorem drop_mid (hsq : S4096x128.numel = S4096x1x128.numel) (i : Fin 4096) (j : Fin 128) :
    Shape.reshapeEquiv hsq (ix2 i j) = (ix3 i (0 : Fin 1) j : S4096x1x128.Idx) :=
  Shape.reshapeEquiv_eq_of_rowMajor _ (by rw [Shape.rowMajor_val_two, Shape.rowMajor_val_three]; show (i.val * 1 + 0) * 128 + j.val = i.val * 128 + j.val; omega)

/-! ## What the transfers write -/

/-- A slot after rows `16 k ‥` of the packed buffer were copied into it. -/
theorem slot_val (k : Dev nD) (d : Du) (soff : Fin 2 → ℕ) (hsoff : soff = ![16 * k.val, 0]) (sinb)
    (off : Fin 3 → ℕ) (hoff : off = ![d.val, 0, 0]) (inb) (hsq) (fd : Vec F S16x16x1152 .bf16) (fs : Vec F S256x1152 .bf16) (i : Fin 16) (col : Fin 1152) :
    (((View.whole cc0_scratch1).slice (Rect.unit (s := S16x16x1152) off S1x16x1152.size inb)).reshape S16x1152 hsq).write (Elt F) fd
      (((View.whole cc0_scratch0).slice (Rect.unit (s := S256x1152) soff S16x1152.size sinb)).read (Elt F) fs) Finset.univ (ix3 d i col)
      = fs (ix2 (chunkRow k i) col) := by
  subst hoff hsoff
  refine Eq.trans (write_hit _ _ _ (ix2 i col) _ (by
    show (Rect.unit (s := S16x16x1152) _ S1x16x1152.size inb).emb (Shape.reshapeEquiv hsq (ix2 i col)) = _
    rw [drop_lead]
    funext b; refine Fin.ext ?_
    match b with
    | ⟨0, _⟩ => show d.val + 1 * 0 = d.val; omega
    | ⟨1, _⟩ => show 0 + 1 * i.val = i.val; omega
    | ⟨2, _⟩ => show 0 + 1 * col.val = col.val; omega)) ?_
  rw [View.read_apply]
  show fs _ = fs _
  congr 1
  funext b; refine Fin.ext ?_
  match b with
  | ⟨0, _⟩ => show 16 * k.val + 1 * i.val = 16 * k.val + i.val; omega
  | ⟨1, _⟩ => show 0 + 1 * col.val = col.val; omega

/-- A column block of the key/value scratch after a head was copied into it, read on its own elements. -/
theorem col_val3 (b : Du) (h : ℕ) (hh : h < 2) (off : Fin 2 → ℕ) (hoff : off = ![0, 128 * b.val]) (inb) (soff : Fin 3 → ℕ) (hsoff : soff = ![0, h, 0]) (sinb) (hsq)
    (fd : Vec F S4096x512 .f32) (fs : Vec F S4096x2x128 .f32) (r : Fin 4096) (j : Fin 128) (col : Fin 512) (hcol : col.val = 128 * b.val + j.val) :
    ((View.whole cc0_scratch4).slice (Rect.unit (s := S4096x512) off S4096x128.size inb)).write (Elt F) fd
      ((((View.whole main_arg3).slice (Rect.unit (s := S4096x2x128) soff S4096x1x128.size sinb)).reshape S4096x128 hsq).read (Elt F) fs) Finset.univ (ix2 r col)
      = fs (ix3 r ⟨h, hh⟩ j) := by
  subst hoff hsoff
  refine Eq.trans (write_hit _ _ _ (ix2 r j) _ (by
    funext b'; refine Fin.ext ?_
    match b' with
    | ⟨0, _⟩ => show 0 + 1 * r.val = r.val; omega
    | ⟨1, _⟩ => show 128 * b.val + 1 * j.val = col.val; omega)) ?_
  rw [View.read_apply]
  show fs ((Rect.unit (s := S4096x2x128) _ S4096x1x128.size sinb).emb (Shape.reshapeEquiv hsq (ix2 r j))) = fs _
  rw [drop_mid]
  congr 1
  funext b'; refine Fin.ext ?_
  match b' with
  | ⟨0, _⟩ => show 0 + 1 * r.val = r.val; omega
  | ⟨1, _⟩ => show h + 1 * 0 = h; omega
  | ⟨2, _⟩ => show 0 + 1 * j.val = j.val; omega

theorem col_val4 (b : Du) (h : ℕ) (hh : h < 2) (off : Fin 2 → ℕ) (hoff : off = ![0, 128 * b.val]) (inb) (soff : Fin 3 → ℕ) (hsoff : soff = ![0, h, 0]) (sinb) (hsq)
    (fd : Vec F S4096x512 .f32) (fs : Vec F S4096x2x128 .f32) (r : Fin 4096) (j : Fin 128) (col : Fin 512) (hcol : col.val = 128 * b.val + j.val) :
    ((View.whole cc0_scratch4).slice (Rect.unit (s := S4096x512) off S4096x128.size inb)).write (Elt F) fd
      ((((View.whole main_arg4).slice (Rect.unit (s := S4096x2x128) soff S4096x1x128.size sinb)).reshape S4096x128 hsq).read (Elt F) fs) Finset.univ (ix2 r col)
      = fs (ix3 r ⟨h, hh⟩ j) :=
  col_val3 b h hh off hoff inb soff hsoff sinb hsq fd fs r j col hcol

/-- The rows of device `k` after its finished rows were copied into them. -/
theorem rows_val (k : Dev nD) (off : Fin 2 → ℕ) (hoff : off = ![16 * k.val, 0]) (inb) (fd : Vec F S256x1024 .bf16) (w : Vec F S16x1024 .bf16)
    (i : S256x1024.Idx) (hi : i ∈ rowsS k) :
    ((View.whole cc0_scratch3).slice (Rect.unit (s := S256x1024) off S16x1024.size inb)).write (Elt F) fd w Finset.univ i
      = gather (fun _ => w) i := by
  subst hoff
  simp only [rowsS, Finset.mem_filter, Finset.mem_univ, true_and] at hi
  refine Eq.trans (write_hit _ _ _ (ix2 ⟨(i 0).val % 16, Nat.mod_lt _ (by decide)⟩ (i 1)) _ (by
    funext b; refine Fin.ext ?_
    match b with
    | ⟨0, _⟩ => show 16 * k.val + 1 * ((i 0).val % 16) = (i 0).val; omega
    | ⟨1, _⟩ => show 0 + 1 * (i 1).val = (i 1).val; omega)) ?_
  rfl

end Cert.KernelIdeal.Run

end
-- ==== Proof.Sends.lean ====
/- The local copies and the stores of packed rows, each as one step. -/
module

public import proofs.«01_k».proof.Proof.Views

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

theorem amt_one : amt (Fin.castSucc (1 : Fin 6)) = N1 := rfl
theorem amt_two : amt (Fin.castSucc (2 : Fin 6)) = N1 := rfl
theorem amt_three : amt (Fin.castSucc (3 : Fin 6)) = N2 := rfl
theorem amt_four : amt (Fin.castSucc (4 : Fin 6)) = N2 := rfl
theorem amt_five : amt (Fin.castSucc (5 : Fin 6)) = N5 := rfl

/-- A points-to on a view's own elements, at the set they are known to be. -/
theorem pt_on {sp : Space} {S : Shape} {e : EltTy} (t : Thread nD τ) (v : View sig t.2.kind sp S e) (I : Finset (Idx (v.loc t))) (h : v.set = I) (q : PosShare TreeShare) (f : Buf (Elt F) (v.loc t)) :
    ((v.loc t ↦[v.set]{q} f) : sProp 𝕄) ⊢ (v.loc t ↦[I]{q} f) := by rw [h]

theorem pt_off {sp : Space} {S : Shape} {e : EltTy} (t : Thread nD τ) (v : View sig t.2.kind sp S e) (I : Finset (Idx (v.loc t))) (h : v.set = I) (q : PosShare TreeShare) (f : Buf (Elt F) (v.loc t)) :
    ((v.loc t ↦[I]{q} f) : sProp 𝕄) ⊢ (v.loc t ↦[v.set]{q} f) := by rw [h]

/-- The same with the contents read through a second buffer agreeing on those elements. -/
theorem pt_on' {sp : Space} {S : Shape} {e : EltTy} (t : Thread nD τ) (v : View sig t.2.kind sp S e) (I : Finset (Idx (v.loc t))) (h : v.set = I) (q : PosShare TreeShare) (f g : Buf (Elt F) (v.loc t))
    (hfg : ∀ i ∈ I, f i = g i) :
    ((v.loc t ↦[v.set]{q} f) : sProp 𝕄) ⊢ (v.loc t ↦[I]{q} g) := by
  rw [h]; exact Entails.of_eq (pointsTo_congr hfg)

theorem add_sub_ring (c d : Dev nD) : (c + d) - d = c := add_sub_cancel_right c d

/-! ## The local copies -/

theorem copy_val3 (c : Dev nD) (b : Du) (hb : b.val < 2) (off : Fin 2 → ℕ) (hoff : off = ![0, 128 * b.val]) (inb)
    (soff : Fin 3 → ℕ) (hsoff : soff = ![0, b.val % 2, 0]) (sinb) (hsq) (fd : Vec F S4096x512 .f32) (i : S4096x512.Idx) (hi : i ∈ colS b) :
    ((View.whole cc0_scratch4).slice (Rect.unit (s := S4096x512) off S4096x128.size inb)).write (Elt F) fd
      ((((View.whole main_arg3).slice (Rect.unit (s := S4096x2x128) soff S4096x1x128.size sinb)).reshape S4096x128 hsq).read (Elt F) (kV m c)) Finset.univ i
      = kvv m c i := by
  simp only [colS, Finset.mem_filter, Finset.mem_univ, true_and] at hi
  have hi1 : (i 1).val < 512 := (i 1).isLt
  have e : i = ix2 (i 0) (i 1) := eq_ix2 i
  rw [e]
  refine Eq.trans (col_val3 b (b.val % 2) (by omega) off hoff inb soff hsoff sinb hsq fd (kV m c) (i 0) ⟨(i 1).val % 128, Nat.mod_lt _ (by decide)⟩ (i 1) (by show (i 1).val = 128 * b.val + (i 1).val % 128; omega)) ?_
  show _ = kvBlock m c ((i 1).val / 128) (i 0) ⟨(i 1).val % 128, _⟩
  unfold kvBlock
  rw [if_pos (by omega)]
  congr 2
  exact Fin.ext (by show b.val % 2 = (i 1).val / 128 % 2; rw [hi])

theorem copy_val4 (c : Dev nD) (b : Du) (hb : ¬ b.val < 2) (off : Fin 2 → ℕ) (hoff : off = ![0, 128 * b.val]) (inb)
    (soff : Fin 3 → ℕ) (hsoff : soff = ![0, b.val % 2, 0]) (sinb) (hsq) (fd : Vec F S4096x512 .f32) (i : S4096x512.Idx) (hi : i ∈ colS b) :
    ((View.whole cc0_scratch4).slice (Rect.unit (s := S4096x512) off S4096x128.size inb)).write (Elt F) fd
      ((((View.whole main_arg4).slice (Rect.unit (s := S4096x2x128) soff S4096x1x128.size sinb)).reshape S4096x128 hsq).read (Elt F) (vV m c)) Finset.univ i
      = kvv m c i := by
  simp only [colS, Finset.mem_filter, Finset.mem_univ, true_and] at hi
  have hi1 : (i 1).val < 512 := (i 1).isLt
  have e : i = ix2 (i 0) (i 1) := eq_ix2 i
  rw [e]
  refine Eq.trans (col_val4 b (b.val % 2) (by omega) off hoff inb soff hsoff sinb hsq fd (vV m c) (i 0) ⟨(i 1).val % 128, Nat.mod_lt _ (by decide)⟩ (i 1) (by show (i 1).val = 128 * b.val + (i 1).val % 128; omega)) ?_
  show _ = kvBlock m c ((i 1).val / 128) (i 0) ⟨(i 1).val % 128, _⟩
  unfold kvBlock
  rw [if_neg (by omega)]
  congr 2
  exact Fin.ext (by show b.val % 2 = (i 1).val / 128 % 2; rw [hi])

/-- A column block of the gathered keys and values. -/
abbrev colM (off : Fin 2 → ℕ) (inb : ∀ a, off a + S4096x128.size a ≤ S4096x512.size a) : Memref sig .tc .vmem S4096x128 .f32 :=
  (Memref.whole cc0_scratch4 : Memref sig .tc .vmem S4096x512 .f32).slice (Rect.unit (s := S4096x512) off S4096x128.size inb) (fun _ => rfl)
/-- A head of the device's keys. -/
abbrev keyM (soff : Fin 3 → ℕ) (sinb : ∀ a, soff a + S4096x1x128.size a ≤ S4096x2x128.size a) : Memref sig .tc .hbm S4096x128 .f32 :=
  ((Memref.whole main_arg3 : Memref sig .tc .hbm S4096x2x128 .f32).slice (Rect.unit (s := S4096x2x128) soff S4096x1x128.size sinb) (fun _ => rfl)).squeeze S4096x128 squeezes_S4096x1x128_S4096x128
/-- A head of the device's values. -/
abbrev valM (soff : Fin 3 → ℕ) (sinb : ∀ a, soff a + S4096x1x128.size a ≤ S4096x2x128.size a) : Memref sig .tc .hbm S4096x128 .f32 :=
  ((Memref.whole main_arg4 : Memref sig .tc .hbm S4096x2x128 .f32).slice (Rect.unit (s := S4096x2x128) soff S4096x1x128.size sinb) (fun _ => rfl)).squeeze S4096x128 squeezes_S4096x1x128_S4096x128

section Copies
variable {α : Type} (c : Dev nD) (b : Du)

theorem copy3 (hb : b.val < 2) (off : Fin 2 → ℕ) (hoff : off = ![0, 128 * b.val]) (inb)
    (soff : Fin 3 → ℕ) (hsoff : soff = ![0, b.val % 2, 0]) (sinb) {hsrc} {hdst} {hsem}
    (kt : PUnit → Prog (TpuEff nD τ sig (Elt F) Λ₀ .tc) α) (Q : α → sProp 𝕄) :
    iprop(Ctx m K ∗ dutyTok ER (cell c 5) 0 b ∗ (∃ f : Vec F S4096x512 .f32, ((c : Thread nD τ).loc cc0_scratch4) ↦[colS b]{fullShare} f)
        ∗ (((c : Thread nD τ).loc main_arg3) ↦[hdS (b.val % 2)]{fullShare} (kV m c : Vec F S4096x2x128 .f32)))
      ⊢ iprop((cred (tallyAt (cell c 5) () (amt (Fin.castSucc (5 : Fin 6)))) -∗ wpc c (kt ⟨⟩) Q)
        -∗ wpc c (.op (.enqueueDma (keyM soff sinb)
            (.here (colM off inb)) (.dma cc0_scratch9.sem) hsrc hdst hsem) kt) Q) := by
  iintro ⟨#HC, Ht, ⟨%fd, Hd⟩, Hs⟩ Hk
  iapply (Rounds.wp_copy_pointsTo 𝒱₀ ER (Rd m) (c : Thread nD τ) none (κ := K (c, 5)) (r := 0) (d := b) (q := fullShare) (fs := kV m c) (fd := fd)
    (by rw [duties_cell m c 5]; simp [dut]; omega) () (amt (Fin.castSucc (5 : Fin 6))) rfl (amount_cell m c 5 b) (by
      rw [payload_cell m c 5 b, pay_five]
      unfold copyPay
      rw [if_pos hb]
      exact BIClass.sep_mono (pt_on' c.tc (colM off inb).view (colS b) (set_col b (by omega) off hoff inb) _ _ _ (fun i hi => copy_val3 m c b hb off hoff inb soff hsoff sinb _ fd i hi))
        (pt_on c.tc (keyM soff sinb).view (hdS (b.val % 2)) (set_head3 (b.val % 2) soff hsoff sinb _) _ _))) $$ [Ht Hd Hs]
  · isplitr; · iapply (Ctx_inv m K c 5); iexact HC
    isplitl [Hs]; · iapply (pt_off c.tc (keyM soff sinb).view (hdS (b.val % 2)) (set_head3 (b.val % 2) soff hsoff sinb _) _ _); iexact Hs
    isplitl [Hd]; · iapply (pt_off c.tc (colM off inb).view (colS b) (set_col b (by omega) off hoff inb) _ _); iexact Hd
    isplitl [Ht]; · iexact Ht
    iapply (Ctx_reached m K c 5); iexact HC
  iexact Hk

theorem copy4 (hb : ¬ b.val < 2) (hb4 : b.val < 4) (off : Fin 2 → ℕ) (hoff : off = ![0, 128 * b.val]) (inb)
    (soff : Fin 3 → ℕ) (hsoff : soff = ![0, b.val % 2, 0]) (sinb) {hsrc} {hdst} {hsem}
    (kt : PUnit → Prog (TpuEff nD τ sig (Elt F) Λ₀ .tc) α) (Q : α → sProp 𝕄) :
    iprop(Ctx m K ∗ dutyTok ER (cell c 5) 0 b ∗ (∃ f : Vec F S4096x512 .f32, ((c : Thread nD τ).loc cc0_scratch4) ↦[colS b]{fullShare} f)
        ∗ (((c : Thread nD τ).loc main_arg4) ↦[hdS (b.val % 2)]{fullShare} (vV m c : Vec F S4096x2x128 .f32)))
      ⊢ iprop((cred (tallyAt (cell c 5) () (amt (Fin.castSucc (5 : Fin 6)))) -∗ wpc c (kt ⟨⟩) Q)
        -∗ wpc c (.op (.enqueueDma (valM soff sinb)
            (.here (colM off inb)) (.dma cc0_scratch9.sem) hsrc hdst hsem) kt) Q) := by
  iintro ⟨#HC, Ht, ⟨%fd, Hd⟩, Hs⟩ Hk
  iapply (Rounds.wp_copy_pointsTo 𝒱₀ ER (Rd m) (c : Thread nD τ) none (κ := K (c, 5)) (r := 0) (d := b) (q := fullShare) (fs := vV m c) (fd := fd)
    (by rw [duties_cell m c 5]; simp [dut]; omega) () (amt (Fin.castSucc (5 : Fin 6))) rfl (amount_cell m c 5 b) (by
      rw [payload_cell m c 5 b, pay_five]
      unfold copyPay
      rw [if_neg hb]
      exact BIClass.sep_mono (pt_on' c.tc (colM off inb).view (colS b) (set_col b hb4 off hoff inb) _ _ _ (fun i hi => copy_val4 m c b hb off hoff inb soff hsoff sinb _ fd i hi))
        (pt_on c.tc (valM soff sinb).view (hdS (b.val % 2)) (set_head4 (b.val % 2) soff hsoff sinb _) _ _))) $$ [Ht Hd Hs]
  · isplitr; · iapply (Ctx_inv m K c 5); iexact HC
    isplitl [Hs]; · iapply (pt_off c.tc (valM soff sinb).view (hdS (b.val % 2)) (set_head4 (b.val % 2) soff hsoff sinb _) _ _); iexact Hs
    isplitl [Hd]; · iapply (pt_off c.tc (colM off inb).view (colS b) (set_col b hb4 off hoff inb) _ _); iexact Hd
    isplitl [Ht]; · iexact Ht
    iapply (Ctx_reached m K c 5); iexact HC
  iexact Hk

end Copies

/-! ## The packed rows -/

/-- Half `a` of the packed rows after `n` stores. -/
def PackSt (c : Dev nD) (a n : ℕ) : sProp 𝕄 :=
  iprop(∃ f : Vec F S256x1152 .bf16, ⌜AgrN m c a n f⌝ ∗ (((c : Thread nD τ).loc cc0_scratch0) ↦[halfS a]{fullShare} f))

theorem sub_half (a : ℕ) (s0 s1 : ℕ) (off : Fin 2 → ℕ) (x : ℕ) (hoff : off = ![128 * a, x]) (hs : s0 = 128) (inb) :
    (Rect.unit (s := S256x1152) off ![s0, s1] inb).set ⊆ halfS a := by
  subst hoff hs
  intro i hi
  rw [Rect.mem_set_unit] at hi
  have h0 : 128 * a ≤ (i 0).val ∧ (i 0).val < 128 * a + 128 := hi 0
  simp only [halfS, Finset.mem_filter, Finset.mem_univ, true_and]
  omega

section Pack
variable {α : Type} (c : Dev nD)

/-- A load of packed rows whose value is not used. -/
theorem pack_load (a n : ℕ) (off : Fin 2 → ℕ) (sz : Fin 2 → ℕ) (inb) {hl} (x s1 : ℕ) (hoff : off = ![128 * a, x]) (hsz : sz = ![128, s1])
    (kt : Vec F ⟨2, sz⟩ .bf16 → Prog (TpuEff nD τ sig (Elt F) Λ₀ .tc) α) (Q : α → sProp 𝕄) :
    PackSt m c a n
      ⊢ iprop((∀ v, PackSt m c a n -∗ wpc c (kt v) Q)
        -∗ wpc c (.op (.load (Memref.whole cc0_scratch0 : Memref sig .tc .vmem S256x1152 .bf16) (Rect.unit (s := S256x1152) off sz inb).toLoadRect hl) kt) Q) := by
  subst hsz
  unfold PackSt
  iintro ⟨%f, %hf, Hp⟩ Hk
  iapply (wp_load 𝒱₀ (c : Thread nD τ) none Set.univ (m := (Memref.whole cc0_scratch0 : Memref sig .tc .vmem S256x1152 .bf16))
    (r := (Rect.unit (s := S256x1152) off ![128, s1] inb).toLoadRect) (S := halfS a) (by
      refine Finset.Subset.trans ?_ (sub_half a 128 s1 off x hoff rfl inb)
      intro i hi
      obtain ⟨j, hj, rfl⟩ := Finset.mem_map.mp hi
      exact hj)) $$ Hp
  iintro Hp
  iapply Hk
  iexists f
  isplitr; · ipureintro; exact hf
  iexact Hp

/-- The store of head `h`'s partial output. -/
theorem pack_o (a : Fin 2) (h : Fin 8) (n : ℕ) (hn : n = 2 * h.val) (off : Fin 2 → ℕ) (inb) {hx} {hm} (hoff : off = ![128 * a.val, 128 * h.val])
    (w : Vec F S128x128 .bf16) (hw : w = oH m c a h)
    (kt : PUnit → Prog (TpuEff nD τ sig (Elt F) Λ₀ .tc) α) (Q : α → sProp 𝕄) :
    PackSt m c a.val n
      ⊢ iprop((PackSt m c a.val (n + 1) -∗ wpc c (kt ⟨⟩) Q)
        -∗ wpc c (.op (.store (Memref.whole cc0_scratch0 : Memref sig .tc .vmem S256x1152 .bf16) (Rect.unit (s := S256x1152) off S128x128.size inb) w Finset.univ hx hm) kt) Q) := by
  subst hn hw
  unfold PackSt
  iintro ⟨%f, %hf, Hp⟩ Hk
  iapply (wp_store 𝒱₀ (c : Thread nD τ) none Set.univ (m := (Memref.whole cc0_scratch0 : Memref sig .tc .vmem S256x1152 .bf16))
    (r := Rect.unit (s := S256x1152) off S128x128.size inb) (w := oH m c a h) (Mk := Finset.univ) (S := halfS a.val) (f := f) (by
      rw [View.setOn_univ]
      refine Finset.Subset.trans ?_ (sub_half a.val 128 128 off _ hoff rfl inb)
      intro i hi
      have := hi
      rw [show _ = _ from View.set_slice_whole cc0_scratch0 (Rect.unit (s := S256x1152) off S128x128.size inb)] at this
      exact this)) $$ Hp
  iintro Hp
  iapply Hk
  iexists _
  isplitr; · ipureintro; exact agr_o m c a h f off hoff inb hf
  iexact Hp

/-- The store of head `h`'s row sums. -/
theorem pack_l (a : Fin 2) (h : Fin 8) (n : ℕ) (hn : n = 2 * h.val + 1) (off : Fin 2 → ℕ) (inb) {hx} {hm} (hoff : off = ![128 * a.val, 1024 + h.val])
    (w : Vec F S128x1 .bf16) (hw : w = lH m c a h)
    (kt : PUnit → Prog (TpuEff nD τ sig (Elt F) Λ₀ .tc) α) (Q : α → sProp 𝕄) :
    PackSt m c a.val n
      ⊢ iprop((PackSt m c a.val (n + 1) -∗ wpc c (kt ⟨⟩) Q)
        -∗ wpc c (.op (.store (Memref.whole cc0_scratch0 : Memref sig .tc .vmem S256x1152 .bf16) (Rect.unit (s := S256x1152) off S128x1.size inb) w Finset.univ hx hm) kt) Q) := by
  subst hn hw
  unfold PackSt
  iintro ⟨%f, %hf, Hp⟩ Hk
  iapply (wp_store 𝒱₀ (c : Thread nD τ) none Set.univ (m := (Memref.whole cc0_scratch0 : Memref sig .tc .vmem S256x1152 .bf16))
    (r := Rect.unit (s := S256x1152) off S128x1.size inb) (w := lH m c a h) (Mk := Finset.univ) (S := halfS a.val) (f := f) (by
      rw [View.setOn_univ]
      refine Finset.Subset.trans ?_ (sub_half a.val 128 1 off _ hoff rfl inb)
      intro i hi
      have := hi
      rw [show _ = _ from View.set_slice_whole cc0_scratch0 (Rect.unit (s := S256x1152) off S128x1.size inb)] at this
      exact this)) $$ Hp
  iintro Hp
  iapply Hk
  iexists _
  isplitr; · ipureintro; exact agr_l m c a h f off hoff inb hf
  iexact Hp

end Pack

end Cert.KernelIdeal.Run

end
-- ==== Proof.Remote.lean ====
/- The sends of both exchanges, each as one step. -/
module

public import proofs.«01_k».proof.Proof.Sends

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-- A chunk of packed rows. -/
abbrev chunkM (off : Fin 2 → ℕ) (inb : ∀ a, off a + S16x1152.size a ≤ S256x1152.size a) : Memref sig .tc .vmem S16x1152 .bf16 :=
  (Memref.whole cc0_scratch0 : Memref sig .tc .vmem S256x1152 .bf16).slice (Rect.unit (s := S256x1152) off S16x1152.size inb) (fun _ => rfl)
/-- A slot of the landing buffer. -/
abbrev slotM (off : Fin 3 → ℕ) (inb : ∀ a, off a + S1x16x1152.size a ≤ S16x16x1152.size a) : Memref sig .tc .vmem S16x1152 .bf16 :=
  ((Memref.whole cc0_scratch1 : Memref sig .tc .vmem S16x16x1152 .bf16).slice (Rect.unit (s := S16x16x1152) off S1x16x1152.size inb) (fun _ => rfl)).squeeze S16x1152 squeezes_S1x16x1152_S16x1152
/-- A device's rows of the gathered result. -/
abbrev rowM (off : Fin 2 → ℕ) (inb : ∀ a, off a + S16x1024.size a ≤ S256x1024.size a) : Memref sig .tc .vmem S16x1024 .bf16 :=
  (Memref.whole cc0_scratch3 : Memref sig .tc .vmem S256x1024 .bf16).slice (Rect.unit (s := S256x1024) off S16x1024.size inb) (fun _ => rfl)

/-- The packed rows of chunk `j`, complete. -/
def packC (c j : Dev nD) : sProp 𝕄 :=
  iprop(∃ f : Vec F S256x1152 .bf16, ⌜∀ (i : Fin 16) (col : Fin 1152), col.val < 1032 → f (ix2 (chunkRow j i) col) = pk m c (chunkRow j i) col⌝
    ∗ (((c : Thread nD τ).loc cc0_scratch0) ↦[chunkS j]{fullShare} f))

/-- What sending the chunk for `c + d` uses besides the rows. -/
def sendItem1 (c : Dev nD) (d : Du) : sProp 𝕄 :=
  iprop(dutyTok ER (cell c 1) 0 d ∗ dutyTok ER (cell (c + d) 2) 0 d
    ∗ (∃ g : Vec F S16x16x1152 .bf16, (((c + d : Dev nD) : Thread nD τ).loc cc0_scratch1) ↦[slotS d]{fullShare} g))

/-- What sending the finished rows to `c + d` uses. -/
def sendItem2 (c : Dev nD) (f : Vec F S16x1024 .bf16) (d : Du) : sProp 𝕄 :=
  iprop(dutyTok ER (cell c 3) 0 d ∗ dutyTok ER (cell (c + d) 4) 0 d
    ∗ (∃ g : Vec F S256x1024 .bf16, (((c + d : Dev nD) : Thread nD τ).loc cc0_scratch3) ↦[rowsS c]{fullShare} g)
    ∗ (((c : Thread nD τ).loc cc0_scratch2) ↦[Finset.univ]{ShareLeaves.leaf 4 fullShare d} f))

section Remote
variable {α : Type} (c : Dev nD) (d : Du)

theorem mem_dut_pos (k : Fin 7) (hk : k.val < 5) (hd : d.val ≠ 0) : d ∈ dut k := by
  unfold dut
  rw [if_pos hk]
  simp only [Finset.mem_filter, Finset.mem_univ, true_and]
  intro h; exact hd (by rw [h]; rfl)

/-- One send of a chunk of packed rows. -/
theorem send1 (hd : d.val ≠ 0) (dst : Dev nD) (hdst : dst = c + d) (soff : Fin 2 → ℕ) (hsoff : soff = ![16 * (c + d : Dev nD).val, 0]) (sinb)
    (off : Fin 3 → ℕ) (hoff : off = ![d.val, 0, 0]) (inb) {hsc} {hsrc} {hdstw} {hsem}
    (O₁ O : CellTallies nD τ sig Unit) (hO : O₁ = O + tallyAt (cell (c + d) 2) () (amt (Fin.castSucc (2 : Fin 6))))
    (kt : PUnit → Prog (TpuEff nD τ sig (Elt F) Λ₀ .tc) α) (Q : α → sProp 𝕄) :
    iprop(Ctx m K ∗ sendItem1 c d ∗ packC m c (c + d) ∗ Ow c O₁)
      ⊢ iprop(((cred (tallyAt (cell c 1) () (amt (Fin.castSucc (1 : Fin 6)))) ∗ Ow c O) -∗ wpc c (kt ⟨⟩) Q)
        -∗ wpc c (.op (.enqueueDma (chunkM soff sinb) (.remote (Dev.tc dst) (slotM off inb) (.dma cc0_scratch5.sem) hsc) (.dma cc0_scratch6.sem) hsrc hdstw hsem) kt) Q) := by
  subst hdst
  unfold sendItem1 packC Ow
  iintro ⟨#HC, ⟨Ht1, Ht2, ⟨%fd, Hd⟩⟩, ⟨%fs, %hfs, Hs⟩, ⟨%W, HO⟩⟩ Hk
  iapply (Rounds.wp_send_pointsTo 𝒱₀ ER (Rd m) (c : Thread nD τ) none (src := chunkM soff sinb) (dst := slotM off inb) (c' := ((c + d : Dev nD) : Thread nD τ)) (κ₁ := K (c, 1)) (κ₂ := K (c + d, 2)) (r₁ := 0) (r₂ := 0) (d₁ := d) (d₂ := d) (q := fullShare) (fs := fs) (fd := fd)
    (by rw [duties_cell m c 1]; exact mem_dut_pos d _ (by decide) hd) (by rw [duties_cell m (c + d) 2]; exact mem_dut_pos d _ (by decide) hd)
    () () (amt (Fin.castSucc (2 : Fin 6))) rfl (amount_cell m c 1 d) (amount_cell m (c + d) 2 d) O hO
    (by
      rw [payload_cell m c 1 d, pay_one]
      refine (pt_on c.tc (chunkM soff sinb).view (chunkS (c + d)) (set_chunk (c + d) soff hsoff sinb) _ _).trans ?_
      unfold packPay
      iintro H; iexists fs; iexact H)
    (by
      rw [payload_cell m (c + d) 2 d, pay_two]
      refine (pt_on (c + d : Dev nD).tc (slotM off inb).view (slotS d) (set_slot d off hoff inb _) _ _).trans ?_
      unfold landPay
      iintro H; iexists ((slotM off inb).view.write (Elt F) fd ((chunkM soff sinb).view.read (Elt F) fs) Finset.univ)
      isplitr
      · ipureintro
        intro i col hc
        rw [add_sub_ring]
        exact Eq.trans (slot_val (c + d) d soff hsoff sinb off hoff inb squeezes_S1x16x1152_S16x1152.numel_eq fd fs i col) (hfs i col hc)
      iexact H)) $$ [Ht1 Ht2 Hd Hs HO]
  · isplitr; · iapply (Ctx_inv m K c 1); iexact HC
    isplitr; · iapply (Ctx_inv m K (c + d) 2); iexact HC
    isplitl [Hs]; · iapply (pt_off c.tc (chunkM soff sinb).view (chunkS (c + d)) (set_chunk (c + d) soff hsoff sinb) _ _); iexact Hs
    isplitl [Hd]; · iapply (pt_off (c + d : Dev nD).tc (slotM off inb).view (slotS d) (set_slot d off hoff inb _) _ _); iexact Hd
    isplitl [HO]; · iexact HO
    isplitl [Ht1]; · iexact Ht1
    isplitr; · iapply (Ctx_reached m K c 1); iexact HC
    isplitl [Ht2]; · iexact Ht2
    iapply (Ctx_reached m K (c + d) 2); iexact HC
  iintro ⟨Hc, HO⟩
  iapply Hk
  isplitl [Hc]; · iexact Hc
  iexists W; iexact HO

/-- One send of the finished rows. -/
theorem send2 (f : Vec F S16x1024 .bf16) (hf : Rows m c f) (hd : d.val ≠ 0) (dst : Dev nD) (hdst : dst = c + d)
    (off : Fin 2 → ℕ) (hoff : off = ![16 * c.val, 0]) (inb) {hsc} {hsrc} {hdstw} {hsem}
    (O₁ O : CellTallies nD τ sig Unit) (hO : O₁ = O + tallyAt (cell (c + d) 4) () (amt (Fin.castSucc (4 : Fin 6))))
    (kt : PUnit → Prog (TpuEff nD τ sig (Elt F) Λ₀ .tc) α) (Q : α → sProp 𝕄) :
    iprop(Ctx m K ∗ sendItem2 c f d ∗ Ow c O₁)
      ⊢ iprop(((cred (tallyAt (cell c 3) () (amt (Fin.castSucc (3 : Fin 6)))) ∗ Ow c O) -∗ wpc c (kt ⟨⟩) Q)
        -∗ wpc c (.op (.enqueueDma (Memref.whole cc0_scratch2 : Memref sig .tc .vmem S16x1024 .bf16) (.remote (Dev.tc dst) (rowM off inb) (.dma cc0_scratch7.sem) hsc) (.dma cc0_scratch8.sem) hsrc hdstw hsem) kt) Q) := by
  subst hdst
  unfold sendItem2 Ow
  iintro ⟨#HC, ⟨Ht1, Ht2, ⟨%fd, Hd⟩, Hs⟩, ⟨%W, HO⟩⟩ Hk
  iapply (Rounds.wp_send_pointsTo 𝒱₀ ER (Rd m) (c : Thread nD τ) none (src := (Memref.whole cc0_scratch2 : Memref sig .tc .vmem S16x1024 .bf16)) (dst := rowM off inb) (c' := ((c + d : Dev nD) : Thread nD τ)) (κ₁ := K (c, 3)) (κ₂ := K (c + d, 4)) (r₁ := 0) (r₂ := 0) (d₁ := d) (d₂ := d) (q := ShareLeaves.leaf 4 fullShare d) (fs := f) (fd := fd)
    (by rw [duties_cell m c 3]; exact mem_dut_pos d _ (by decide) hd) (by rw [duties_cell m (c + d) 4]; exact mem_dut_pos d _ (by decide) hd)
    () () (amt (Fin.castSucc (4 : Fin 6))) rfl (amount_cell m c 3 d) (amount_cell m (c + d) 4 d) O hO
    (by
      rw [payload_cell m c 3 d, pay_three]
      refine (pt_on c.tc (Memref.whole cc0_scratch2 : Memref sig .tc .vmem S16x1024 .bf16).view Finset.univ (View.set_whole _) _ _).trans ?_
      unfold rowPay
      iintro H; iexists f; iexact H)
    (by
      rw [payload_cell m (c + d) 4 d, pay_four]
      unfold gathPay
      rw [add_sub_ring]
      refine (pt_on' (c + d : Dev nD).tc (rowM off inb).view (rowsS c) (set_rows c off hoff inb) _ _ (gather (fun _ => f) : Vec F S256x1024 .bf16) (fun i hi => rows_val c off hoff inb fd f i hi)).trans ?_
      iintro H; iexists f
      isplitr
      · ipureintro; exact hf
      iexact H)) $$ [Ht1 Ht2 Hd Hs HO]
  · isplitr; · iapply (Ctx_inv m K c 3); iexact HC
    isplitr; · iapply (Ctx_inv m K (c + d) 4); iexact HC
    isplitl [Hs]; · iapply (pt_off c.tc (Memref.whole cc0_scratch2 : Memref sig .tc .vmem S16x1024 .bf16).view Finset.univ (View.set_whole _) _ _); iexact Hs
    isplitl [Hd]; · iapply (pt_off (c + d : Dev nD).tc (rowM off inb).view (rowsS c) (set_rows c off hoff inb) _ _); iexact Hd
    isplitl [HO]; · iexact HO
    isplitl [Ht1]; · iexact Ht1
    isplitr; · iapply (Ctx_reached m K c 3); iexact HC
    isplitl [Ht2]; · iexact Ht2
    iapply (Ctx_reached m K (c + d) 4); iexact HC
  iintro ⟨Hc, HO⟩
  iapply Hk
  isplitl [Hc]; · iexact Hc
  iexists W; iexact HO

end Remote

/-! ## The two runs of conditional sends -/

/-- The offsets whose chunk is still unsent, at send `n` of half `h`. -/
def Unsent (c : Dev nD) (h n : ℕ) : Finset Du :=
  Finset.univ.filter fun d => 0 < d.val ∧ (h < (c + d : Dev nD).val / 8 ∨ ((c + d : Dev nD).val / 8 = h ∧ n < d.val))

/-- The offsets of half `h` whose packed chunk is still here. -/
def Mine (c : Dev nD) (h n : ℕ) : Finset Du :=
  Finset.univ.filter fun d => (c + d : Dev nD).val / 8 = h ∧ (n < d.val ∨ d.val = 0)

def SendSt (c : Dev nD) (h n : ℕ) : sProp 𝕄 :=
  iprop(Ow c (owe c 4 (rem 0) + owe c 2 (Unsent c h n) + owe c 0 ∅) ∗ (bigSep (Unsent c h n) fun d => sendItem1 c d)
    ∗ (bigSep (Mine c h n) fun d => packC m c (c + d))
    ∗ cred (tallyAt (cell c 1) () ((15 - (Unsent c h n).card) * amt (Fin.castSucc (1 : Fin 6)))))

theorem unsent_card (c : Dev nD) (h n : ℕ) : (Unsent c h n).card ≤ 15 := by
  have : Unsent c h n ⊆ Finset.univ.erase (0 : Du) := by
    intro d hd
    simp only [Unsent, Finset.mem_filter, Finset.mem_univ, true_and] at hd
    rw [Finset.mem_erase]
    exact ⟨fun h0 => by rw [h0] at hd; exact absurd hd.1 (by decide), Finset.mem_univ _⟩
  exact (Finset.card_le_card this).trans (by decide)

section Cond
variable {α : Type} (c : Dev nD) (h n : ℕ) (d : Du)

theorem unsent_hit (hd : d.val = n + 1) (hh : (c + d : Dev nD).val / 8 = h) :
    d ∉ Unsent c h (n + 1) ∧ Unsent c h n = insert d (Unsent c h (n + 1)) := by
  constructor
  · simp only [Unsent, Finset.mem_filter, Finset.mem_univ, true_and]; omega
  · ext e
    simp only [Unsent, Finset.mem_insert, Finset.mem_filter, Finset.mem_univ, true_and]
    constructor
    · rintro ⟨h0, h1⟩
      by_cases he : e = d
      · exact Or.inl he
      · have : e.val ≠ d.val := fun hv => he (Fin.ext hv)
        exact Or.inr ⟨h0, by omega⟩
    · rintro (rfl | ⟨h0, h1⟩)
      · exact ⟨by omega, by omega⟩
      · exact ⟨h0, by omega⟩

theorem mine_hit (hd : d.val = n + 1) (hh : (c + d : Dev nD).val / 8 = h) :
    d ∉ Mine c h (n + 1) ∧ Mine c h n = insert d (Mine c h (n + 1)) := by
  constructor
  · simp only [Mine, Finset.mem_filter, Finset.mem_univ, true_and]; omega
  · ext e
    simp only [Mine, Finset.mem_insert, Finset.mem_filter, Finset.mem_univ, true_and]
    constructor
    · rintro ⟨h0, h1⟩
      by_cases he : e = d
      · exact Or.inl he
      · have : e.val ≠ d.val := fun hv => he (Fin.ext hv)
        exact Or.inr ⟨h0, by omega⟩
    · rintro (rfl | ⟨h0, h1⟩)
      · exact ⟨by omega, by omega⟩
      · exact ⟨h0, by omega⟩

theorem unsent_miss (hd : d.val = n + 1) (hh : ¬ (c + d : Dev nD).val / 8 = h) : Unsent c h (n + 1) = Unsent c h n := by
  ext e
  simp only [Unsent, Finset.mem_filter, Finset.mem_univ, true_and]
  have : e.val = d.val → (c + e : Dev nD).val = (c + d : Dev nD).val := fun hv => by rw [Fin.ext hv]
  omega

theorem mine_miss (hd : d.val = n + 1) (hh : ¬ (c + d : Dev nD).val / 8 = h) : Mine c h (n + 1) = Mine c h n := by
  ext e
  simp only [Mine, Finset.mem_filter, Finset.mem_univ, true_and]
  have : e.val = d.val → (c + e : Dev nD).val = (c + d : Dev nD).val := fun hv => by rw [Fin.ext hv]
  omega

/-- One conditional send: taken when the chunk's half is this one. -/
theorem send1_cond (hd : d.val = n + 1) (b : BitVec 1) (hb : b = 1#1 ↔ (c + d : Dev nD).val / 8 = h)
    (p : b = 1#1 → Prog (TpuEff nD τ sig (Elt F) Λ₀ .tc) PUnit)
    (kt : PUnit → Prog (TpuEff nD τ sig (Elt F) Λ₀ .tc) α) (Q : α → sProp 𝕄)
    (hp : ∀ hh : b = 1#1, ∀ O₁ O : CellTallies nD τ sig Unit, O₁ = O + tallyAt (cell (c + d) 2) () (amt (Fin.castSucc (2 : Fin 6))) →
      iprop(Ctx m K ∗ sendItem1 c d ∗ packC m c (c + d) ∗ Ow c O₁)
      ⊢ iprop(((cred (tallyAt (cell c 1) () (amt (Fin.castSucc (1 : Fin 6)))) ∗ Ow c O) -∗ wpc c (kt ⟨⟩) Q) -∗ wpc c (p hh >>= kt) Q)) :
    iprop(Ctx m K ∗ SendSt m c h n)
      ⊢ iprop((SendSt m c h (n + 1) -∗ wpc c (kt ⟨⟩) Q) -∗ wpc c ((if hh : b = 1#1 then p hh else pure ⟨⟩) >>= kt) Q) := by
  by_cases hh : b = 1#1
  · rw [dif_pos hh]
    obtain ⟨hu, hu'⟩ := unsent_hit c h n d hd (hb.mp hh)
    obtain ⟨hm, hm'⟩ := mine_hit c h n d hd (hb.mp hh)
    unfold SendSt
    have hcard : (15 - (Unsent c h (n + 1)).card) * amt (Fin.castSucc (1 : Fin 6)) = (15 - (Unsent c h n).card) * amt (Fin.castSucc (1 : Fin 6)) + amt (Fin.castSucc (1 : Fin 6)) := by
      have h1 := unsent_card c h n
      rw [hu', Finset.card_insert_of_notMem hu] at h1 ⊢
      rw [← Nat.succ_mul]; congr 1; omega
    rw [hcard, hu', hm', bs_insert hu, bs_insert hm, ← hu', ← tallyAt_add]
    iintro ⟨#HC, HO, ⟨Hi, Hir⟩, ⟨Hm, Hmr⟩, Hc⟩ Hk
    iapply (hp hh (owe c 4 (rem 0) + owe c 2 (Unsent c h n) + owe c 0 ∅) (owe c 4 (rem 0) + owe c 2 (Unsent c h (n + 1)) + owe c 0 ∅)
      (by rw [hu', owe_insert _ _ _ _ hu, owe_empty]; simp only [add_zero, add_assoc])) $$ [Hi Hm HO]
    · isplitr; · iexact HC
      isplitl [Hi]; · iexact Hi
      isplitl [Hm]; · iexact Hm
      iexact HO
    iintro ⟨Hc', HO⟩
    iapply Hk
    isplitl [HO]; · iexact HO
    isplitl [Hir]; · iexact Hir
    isplitl [Hmr]; · iexact Hmr
    iapply (cred_add _ _).2
    isplitl [Hc]; · iexact Hc
    iexact Hc'
  · rw [dif_neg hh]
    have hn : ¬ (c + d : Dev nD).val / 8 = h := fun e => hh (hb.mpr e)
    unfold SendSt
    rw [unsent_miss c h n d hd hn, mine_miss c h n d hd hn]
    show _ ⊢ iprop(_ -∗ wpc c (kt ⟨⟩) Q)
    iintro ⟨#HC, H⟩ Hk
    iapply Hk; iexact H

/-- The same, the rest of the program written after either branch. -/
theorem send1_if (hd : d.val = n + 1) (b : BitVec 1) (hb : b = 1#1 ↔ (c + d : Dev nD).val / 8 = h)
    (dst : b = 1#1 → Dev nD) (hdst : ∀ hh, dst hh = c + d) (soff : Fin 2 → ℕ) (hsoff : soff = ![16 * (c + d : Dev nD).val, 0])
    (sinb : b = 1#1 → ∀ a, soff a + S16x1152.size a ≤ S256x1152.size a)
    (off : Fin 3 → ℕ) (hoff : off = ![d.val, 0, 0]) (inb)
    {hsc : ∀ hh, (slotM off inb : Memref sig (Dev.tc (dst hh) : Thread nD τ).2.kind .vmem S16x1152 .bf16).view.ref.isScScratch = false}
    {hsrc : ∀ hh, (chunkM soff (sinb hh)).view.WordExact} {hdstw : (b = 1#1) → (slotM off inb).view.WordExact}
    {hsem : ∀ hh, DmaTarget.Typed .vmem (.dma cc0_scratch6.sem) (.remote (Dev.tc (dst hh) : Thread nD τ) (slotM off inb) (.dma cc0_scratch5.sem) (hsc hh))}
    (k : Prog (TpuEff nD τ sig (Elt F) Λ₀ .tc) α) (Q : α → sProp 𝕄) :
    iprop(Ctx m K ∗ SendSt m c h n)
      ⊢ iprop((SendSt m c h (n + 1) -∗ wpc c k Q) -∗ wpc c (if hh : b = 1#1 then
          .op (.enqueueDma (chunkM soff (sinb hh)) (.remote (Dev.tc (dst hh)) (slotM off inb) (.dma cc0_scratch5.sem) (hsc hh)) (.dma cc0_scratch6.sem) (hsrc hh) (hdstw hh) (hsem hh)) (fun _ => k)
        else k) Q) := by
  have hp := send1_cond m K c h n d hd b hb (fun hh =>
      .op (.enqueueDma (chunkM soff (sinb hh)) (.remote (Dev.tc (dst hh)) (slotM off inb) (.dma cc0_scratch5.sem) (hsc hh)) (.dma cc0_scratch6.sem) (hsrc hh) (hdstw hh) (hsem hh)) .ret)
    (fun _ => k) Q (fun hh O₁ O hO => send1 m K c d (by omega) (dst hh) (hdst hh) soff hsoff (sinb hh) off hoff inb O₁ O hO (fun _ => k) Q)
  by_cases hh : b = 1#1
  · rw [dif_pos hh] at hp ⊢; exact hp
  · rw [dif_neg hh] at hp ⊢; exact hp

end Cond

/-- Half 0's sends over, the sends of half 1 remain. -/
theorem unsent_turn (c : Dev nD) : Unsent c 0 15 = Unsent c 1 0 := by
  ext e
  simp only [Unsent, Finset.mem_filter, Finset.mem_univ, true_and]
  have h1 : (c + e : Dev nD).val < 16 := (c + e : Dev nD).isLt
  have h2 : e.val < 16 := e.isLt
  generalize (c + e : Dev nD).val = x at h1 ⊢
  omega

theorem unsent_first (c : Dev nD) : Unsent c 0 0 = rem 0 := by
  ext e
  simp only [Unsent, rem, Finset.mem_filter, Finset.mem_univ, true_and]
  generalize (c + e : Dev nD).val = x
  omega

theorem unsent_last (c : Dev nD) : Unsent c 1 15 = ∅ := by
  rw [Finset.eq_empty_iff_forall_notMem]
  intro e
  simp only [Unsent, Finset.mem_filter, Finset.mem_univ, true_and]
  have h1 : (c + e : Dev nD).val < 16 := (c + e : Dev nD).isLt
  have h2 : e.val < 16 := e.isLt
  generalize (c + e : Dev nD).val = x at h1 ⊢
  omega

/-- Each half's last chunk is the device's own, in one of the two halves. -/
theorem mine_last (c : Dev nD) : Disjoint (Mine c 0 15) (Mine c 1 15) ∧ Mine c 0 15 ∪ Mine c 1 15 = {0} := by
  constructor
  · rw [Finset.disjoint_left]
    intro e
    simp only [Mine, Finset.mem_filter, Finset.mem_univ, true_and]
    omega
  · ext e
    simp only [Mine, Finset.mem_union, Finset.mem_filter, Finset.mem_univ, true_and, Finset.mem_singleton]
    have h1 : (c + e : Dev nD).val < 16 := (c + e : Dev nD).isLt
    have h2 : e.val < 16 := e.isLt
    generalize (c + e : Dev nD).val = x at h1 ⊢
    constructor
    · intro h; exact Fin.ext (by show e.val = 0; omega)
    · intro h
      have h0 : e.val = 0 := by rw [h]; rfl
      omega

/-! ## The second exchange -/

/-- Before send `n + 1` of the finished rows. -/
def Send2St (c : Dev nD) (f : Vec F S16x1024 .bf16) (n : ℕ) : sProp 𝕄 :=
  iprop(Ow c (owe c 4 (rem n) + owe c 2 ∅ + owe c 0 ∅) ∗ (bigSep (rem n) fun d => sendItem2 c f d)
    ∗ cred (tallyAt (cell c 3) () (n * amt (Fin.castSucc (3 : Fin 6)))))

theorem send2_step {α : Type} (c : Dev nD) (d : Du) (n : ℕ) (f : Vec F S16x1024 .bf16) (hf : Rows m c f) (hd : d.val = n + 1) (dst : Dev nD) (hdst : dst = c + d)
    (off : Fin 2 → ℕ) (hoff : off = ![16 * c.val, 0]) (inb) {hsc} {hsrc} {hdstw} {hsem}
    (kt : PUnit → Prog (TpuEff nD τ sig (Elt F) Λ₀ .tc) α) (Q : α → sProp 𝕄) :
    iprop(Ctx m K ∗ Send2St c f n)
      ⊢ iprop((Send2St c f (n + 1) -∗ wpc c (kt ⟨⟩) Q)
        -∗ wpc c (.op (.enqueueDma (Memref.whole cc0_scratch2 : Memref sig .tc .vmem S16x1024 .bf16) (.remote (Dev.tc dst) (rowM off inb) (.dma cc0_scratch7.sem) hsc) (.dma cc0_scratch8.sem) hsrc hdstw hsem) kt) Q) := by
  unfold Send2St
  rw [rem_succ d n hd, bs_insert (not_mem_rem d n hd), Nat.succ_mul, ← tallyAt_add]
  iintro ⟨#HC, HO, ⟨Hi, Hir⟩, Hc⟩ Hk
  iapply (send2 m K c d f hf (by omega) dst hdst off hoff inb (owe c 4 (insert d (rem (n + 1))) + owe c 2 ∅ + owe c 0 ∅) (owe c 4 (rem (n + 1)) + owe c 2 ∅ + owe c 0 ∅)
      (by rw [owe_insert _ _ _ _ (not_mem_rem d n hd), owe_empty, owe_empty]; simp only [add_zero])) $$ [Hi HO]
  · isplitr; · iexact HC
    isplitl [Hi]; · iexact Hi
    iexact HO
  iintro ⟨Hc', HO⟩
  iapply Hk
  isplitl [HO]; · iexact HO
  isplitl [Hir]; · iexact Hir
  iapply (cred_add _ _).2
  isplitl [Hc]; · iexact Hc
  iexact Hc'

end Cert.KernelIdeal.Run

end
-- ==== Proof.Regions.lean ====
/- The kernel's buffers taken apart for the exchanges and put together after them. -/
module

public import proofs.«01_k».proof.Proof.Remote

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-! ## Buffers by families of element sets -/

theorem bs_mono {I : Type} {s : Finset I} {Φ Ψ : I → sProp 𝕄} (h : ∀ i ∈ s, Φ i ⊢ Ψ i) : bigSep s Φ ⊢ bigSep s Ψ := BI.bigSep_mono h

section Family
variable {ℓ : Loc nD τ sig} {q : PosShare TreeShare}

/-- A buffer's elements as a family of disjoint sets of them. -/
theorem fam_split (S : Finset Du) (Kf : Du → Finset (Idx ℓ)) (A : Finset (Idx ℓ)) (hA : S.biUnion Kf = A)
    (hd : ∀ t ∈ S, ∀ t' ∈ S, t ≠ t' → Disjoint (Kf t) (Kf t')) (f : Buf (Elt F) ℓ) :
    ((ℓ ↦[A]{q} f) : sProp 𝕄) ⊢ bigSep S fun t => (ℓ ↦[Kf t]{q} f) := by
  subst hA; exact Entails.of_eq (pointsTo_biUnion S Kf hd)

/-- The same, the contents forgotten. -/
theorem fam_split_ex (S : Finset Du) (Kf : Du → Finset (Idx ℓ)) (A : Finset (Idx ℓ)) (hA : S.biUnion Kf = A)
    (hd : ∀ t ∈ S, ∀ t' ∈ S, t ≠ t' → Disjoint (Kf t) (Kf t')) :
    (iprop(∃ f, ℓ ↦[A]{q} f) : sProp 𝕄) ⊢ bigSep S fun t => iprop(∃ f, ℓ ↦[Kf t]{q} f) := by
  iintro ⟨%f, H⟩
  ihave H := (fam_split S Kf A hA hd f) $$ H
  iapply (bs_mono (fun t _ => (by iintro H; iexists f; iexact H : ((ℓ ↦[Kf t]{q} f) : sProp 𝕄) ⊢ iprop(∃ f, ℓ ↦[Kf t]{q} f))))
  iexact H

include m in
/-- A family of disjoint sets of elements, each at contents with a property, is the buffer at contents that have each. -/
theorem fam_join (S : Finset Du) (Kf : Du → Finset (Idx ℓ)) (A : Finset (Idx ℓ)) (hA : S.biUnion Kf = A)
    (hd : ∀ t ∈ S, ∀ t' ∈ S, t ≠ t' → Disjoint (Kf t) (Kf t')) (Pr : Du → Buf (Elt F) ℓ → Prop) :
    (bigSep S fun t => iprop(∃ f, ⌜Pr t f⌝ ∗ ℓ ↦[Kf t]{q} f) : sProp 𝕄)
      ⊢ iprop(∃ g, ⌜∀ t ∈ S, ∃ f, Pr t f ∧ ∀ i ∈ Kf t, g i = f i⌝ ∗ ℓ ↦[A]{q} g) := by
  subst hA
  haveI : Nonempty (Buf (Elt F) ℓ) := ⟨m ℓ⟩
  refine (BI.bigSep_exists_pi (Y := fun _ => Buf (Elt F) ℓ) S _).trans (exists_elim fun fs => ?_)
  refine (bigSep_pure_sep S _ _).trans ?_
  iintro ⟨%hp, H⟩
  ihave H := (pointsTo_biUnion_join S Kf fs (m ℓ) hd) $$ H
  icases H with ⟨%g, %hg, H⟩
  iexists g
  isplitr
  · ipureintro; exact fun t ht => ⟨fs t, hp t ht, hg t ht⟩
  iexact H

end Family

theorem dut_rem (k : Fin 7) (hk : k.val < 5) : dut k = rem 0 := by
  unfold dut rem
  rw [if_pos hk]
  ext d
  simp only [Finset.mem_filter, Finset.mem_univ, true_and]
  constructor
  · intro h; exact Nat.pos_of_ne_zero fun h0 => h (Fin.ext h0)
  · intro h h0; rw [h0] at h; exact absurd h (by decide)

theorem univ_rem : (Finset.univ : Finset Du) = insert 0 (rem 0) := by decide
theorem zero_not_rem : (0 : Du) ∉ rem 0 := by decide
theorem rem_neg : (rem 0).map (Equiv.neg Du).toEmbedding = rem 0 := by decide

/-- A family over the nonzero distances, read backwards. -/
theorem bs_neg (Φ : Du → sProp 𝕄) : bigSep (rem 0) Φ = bigSep (rem 0) (fun d => Φ (-d)) := by
  conv_lhs => rw [← rem_neg]
  rw [BI.bigSep_map]; rfl

/-- A family over all distances is distance 0's and the others'. -/
theorem bs_zero (Φ : Du → sProp 𝕄) : bigSep Finset.univ Φ = iprop(Φ 0 ∗ bigSep (rem 0) Φ) := by
  rw [univ_rem]; exact bs_insert zero_not_rem

/-! ## The cuts of each buffer -/

theorem slots_cover : (Finset.univ : Finset Du).biUnion (fun d => slotS (-d)) = Finset.univ := by
  ext i
  simp only [Finset.mem_biUnion, Finset.mem_univ, true_and, iff_true, slotS, Finset.mem_filter]
  exact ⟨-(⟨(i 0).val, (i 0).isLt⟩ : Du), by rw [neg_neg]⟩

theorem slots_cover' : (Finset.univ : Finset Du).biUnion slotS = Finset.univ := by
  ext i
  simp only [Finset.mem_biUnion, Finset.mem_univ, true_and, iff_true, slotS, Finset.mem_filter]
  exact ⟨(⟨(i 0).val, (i 0).isLt⟩ : Du), rfl⟩

theorem slots_disj' (d e : Du) (h : d ≠ e) : Disjoint (slotS d) (slotS e) := by
  rw [Finset.disjoint_left]
  intro i
  simp only [slotS, Finset.mem_filter, Finset.mem_univ, true_and]
  intro h1 h2; exact h (Fin.ext (h1.symm.trans h2))

theorem rows_disj (j k : Dev nD) (h : j ≠ k) : Disjoint (rowsS j) (rowsS k) := by
  rw [Finset.disjoint_left]
  intro i
  simp only [rowsS, Finset.mem_filter, Finset.mem_univ, true_and]
  intro h1 h2; exact h (Fin.ext (h1.symm.trans h2))

theorem chunks_disj (j k : Dev nD) (h : j ≠ k) : Disjoint (chunkS j) (chunkS k) := by
  rw [Finset.disjoint_left]
  intro i
  simp only [chunkS, Finset.mem_filter, Finset.mem_univ, true_and]
  intro h1 h2; exact h (Fin.ext (h1.symm.trans h2))

theorem cols_disj (b b' : Du) (h : b ≠ b') : Disjoint (colS b) (colS b') := by
  rw [Finset.disjoint_left]
  intro i
  simp only [colS, Finset.mem_filter, Finset.mem_univ, true_and]
  intro h1 h2; exact h (Fin.ext (h1.symm.trans h2))

theorem rows_cover (c : Dev nD) : (Finset.univ : Finset Du).biUnion (fun d => rowsS (c + d)) = Finset.univ := by
  ext i
  simp only [Finset.mem_biUnion, Finset.mem_univ, true_and, iff_true, rowsS, Finset.mem_filter]
  have h : (i 0).val < 256 := (i 0).isLt
  refine ⟨(⟨(i 0).val / 16, by show _ < 16; omega⟩ : Dev nD) - c, ?_⟩
  rw [add_sub_cancel]

theorem rows_cover' (c : Dev nD) : (Finset.univ : Finset Du).biUnion (fun d => rowsS (c - d)) = Finset.univ := by
  ext i
  simp only [Finset.mem_biUnion, Finset.mem_univ, true_and, iff_true, rowsS, Finset.mem_filter]
  have h : (i 0).val < 256 := (i 0).isLt
  refine ⟨c - (⟨(i 0).val / 16, by show _ < 16; omega⟩ : Dev nD), ?_⟩
  rw [sub_sub_cancel]

theorem chunks_cover (c : Dev nD) : (Finset.univ : Finset Du).biUnion (fun d => chunkS (c + d)) = Finset.univ := by
  ext i
  simp only [Finset.mem_biUnion, Finset.mem_univ, true_and, iff_true, chunkS, Finset.mem_filter]
  have h : (i 0).val < 256 := (i 0).isLt
  refine ⟨(⟨(i 0).val / 16, by show _ < 16; omega⟩ : Dev nD) - c, ?_⟩
  rw [add_sub_cancel]

theorem half_cover (c : Dev nD) (a : ℕ) : (Mine c a 0).biUnion (fun d => chunkS (c + d)) = halfS a := by
  ext i
  simp only [Finset.mem_biUnion, Mine, chunkS, halfS, Finset.mem_filter, Finset.mem_univ, true_and]
  have h : (i 0).val < 256 := (i 0).isLt
  constructor
  · rintro ⟨d, ⟨h1, -⟩, h2⟩; rw [← h2] at h1; omega
  · intro ha
    refine ⟨(⟨(i 0).val / 16, by show _ < 16; omega⟩ : Dev nD) - c, ?_⟩
    rw [add_sub_cancel]
    exact ⟨⟨by show (i 0).val / 16 / 8 = a; omega, by omega⟩, rfl⟩

theorem cols_cover : (dut 5).biUnion colS = Finset.univ := by
  ext i
  simp only [Finset.mem_biUnion, Finset.mem_univ, iff_true, colS, Finset.mem_filter, true_and]
  have h : (i 1).val < 512 := (i 1).isLt
  refine ⟨⟨(i 1).val / 128, by omega⟩, ?_, rfl⟩
  show _ ∈ Finset.univ.filter (fun d : Du => d.val < 4)
  rw [Finset.mem_filter]
  exact ⟨Finset.mem_univ _, by show (i 1).val / 128 < 4; omega⟩

theorem heads_cover : hdS 0 ∪ hdS 1 = Finset.univ := by
  ext i
  simp only [Finset.mem_union, hdS, Finset.mem_filter, Finset.mem_univ, true_and, iff_true]
  have h : (i 1).val < 2 := (i 1).isLt
  omega

theorem heads_disj : Disjoint (hdS 0) (hdS 1) := by
  rw [Finset.disjoint_left]
  intro i
  simp only [hdS, Finset.mem_filter, Finset.mem_univ, true_and]
  omega

theorem halves_cover : halfS 0 ∪ halfS 1 = Finset.univ := by
  ext i
  simp only [Finset.mem_union, halfS, Finset.mem_filter, Finset.mem_univ, true_and, iff_true]
  have h : (i 0).val < 256 := (i 0).isLt
  omega

theorem halves_disj : Disjoint (halfS 0) (halfS 1) := by
  rw [Finset.disjoint_left]
  intro i
  simp only [halfS, Finset.mem_filter, Finset.mem_univ, true_and]
  omega

/-! ## The buffers taken apart and put together -/

section Buffers
variable (c : Dev nD)

theorem pack_start : (iprop(∃ f : Vec F S256x1152 .bf16, ((c : Thread nD τ).loc cc0_scratch0) ↦[Finset.univ]{fullShare} f) : sProp 𝕄) ⊢ iprop(PackSt m c 0 0 ∗ PackSt m c 1 0) := by
  have h0 (a : ℕ) (f : Vec F S256x1152 .bf16) : AgrN m c a 0 f := fun r col _ => ⟨fun _ h => absurd h (Nat.not_lt_zero _), fun _ _ h => absurd h (Nat.not_lt_zero _)⟩
  iintro ⟨%f, H⟩
  unfold PackSt
  rw [← halves_cover]
  ihave H := (pointsTo_union halves_disj).1 $$ H
  icases H with ⟨H0, H1⟩
  isplitl [H0]
  · iexists f; isplitr; · ipureintro; exact h0 0 f
    iexact H0
  iexists f; isplitr; · ipureintro; exact h0 1 f
  iexact H1

/-- A complete half is its chunks, complete. -/
theorem pack_chunks (a : ℕ) : PackSt m c a 16 ⊢ bigSep (Mine c a 0) fun d => packC m c (c + d) := by
  unfold PackSt
  iintro ⟨%f, %hf, H⟩
  ihave H := (fam_split (ℓ := (c : Thread nD τ).loc cc0_scratch0) (Mine c a 0) (fun d => chunkS (c + d)) (halfS a) (half_cover c a) (fun d _ e _ h => chunks_disj _ _ fun h' => h (add_left_cancel h')) f) $$ H
  iapply (bs_mono (fun d hd => (by
    unfold packC
    iintro H; iexists f
    isplitr
    · ipureintro
      intro i col hc
      have hm : (c + d : Dev nD).val / 8 = a := by
        simp only [Mine, Finset.mem_filter] at hd; exact hd.2.1
      have hr : (chunkRow (c + d) i).val / 128 = a := by
        show (16 * (c + d : Dev nD).val + i.val) / 128 = a
        have := i.isLt; omega
      by_cases h : col.val < 1024
      · exact (hf _ col hr).1 h (by omega)
      · exact (hf _ col hr).2 (by omega) hc (by omega)
    iexact H : ((((c : Thread nD τ).loc cc0_scratch0) ↦[chunkS (c + d)]{fullShare} f) : sProp 𝕄) ⊢ packC m c (c + d))))
  iexact H

/-- All chunks back. -/
theorem pack_end : iprop(packC m c c ∗ bigSep (dut 1) (fun d => packPay (F := F) c d)) ⊢ (iprop(∃ f : Vec F S256x1152 .bf16, ((c : Thread nD τ).loc cc0_scratch0) ↦[Finset.univ]{fullShare} f) : sProp 𝕄) := by
  rw [dut_rem 1 (by decide)]
  have h0 : packC m c c ⊢ packPay (F := F) c 0 := by
    unfold packC packPay
    rw [show c + (0 : Du) = c from add_zero c]
    iintro ⟨%f, -, H⟩; iexists f; iexact H
  refine (BIClass.sep_mono h0 (Entails.refl _)).trans ?_
  rw [← bs_zero (fun d => packPay (F := F) c d)]
  refine (bs_mono (fun d _ => (by
    unfold packPay
    iintro ⟨%f, H⟩; iexists f; isplitr; · ipureintro; trivial
    iexact H : packPay (F := F) c d ⊢ iprop(∃ f : Vec F S256x1152 .bf16, ⌜True⌝ ∗ ((c : Thread nD τ).loc cc0_scratch0) ↦[chunkS (c + d)]{fullShare} f)))).trans ?_
  refine (fam_join m (ℓ := (c : Thread nD τ).loc cc0_scratch0) Finset.univ (fun d => chunkS (c + d)) Finset.univ (chunks_cover c) (fun d _ e _ h => chunks_disj _ _ fun h' => h (add_left_cancel h')) (fun _ _ => True)).trans ?_
  iintro ⟨%g, -, H⟩; iexists g; iexact H

/-- The landing buffer: the device's own slot, and the slots lent to the devices before it. -/
theorem land_start : (iprop(∃ f : Vec F S16x16x1152 .bf16, ((c : Thread nD τ).loc cc0_scratch1) ↦[Finset.univ]{fullShare} f) : sProp 𝕄)
    ⊢ iprop((∃ f : Vec F S16x16x1152 .bf16, ((c : Thread nD τ).loc cc0_scratch1) ↦[slotS 0]{fullShare} f)
      ∗ bigSep (rem 0) fun d => iprop(∃ f : Vec F S16x16x1152 .bf16, ((c : Thread nD τ).loc cc0_scratch1) ↦[slotS (-d)]{fullShare} f)) := by
  refine (fam_split_ex (ℓ := (c : Thread nD τ).loc cc0_scratch1) Finset.univ (fun d => slotS (-d)) Finset.univ slots_cover (fun d _ e _ h => slots_disj' _ _ fun h' => h (neg_injective h'))).trans ?_
  rw [bs_zero, neg_zero]
  exact Entails.refl _

/-- The gathered rows: the device's own, and those lent to the devices after it. -/
theorem rows_start : (iprop(∃ f : Vec F S256x1024 .bf16, ((c : Thread nD τ).loc cc0_scratch3) ↦[Finset.univ]{fullShare} f) : sProp 𝕄)
    ⊢ iprop((∃ f : Vec F S256x1024 .bf16, ((c : Thread nD τ).loc cc0_scratch3) ↦[rowsS c]{fullShare} f)
      ∗ bigSep (rem 0) fun d => iprop(∃ f : Vec F S256x1024 .bf16, ((c : Thread nD τ).loc cc0_scratch3) ↦[rowsS (c + d)]{fullShare} f)) := by
  refine (fam_split_ex (ℓ := (c : Thread nD τ).loc cc0_scratch3) Finset.univ (fun d => rowsS (c + d)) Finset.univ (rows_cover c) (fun d _ e _ h => rows_disj _ _ fun h' => h (add_left_cancel h'))).trans ?_
  rw [bs_zero, show c + (0 : Du) = c from add_zero c]
  exact Entails.refl _

theorem cols_start : (iprop(∃ f : Vec F S4096x512 .f32, ((c : Thread nD τ).loc cc0_scratch4) ↦[Finset.univ]{fullShare} f) : sProp 𝕄)
    ⊢ bigSep (dut 5) fun b => iprop(∃ f : Vec F S4096x512 .f32, ((c : Thread nD τ).loc cc0_scratch4) ↦[colS b]{fullShare} f) :=
  fam_split_ex (ℓ := (c : Thread nD τ).loc cc0_scratch4) (dut 5) colS Finset.univ cols_cover (fun d _ e _ h => cols_disj _ _ h)

/-- What the opening signals hand over. -/
theorem sig_start :
    iprop((bigSep (rem 0) fun d => dutyTok ER (cell (c + d) 0) 0 d)
      ∗ (bigSep (rem 0) fun d => iprop(∃ f : Vec F S16x16x1152 .bf16, ((c : Thread nD τ).loc cc0_scratch1) ↦[slotS (-d)]{fullShare} f))
      ∗ (bigSep (rem 0) fun d => iprop(∃ f : Vec F S256x1024 .bf16, ((c : Thread nD τ).loc cc0_scratch3) ↦[rowsS (c + d)]{fullShare} f)))
    ⊢ (bigSep (rem 0) fun d => iprop(dutyTok ER (cell (c + d) 0) 0 d ∗ barPay (F := F) (c + d) d) : sProp 𝕄) := by
  rw [← bs_sep, ← bs_sep]
  refine bs_mono fun d _ => ?_
  unfold barPay
  rw [add_sub_ring]

/-- What the opening signals brought. -/
theorem bar_end : (bigSep (dut 0) fun e => barPay (F := F) c e : sProp 𝕄)
    ⊢ iprop((bigSep (rem 0) fun d => iprop(∃ g : Vec F S16x16x1152 .bf16, (((c + d : Dev nD) : Thread nD τ).loc cc0_scratch1) ↦[slotS d]{fullShare} g))
      ∗ (bigSep (rem 0) fun d => iprop(∃ g : Vec F S256x1024 .bf16, (((c + d : Dev nD) : Thread nD τ).loc cc0_scratch3) ↦[rowsS c]{fullShare} g))) := by
  rw [dut_rem 0 (by decide), bs_neg, ← bs_sep]
  refine bs_mono fun d _ => ?_
  unfold barPay
  rw [neg_neg, show c - (-d) = c + d from sub_neg_eq_add c d]

theorem keys_split (f : Vec F S4096x2x128 .f32) : ((((c : Thread nD τ).loc main_arg3) ↦[Finset.univ]{fullShare} f) : sProp 𝕄)
    ⊣⊢ iprop((((c : Thread nD τ).loc main_arg3) ↦[hdS 0]{fullShare} f) ∗ (((c : Thread nD τ).loc main_arg3) ↦[hdS 1]{fullShare} f)) := by
  rw [← heads_cover]; exact pointsTo_union heads_disj

theorem vals_split (f : Vec F S4096x2x128 .f32) : ((((c : Thread nD τ).loc main_arg4) ↦[Finset.univ]{fullShare} f) : sProp 𝕄)
    ⊣⊢ iprop((((c : Thread nD τ).loc main_arg4) ↦[hdS 0]{fullShare} f) ∗ (((c : Thread nD τ).loc main_arg4) ↦[hdS 1]{fullShare} f)) := by
  rw [← heads_cover]; exact pointsTo_union heads_disj

theorem dut_five : dut 5 = {0, 1, 2, 3} := by decide

/-- A family over the four copies. -/
theorem bs_five (Φ : Du → sProp 𝕄) : bigSep (dut 5) Φ = iprop(Φ 0 ∗ Φ 1 ∗ Φ 2 ∗ Φ 3) := by
  rw [dut_five, bs_insert (by decide), bs_insert (by decide), bs_insert (by decide), show bigSep {3} Φ = Φ 3 from bigSep_singleton]

/-- The copies landed. -/
theorem copy_end : (bigSep (dut 5) fun b => copyPay m c b : sProp 𝕄)
    ⊢ iprop((((c : Thread nD τ).loc cc0_scratch4) ↦[Finset.univ]{fullShare} (kvv m c : Vec F S4096x512 .f32))
      ∗ (((c : Thread nD τ).loc main_arg3) ↦[Finset.univ]{fullShare} (kV m c : Vec F S4096x2x128 .f32))
      ∗ (((c : Thread nD τ).loc main_arg4) ↦[Finset.univ]{fullShare} (vV m c : Vec F S4096x2x128 .f32))) := by
  have hA : (((c : Thread nD τ).loc cc0_scratch4) ↦[Finset.univ]{fullShare} (kvv m c : Vec F S4096x512 .f32) : sProp 𝕄)
      = bigSep (dut 5) fun b => (((c : Thread nD τ).loc cc0_scratch4) ↦[colS b]{fullShare} (kvv m c : Vec F S4096x512 .f32)) := by
    have h := pointsTo_biUnion (ℓ := (c : Thread nD τ).loc cc0_scratch4) (q := fullShare) (f := kvv m c) (Ix := Unit) (Name := ℕ) (U := UU) (Lvl := ℕ) (dut 5) colS (fun d _ e _ h => cols_disj _ _ h)
    rw [cols_cover] at h; exact h
  rw [hA]
  unfold copyPay
  rw [bs_sep]
  refine BIClass.sep_mono (Entails.refl _) ?_
  rw [bs_five]
  show iprop((((c : Thread nD τ).loc main_arg3) ↦[hdS 0]{fullShare} (kV m c : Vec F S4096x2x128 .f32)) ∗ (((c : Thread nD τ).loc main_arg3) ↦[hdS 1]{fullShare} (kV m c : Vec F S4096x2x128 .f32))
      ∗ (((c : Thread nD τ).loc main_arg4) ↦[hdS 0]{fullShare} (vV m c : Vec F S4096x2x128 .f32)) ∗ (((c : Thread nD τ).loc main_arg4) ↦[hdS 1]{fullShare} (vV m c : Vec F S4096x2x128 .f32))) ⊢ _
  iintro ⟨H0, H1, H2, H3⟩
  isplitl [H0 H1]
  · iapply (keys_split c (kV m c)).2
    isplitl [H0]; · iexact H0
    iexact H1
  iapply (vals_split c (vV m c)).2
  isplitl [H2]; · iexact H2
  iexact H3

/-- Every slot landed. -/
theorem land_end : iprop(landPay m c 0 ∗ bigSep (dut 2) (fun d => landPay m c d))
    ⊢ (iprop(∃ a : Vec F S16x16x1152 .bf16, ⌜Landed m c a⌝ ∗ ((c : Thread nD τ).loc cc0_scratch1) ↦[Finset.univ]{fullShare} a) : sProp 𝕄) := by
  rw [dut_rem 2 (by decide), ← bs_zero (fun d => landPay m c d)]
  unfold landPay
  refine (fam_join m (ℓ := (c : Thread nD τ).loc cc0_scratch1) Finset.univ slotS Finset.univ slots_cover' (fun d _ e _ h => slots_disj' _ _ h)
    (fun d (g : Vec F S16x16x1152 .bf16) => ∀ (i : Fin 16) (col : Fin 1152), col.val < 1032 → g (ix3 d i col) = pk m (c - d) (chunkRow c i) col)).trans ?_
  iintro ⟨%g, %hg, H⟩; iexists g
  isplitr
  · ipureintro
    intro d i col hc
    obtain ⟨f, hf, he⟩ := hg d (Finset.mem_univ _)
    exact (he (ix3 d i col) (by simp only [slotS, Finset.mem_filter, Finset.mem_univ, true_and])).trans (hf i col hc)
  iexact H

/-- The finished rows at the shares lent to the sends. -/
theorem row_split (f : Vec F S16x1024 .bf16) : ((((c : Thread nD τ).loc cc0_scratch2) ↦[Finset.univ]{fullShare} f) : sProp 𝕄)
    = iprop((((c : Thread nD τ).loc cc0_scratch2) ↦[Finset.univ]{ShareLeaves.leaf 4 fullShare (0 : Du)} f)
      ∗ bigSep (rem 0) fun d => (((c : Thread nD τ).loc cc0_scratch2) ↦[Finset.univ]{ShareLeaves.leaf 4 fullShare d} f)) := by
  refine (ShareLeaves.pointsTo_leaves (ℓ := (c : Thread nD τ).loc cc0_scratch2) Finset.univ f 4 fullShare).trans ?_
  exact bs_zero (fun d : Du => (((c : Thread nD τ).loc cc0_scratch2) ↦[Finset.univ]{ShareLeaves.leaf 4 fullShare d} f))

/-- A share back, its contents those of the share kept. -/
theorem row_back (f : Vec F S16x1024 .bf16) (S : Finset Du) :
    iprop((((c : Thread nD τ).loc cc0_scratch2) ↦[Finset.univ]{ShareLeaves.leaf 4 fullShare (0 : Du)} f) ∗ bigSep S fun d => rowPay (F := F) c d)
      ⊢ (iprop((((c : Thread nD τ).loc cc0_scratch2) ↦[Finset.univ]{ShareLeaves.leaf 4 fullShare (0 : Du)} f)
        ∗ bigSep S fun d => (((c : Thread nD τ).loc cc0_scratch2) ↦[Finset.univ]{ShareLeaves.leaf 4 fullShare d} f)) : sProp 𝕄) := by
  induction S using Finset.induction_on with
  | empty => exact Entails.refl _
  | insert d S hd ih =>
    rw [bs_insert hd, bs_insert hd]
    iintro ⟨H0, Hd, HS⟩
    unfold rowPay
    icases Hd with ⟨%g, Hd⟩
    ihave %he := (pointsTo_agree (ℓ := (c : Thread nD τ).loc cc0_scratch2) (I := Finset.univ) (J := Finset.univ) (f := f) (g := g)) $$ [H0 Hd]
    · isplitl [H0]; · iexact H0
      iexact Hd
    have hfg : g = f := funext fun i => ((he i (Finset.mem_inter.mpr ⟨Finset.mem_univ _, Finset.mem_univ _⟩)).1).symm
    subst hfg
    ihave H := ih $$ [H0 HS]
    · isplitl [H0]; · iexact H0
      unfold rowPay; iexact HS
    icases H with ⟨H0, HS⟩
    isplitl [H0]; · iexact H0
    isplitl [Hd]; · iexact Hd
    iexact HS

theorem row_end (f : Vec F S16x1024 .bf16) :
    iprop((((c : Thread nD τ).loc cc0_scratch2) ↦[Finset.univ]{ShareLeaves.leaf 4 fullShare (0 : Du)} f) ∗ bigSep (dut 3) fun d => rowPay (F := F) c d)
      ⊢ (((c : Thread nD τ).loc cc0_scratch2) ↦[Finset.univ]{fullShare} f : sProp 𝕄) := by
  rw [dut_rem 3 (by decide), row_split]
  exact row_back c f (rem 0)

theorem gath_congr (fs : Du → FVec F S16x1024 .bf16) (d : Du) (i : S256x1024.Idx) (hi : i ∈ rowsS (c - d)) :
    (gather (fun _ => fs d) : Vec F S256x1024 .bf16) i = gather (fun p => fs (c - p)) i := by
  simp only [rowsS, Finset.mem_filter, Finset.mem_univ, true_and] at hi
  have h : (i 0).val < 256 := (i 0).isLt
  have e : (⟨(i 0).val / 16, by show _ < 16; omega⟩ : Dev nD) = c - d := Fin.ext hi
  unfold gather
  show fs d _ = fs (c - _) _
  rw [e, sub_sub_cancel]

/-- Every device's rows gathered. -/
theorem gath_end : iprop(gathPay m c 0 ∗ bigSep (dut 4) (fun d => gathPay m c d))
    ⊢ (iprop(∃ fs : Dev nD → FVec F S16x1024 .bf16, ⌜∀ p, Rows m p (fs p)⌝ ∗ ((c : Thread nD τ).loc cc0_scratch3) ↦[Finset.univ]{fullShare} (gather fs : Vec F S256x1024 .bf16)) : sProp 𝕄) := by
  rw [dut_rem 4 (by decide), ← bs_zero (fun d => gathPay m c d)]
  unfold gathPay
  haveI : Nonempty (FVec F S16x1024 .bf16) := ⟨m ((c : Thread nD τ).loc cc0_scratch2)⟩
  refine (BI.bigSep_exists_pi (Y := fun _ => FVec F S16x1024 .bf16) Finset.univ _).trans (exists_elim fun fs => ?_)
  refine (bigSep_pure_sep Finset.univ _ _).trans ?_
  have hA : (((c : Thread nD τ).loc cc0_scratch3) ↦[Finset.univ]{fullShare} (gather (fun p => fs (c - p)) : Vec F S256x1024 .bf16) : sProp 𝕄)
      = bigSep Finset.univ fun d : Du => (((c : Thread nD τ).loc cc0_scratch3) ↦[rowsS (c - d)]{fullShare} (gather (fun p => fs (c - p)) : Vec F S256x1024 .bf16)) := by
    have h := pointsTo_biUnion (ℓ := (c : Thread nD τ).loc cc0_scratch3) (q := fullShare) (f := gather (fun p => fs (c - p))) (Ix := Unit) (Name := ℕ) (U := UU) (Lvl := ℕ) Finset.univ (fun d : Du => rowsS (c - d))
      (fun d _ e _ h => rows_disj _ _ fun h' => h (sub_right_injective h'))
    rw [rows_cover'] at h; exact h
  iintro ⟨%hp, H⟩
  iexists (fun p => fs (c - p))
  isplitr
  · ipureintro
    intro p
    have := hp (c - p) (Finset.mem_univ _)
    rwa [sub_sub_cancel] at this
  rw [hA]
  iapply (bs_mono (fun d _ => Entails.of_eq (pointsTo_congr (gath_congr c fs d)) : ∀ d ∈ (Finset.univ : Finset Du),
    ((((c : Thread nD τ).loc cc0_scratch3) ↦[rowsS (c - d)]{fullShare} (gather (fun _ => fs d) : Vec F S256x1024 .bf16)) : sProp 𝕄)
      ⊢ (((c : Thread nD τ).loc cc0_scratch3) ↦[rowsS (c - d)]{fullShare} (gather (fun p => fs (c - p)) : Vec F S256x1024 .bf16))))
  iexact H

end Buffers

end Cert.KernelIdeal.Run

end
-- ==== Proof.Own.lean ====
/- Sequencing of steps, and the loads and stores that stay on the device. -/
module

public import proofs.«01_k».proof.Proof.Regions

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-! ## The buffers the body is run on -/

abbrev xM : Memref sig .tc .vmem S256x1024 .f32 := Memref.whole cc0_stg0_0
theorem xW : (xM).IsWhole := Memref.isWhole_whole _
abbrev qM : Memref sig .tc .vmem S1024x1024 .f32 := Memref.whole cc0_stg1_0
theorem qW : (qM).IsWhole := Memref.isWhole_whole _
abbrev oM : Memref sig .tc .vmem S1024x1024 .f32 := Memref.whole cc0_stg2_0
theorem oW : (oM).IsWhole := Memref.isWhole_whole _
abbrev kM : Memref sig .tc .hbm S4096x2x128 .f32 := Memref.whole main_arg3
theorem kW : (kM).IsWhole := Memref.isWhole_whole _
abbrev vM : Memref sig .tc .hbm S4096x2x128 .f32 := Memref.whole main_arg4
theorem vW : (vM).IsWhole := Memref.isWhole_whole _
abbrev rM : Memref sig .tc .vmem S256x1024 .f32 := Memref.whole cc0_stg3_0
theorem rW : (rM).IsWhole := Memref.isWhole_whole _
abbrev pM : Memref sig .tc .vmem S256x1152 .bf16 := Memref.whole cc0_scratch0
theorem pW : (pM).IsWhole := Memref.isWhole_whole _
abbrev lM : Memref sig .tc .vmem S16x16x1152 .bf16 := Memref.whole cc0_scratch1
theorem lW : (lM).IsWhole := Memref.isWhole_whole _
abbrev fM : Memref sig .tc .vmem S16x1024 .bf16 := Memref.whole cc0_scratch2
theorem fW : (fM).IsWhole := Memref.isWhole_whole _
abbrev gM : Memref sig .tc .vmem S256x1024 .bf16 := Memref.whole cc0_scratch3
theorem gW : (gM).IsWhole := Memref.isWhole_whole _
abbrev tM : Memref sig .tc .vmem S4096x512 .f32 := Memref.whole cc0_scratch4
theorem tW : (tM).IsWhole := Memref.isWhole_whole _

/-! ## Sequencing -/

section Seq
variable {m K}

/-- One step, then the rest. -/
theorem seq {S S' R W W' : sProp 𝕄} (h : iprop(Ctx m K ∗ S) ⊢ iprop((S' -∗ W) -∗ W')) (h' : iprop(Ctx m K ∗ S' ∗ R) ⊢ W) :
    iprop(Ctx m K ∗ S ∗ R) ⊢ W' := by
  iintro ⟨#HC, HS, HR⟩
  iapply h $$ [HS]
  · isplitr; · iexact HC
    iexact HS
  iintro HS
  iapply h'
  isplitr; · iexact HC
  isplitl [HS]; · iexact HS
  iexact HR

/-- The same, for a step that needs no cell. -/
theorem seq0 {S S' R W W' : sProp 𝕄} (h : S ⊢ iprop((S' -∗ W) -∗ W')) (h' : iprop(Ctx m K ∗ S' ∗ R) ⊢ W) : iprop(Ctx m K ∗ S ∗ R) ⊢ W' := by
  have hd : iprop(Ctx m K ∗ S) ⊢ S := by iintro ⟨-, H⟩; iexact H
  exact seq (hd.trans h) h'

/-- The same, for a load whose value is not used. -/
theorem seqL {S R W' : sProp 𝕄} {β : Type} {V : β → sProp 𝕄} (h : S ⊢ iprop((∀ v, S -∗ V v) -∗ W')) (h' : ∀ v, iprop(Ctx m K ∗ S ∗ R) ⊢ V v) :
    iprop(Ctx m K ∗ S ∗ R) ⊢ W' := by
  iintro ⟨#HC, HS, HR⟩
  iapply h $$ HS
  iintro %v HS
  iapply (h' v)
  isplitr; · iexact HC
  isplitl [HS]; · iexact HS
  iexact HR

/-- What is held, put another way. -/
theorem seqE {S S' R W : sProp 𝕄} (h : S ⊢ S') (h' : iprop(Ctx m K ∗ S' ∗ R) ⊢ W) : iprop(Ctx m K ∗ S ∗ R) ⊢ W := by
  iintro ⟨#HC, HS, HR⟩
  iapply h'
  isplitr; · iexact HC
  isplitl [HS]; · iapply h; iexact HS
  iexact HR

/-- The next thing held brought to the front. -/
theorem swap {A B R W : sProp 𝕄} (h : iprop(Ctx m K ∗ B ∗ A ∗ R) ⊢ W) : iprop(Ctx m K ∗ A ∗ B ∗ R) ⊢ W := by
  iintro ⟨#HC, HA, HB, HR⟩
  iapply h
  isplitr; · iexact HC
  isplitl [HB]; · iexact HB
  isplitl [HA]; · iexact HA
  iexact HR

/-- Two things held taken as one, or one as two. -/
theorem join {A B R W : sProp 𝕄} (h : iprop(Ctx m K ∗ (A ∗ B) ∗ R) ⊢ W) : iprop(Ctx m K ∗ A ∗ B ∗ R) ⊢ W := by
  iintro ⟨#HC, HA, HB, HR⟩
  iapply h
  isplitr; · iexact HC
  isplitl [HA HB]
  · isplitl [HA]; · iexact HA
    iexact HB
  iexact HR
theorem unjoin {A B R W : sProp 𝕄} (h : iprop(Ctx m K ∗ A ∗ B ∗ R) ⊢ W) : iprop(Ctx m K ∗ (A ∗ B) ∗ R) ⊢ W := by
  iintro ⟨#HC, ⟨HA, HB⟩, HR⟩
  iapply h
  isplitr; · iexact HC
  isplitl [HA]; · iexact HA
  isplitl [HB]; · iexact HB
  iexact HR

/-- What a wait for finished rows takes. -/
theorem row_amt (off : Fin 2 → ℕ) (inb : ∀ a, off a + S16x1024.size a ≤ S256x1024.size a) : (rowM off inb).view.dmaCredit = amt (Fin.castSucc (4 : Fin 6)) := rfl

/-- A program that has ended. -/
theorem ends {α : Type} {P : sProp 𝕄} {c : Dev nD} {v : α} {Q : α → sProp 𝕄} (h : P ⊢ Q v) : P ⊢ wpc c (.ret v) Q := by
  show P ⊢ iprop(|={Set.univ}=> Q v)
  iintro H
  imodintro
  iapply h; iexact H

end Seq

/-! ## Whole buffers -/

section Whole
variable {α : Type} (c : Dev nD)

/-- A buffer of the vector memory. -/
abbrev vref (j : Fin (sig.nNear .tc .vmem)) (hj : sig.names .tc .vmem j = true) : Ref sig .tc := ⟨.vmem, j, hj⟩

/-- A load of a whole buffer. -/
theorem load_all (j : Fin (sig.nNear .tc .vmem)) (hj : sig.names .tc .vmem j = true) {off : Fin (vref j hj).ty.shape.rank → ℕ} (ho : off = fun _ => 0) (inb) {hl} {q : PosShare TreeShare} (f : (vref j hj).ty.Contents (Elt F))
    (kt : ((vref j hj).ty.shape.Idx → Elt F (vref j hj).ty.elt) → Prog (TpuEff nD τ sig (Elt F) Λ₀ .tc) α) (Q : α → sProp 𝕄) :
    ((((c : Thread nD τ).loc (vref j hj)) ↦[Finset.univ]{q} f) : sProp 𝕄)
      ⊢ iprop(((((c : Thread nD τ).loc (vref j hj)) ↦[Finset.univ]{q} f) -∗ wpc c (kt f) Q)
        -∗ wpc c (.op (.load (Memref.whole (vref j hj) : Memref sig .tc .vmem _ _) (Rect.unit off (vref j hj).ty.shape.size inb).toLoadRect hl) kt) Q) := by
  iintro H Hk
  iapply (wp_load 𝒱₀ (c : Thread nD τ) none Set.univ (m := (Memref.whole (vref j hj) : Memref sig .tc .vmem _ _)) (r := (Rect.unit off (vref j hj).ty.shape.size inb).toLoadRect)
    (S := Finset.univ) (f := f) (Finset.subset_univ _)) $$ H
  rw [Memref.readAt_unit_zero (Elt F) (vref j hj) ho inb f]
  iexact Hk

/-- A store of a whole buffer. -/
theorem store_all (j : Fin (sig.nNear .tc .vmem)) (hj : sig.names .tc .vmem j = true) {off : Fin (vref j hj).ty.shape.rank → ℕ} (ho : off = fun _ => 0) (inb) {hx hm} (f w : (vref j hj).ty.Contents (Elt F))
    (kt : PUnit → Prog (TpuEff nD τ sig (Elt F) Λ₀ .tc) α) (Q : α → sProp 𝕄) :
    ((((c : Thread nD τ).loc (vref j hj)) ↦[Finset.univ]{fullShare} f) : sProp 𝕄)
      ⊢ iprop(((((c : Thread nD τ).loc (vref j hj)) ↦[Finset.univ]{fullShare} w) -∗ wpc c (kt ⟨⟩) Q)
        -∗ wpc c (.op (.store (Memref.whole (vref j hj) : Memref sig .tc .vmem _ _) (Rect.unit off (vref j hj).ty.shape.size inb) w Finset.univ hx hm) kt) Q) := by
  iintro H Hk
  iapply (wp_store 𝒱₀ (c : Thread nD τ) none Set.univ (m := (Memref.whole (vref j hj) : Memref sig .tc .vmem _ _)) (r := Rect.unit off (vref j hj).ty.shape.size inb) (w := w)
    (Mk := Finset.univ) (S := Finset.univ) (f := f) (Finset.subset_univ _)) $$ H
  rw [Memref.write_access_unit_zero_univ (Elt F) (vref j hj) ho inb f w]
  iexact Hk

theorem hz2 : (![0, 0] : Fin 2 → ℕ) = fun _ => 0 := funext fun a => by fin_cases a <;> rfl
theorem hz3 : (![0, 0, 0] : Fin 3 → ℕ) = fun _ => 0 := funext fun a => by fin_cases a <;> rfl

end Whole

/-! ## The device's own chunk and rows -/

section Own
variable {α : Type} (c : Dev nD)

/-- The packed rows a device keeps for itself. -/
def OwnRows (c : Dev nD) (v : Vec F S16x1152 .bf16) : Prop :=
  ∀ (i : Fin 16) (col : Fin 1152), col.val < 1032 → v (ix2 i col) = pk m c (chunkRow c i) col

theorem own_load (off : Fin 2 → ℕ) (hoff : off = ![16 * c.val, 0]) (inb) {hl}
    (kt : Vec F S16x1152 .bf16 → Prog (TpuEff nD τ sig (Elt F) Λ₀ .tc) α) (Q : α → sProp 𝕄) :
    packC m c c ⊢ iprop((∀ v, (⌜OwnRows m c v⌝ ∗ packC m c c) -∗ wpc c (kt v) Q)
      -∗ wpc c (.op (.load (Memref.whole cc0_scratch0 : Memref sig .tc .vmem S256x1152 .bf16) (Rect.unit (s := S256x1152) off S16x1152.size inb).toLoadRect hl) kt) Q) := by
  unfold packC
  iintro ⟨%f, %hf, H⟩ Hk
  iapply (wp_load 𝒱₀ (c : Thread nD τ) none Set.univ (m := (Memref.whole cc0_scratch0 : Memref sig .tc .vmem S256x1152 .bf16))
    (r := (Rect.unit (s := S256x1152) off S16x1152.size inb).toLoadRect) (S := chunkS c) (f := f) (by
      rw [← set_chunk c off hoff inb, View.set_slice_whole]
      intro i hi
      obtain ⟨j, hj, rfl⟩ := Finset.mem_map.mp hi
      exact hj)) $$ H
  iintro H
  iapply Hk
  isplitr
  · ipureintro
    intro i col hc
    refine Eq.trans ?_ (hf i col hc)
    subst hoff
    rw [View.readAt_apply, View.read_apply]
    show f _ = f _
    refine congrArg f (funext fun (b : Fin 2) => Fin.ext ?_)
    match b with
    | ⟨0, _⟩ => show 16 * c.val + 1 * i.val = 16 * c.val + i.val; omega
    | ⟨1, _⟩ => show 0 + 1 * col.val = col.val; omega
  iexists f
  isplitr; · ipureintro; exact hf
  iexact H

/-- The device's own slot, whatever it holds. -/
def slot0 (c : Dev nD) : sProp 𝕄 := iprop(∃ f : Vec F S16x16x1152 .bf16, ((c : Thread nD τ).loc cc0_scratch1) ↦[slotS 0]{fullShare} f)

theorem slot_load (inb) {hl} (kt : Vec F S1x16x1152 .bf16 → Prog (TpuEff nD τ sig (Elt F) Λ₀ .tc) α) (Q : α → sProp 𝕄) :
    slot0 (F := F) c ⊢ iprop((∀ v, slot0 c -∗ wpc c (kt v) Q)
      -∗ wpc c (.op (.load (Memref.whole cc0_scratch1 : Memref sig .tc .vmem S16x16x1152 .bf16) (Rect.unit (s := S16x16x1152) ![0, 0, 0] S1x16x1152.size inb).toLoadRect hl) kt) Q) := by
  unfold slot0
  iintro ⟨%f, H⟩ Hk
  iapply (wp_load 𝒱₀ (c : Thread nD τ) none Set.univ (m := (Memref.whole cc0_scratch1 : Memref sig .tc .vmem S16x16x1152 .bf16))
    (r := (Rect.unit (s := S16x16x1152) ![0, 0, 0] S1x16x1152.size inb).toLoadRect) (S := slotS 0) (f := f) (by
      rw [← set_slot0 0 ![0, 0, 0] rfl inb, View.set_slice_whole]
      intro i hi
      obtain ⟨j, hj, rfl⟩ := Finset.mem_map.mp hi
      exact hj)) $$ H
  iintro H
  iapply Hk
  iexists f; iexact H

/-- A slot after a store of the device's own rows. -/
theorem slot0_val (inb) (f : Vec F S16x16x1152 .bf16) (v : Vec F S16x1152 .bf16) (i : Fin 16) (col : Fin 1152) :
    ((View.whole cc0_scratch1).slice (Rect.unit (s := S16x16x1152) ![0, 0, 0] S1x16x1152.size inb)).write (Elt F) f (k0_pay65 v) Finset.univ (ix3 (0 : Fin 16) i col)
      = v (ix2 i col) := by
  refine Eq.trans (write_hit _ _ _ (ix3 (0 : Fin 1) i col) _ (by
    funext b; refine Fin.ext ?_
    match b with
    | ⟨0, _⟩ => rfl
    | ⟨1, _⟩ => show 0 + 1 * i.val = i.val; omega
    | ⟨2, _⟩ => show 0 + 1 * col.val = col.val; omega)) ?_
  show v (Shape.reshapeEquiv shapeCasts_S16x1152_S1x16x1152 (ix3 (0 : Fin 1) i col)) = _
  refine congrArg v (Shape.reshapeEquiv_eq_of_rowMajor _ ?_)
  rw [Shape.rowMajor_val_two, Shape.rowMajor_val_three]; show i.val * 1152 + col.val = (0 * 16 + i.val) * 1152 + col.val; omega

theorem slot_store (inb) {hx hm} (v : Vec F S16x1152 .bf16) (hv : OwnRows m c v) (kt : PUnit → Prog (TpuEff nD τ sig (Elt F) Λ₀ .tc) α) (Q : α → sProp 𝕄) :
    slot0 c ⊢ iprop((landPay m c 0 -∗ wpc c (kt ⟨⟩) Q)
      -∗ wpc c (.op (.store (Memref.whole cc0_scratch1 : Memref sig .tc .vmem S16x16x1152 .bf16) (Rect.unit (s := S16x16x1152) ![0, 0, 0] S1x16x1152.size inb) (k0_pay65 v) Finset.univ hx hm) kt) Q) := by
  unfold slot0 landPay
  iintro ⟨%f, H⟩ Hk
  iapply (wp_store 𝒱₀ (c : Thread nD τ) none Set.univ (m := (Memref.whole cc0_scratch1 : Memref sig .tc .vmem S16x16x1152 .bf16))
    (r := Rect.unit (s := S16x16x1152) ![0, 0, 0] S1x16x1152.size inb) (w := k0_pay65 v) (Mk := Finset.univ) (S := slotS 0) (f := f) (by
      rw [View.setOn_univ]
      exact (set_slot0 0 ![0, 0, 0] rfl inb).le)) $$ H
  iintro H
  iapply Hk
  iexists (((View.whole cc0_scratch1).slice (Rect.unit (s := S16x16x1152) ![0, 0, 0] S1x16x1152.size inb)).write (Elt F) f (k0_pay65 v) Finset.univ)
  isplitr
  · ipureintro
    intro i col hc
    rw [show c - (0 : Du) = c from sub_zero c]
    exact (slot0_val inb f v i col).trans (hv i col hc)
  iexact H

/-- The device's own rows of the gathered result, whatever they hold. -/
def rows0 (c : Dev nD) : sProp 𝕄 := iprop(∃ f : Vec F S256x1024 .bf16, ((c : Thread nD τ).loc cc0_scratch3) ↦[rowsS c]{fullShare} f)

theorem rows_load (off : Fin 2 → ℕ) (hoff : off = ![16 * c.val, 0]) (inb) {hl} (kt : Vec F S16x1024 .bf16 → Prog (TpuEff nD τ sig (Elt F) Λ₀ .tc) α) (Q : α → sProp 𝕄) :
    rows0 (F := F) c ⊢ iprop((∀ v, rows0 c -∗ wpc c (kt v) Q)
      -∗ wpc c (.op (.load (Memref.whole cc0_scratch3 : Memref sig .tc .vmem S256x1024 .bf16) (Rect.unit (s := S256x1024) off S16x1024.size inb).toLoadRect hl) kt) Q) := by
  unfold rows0
  iintro ⟨%f, H⟩ Hk
  iapply (wp_load 𝒱₀ (c : Thread nD τ) none Set.univ (m := (Memref.whole cc0_scratch3 : Memref sig .tc .vmem S256x1024 .bf16))
    (r := (Rect.unit (s := S256x1024) off S16x1024.size inb).toLoadRect) (S := rowsS c) (f := f) (by
      rw [← set_rows c off hoff inb, View.set_slice_whole]
      intro i hi
      obtain ⟨j, hj, rfl⟩ := Finset.mem_map.mp hi
      exact hj)) $$ H
  iintro H
  iapply Hk
  iexists f; iexact H

theorem rows_store (off : Fin 2 → ℕ) (hoff : off = ![16 * c.val, 0]) (inb) {hx hm} (w : Vec F S16x1024 .bf16) (hw : Rows m c w)
    (kt : PUnit → Prog (TpuEff nD τ sig (Elt F) Λ₀ .tc) α) (Q : α → sProp 𝕄) :
    rows0 c ⊢ iprop((gathPay m c 0 -∗ wpc c (kt ⟨⟩) Q)
      -∗ wpc c (.op (.store (Memref.whole cc0_scratch3 : Memref sig .tc .vmem S256x1024 .bf16) (Rect.unit (s := S256x1024) off S16x1024.size inb) (k0_pay69 w) Finset.univ hx hm) kt) Q) := by
  unfold rows0 gathPay
  rw [show k0_pay69 w = w from funext fun i => congrArg w (Shape.reshapeEquiv_self _ i)]
  iintro ⟨%f, H⟩ Hk
  iapply (wp_store 𝒱₀ (c : Thread nD τ) none Set.univ (m := (Memref.whole cc0_scratch3 : Memref sig .tc .vmem S256x1024 .bf16))
    (r := Rect.unit (s := S256x1024) off S16x1024.size inb) (w := w) (Mk := Finset.univ) (S := rowsS c) (f := f) (by
      rw [View.setOn_univ]
      exact (set_rows c off hoff inb).le)) $$ H
  iintro H
  iapply Hk
  iexists w
  rw [show c - (0 : Du) = c from sub_zero c]
  isplitr; · ipureintro; exact hw
  have hg : ((((c : Thread nD τ).loc cc0_scratch3) ↦[rowsS c]{fullShare} (((View.whole cc0_scratch3).slice (Rect.unit (s := S256x1024) off S16x1024.size inb)).write (Elt F) f w Finset.univ)) : sProp 𝕄)
      ⊢ (((c : Thread nD τ).loc cc0_scratch3) ↦[rowsS c]{fullShare} (gather (fun _ => w) : Vec F S256x1024 .bf16)) :=
    Entails.of_eq (pointsTo_congr fun i hi => rows_val c off hoff inb f w i hi)
  iapply hg
  iexact H

end Own

end Cert.KernelIdeal.Run

end
-- ==== Proof.Parts.lean ====
/- The parts of the body that signal, load and pack. -/
module

public import proofs.«01_k».proof.Proof.Own

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

section Parts
variable {m K}
variable {α : Type} {c : Dev nD}

/-- Signals 2 to 7. -/
theorem part2 {Q : α → sProp 𝕄} {R : sProp 𝕄} (v2) (v22)  (kt : _ → Prog (TpuEff nD τ sig (Elt F) Λ₀ .tc) α)
    (h : ∀ r, iprop(Ctx m K ∗ SigSt c 7 ∗ R) ⊢ wpc c (kt r) Q) :
    iprop(Ctx m K ∗ SigSt c 1 ∗ R) ⊢ wpc c (k0_part2 (F := F) xM xW qM qW oM oW kM kW vM vW rM rW pM pW lM lW fM fW gM gW tM tW cc0_scratch5 cc0_scratch6 cc0_scratch7 cc0_scratch8 cc0_scratch9 c v2 (SemArray.scalar (sig.barrier 0 rfl)) v22 >>= kt) Q := by
  rw [k0_part2_eq_skeleton]; unfold k0_part2_skel
  simp only [semSignalWord, semWaitWord, Prog.lift, bind_assoc, Prog.bind_op, Prog.bind_ret, Prog.pure_eq_ret]
  refine seq (sig_step m K c 2 1 rfl _ (Fin.ext (k0_dev2_eq c)) _ rfl _ Q) ?_
  refine seq (sig_step m K c 3 2 rfl _ (Fin.ext (k0_dev3_eq c)) _ rfl _ Q) ?_
  refine seq (sig_step m K c 4 3 rfl _ (Fin.ext (k0_dev4_eq c)) _ rfl _ Q) ?_
  refine seq (sig_step m K c 5 4 rfl _ (Fin.ext (k0_dev5_eq c)) _ rfl _ Q) ?_
  refine seq (sig_step m K c 6 5 rfl _ (Fin.ext (k0_dev6_eq c)) _ rfl _ Q) ?_
  refine seq (sig_step m K c 7 6 rfl _ (Fin.ext (k0_dev7_eq c)) _ rfl _ Q) ?_
  exact h _

/-- Signals 8 to 13. -/
theorem part3 {Q : α → sProp 𝕄} {R : sProp 𝕄} (v2) (v46)  (kt : _ → Prog (TpuEff nD τ sig (Elt F) Λ₀ .tc) α)
    (h : ∀ r, iprop(Ctx m K ∗ SigSt c 13 ∗ R) ⊢ wpc c (kt r) Q) :
    iprop(Ctx m K ∗ SigSt c 7 ∗ R) ⊢ wpc c (k0_part3 (F := F) xM xW qM qW oM oW kM kW vM vW rM rW pM pW lM lW fM fW gM gW tM tW cc0_scratch5 cc0_scratch6 cc0_scratch7 cc0_scratch8 cc0_scratch9 c v2 (SemArray.scalar (sig.barrier 0 rfl)) v46 >>= kt) Q := by
  rw [k0_part3_eq_skeleton]; unfold k0_part3_skel
  simp only [semSignalWord, semWaitWord, Prog.lift, bind_assoc, Prog.bind_op, Prog.bind_ret, Prog.pure_eq_ret]
  refine seq (sig_step m K c 8 7 rfl _ (Fin.ext (k0_dev8_eq c)) _ rfl _ Q) ?_
  refine seq (sig_step m K c 9 8 rfl _ (Fin.ext (k0_dev9_eq c)) _ rfl _ Q) ?_
  refine seq (sig_step m K c 10 9 rfl _ (Fin.ext (k0_dev10_eq c)) _ rfl _ Q) ?_
  refine seq (sig_step m K c 11 10 rfl _ (Fin.ext (k0_dev11_eq c)) _ rfl _ Q) ?_
  refine seq (sig_step m K c 12 11 rfl _ (Fin.ext (k0_dev12_eq c)) _ rfl _ Q) ?_
  refine seq (sig_step m K c 13 12 rfl _ (Fin.ext (k0_dev13_eq c)) _ rfl _ Q) ?_
  exact h _

/-- The last two signals. -/
theorem part4 {Q : α → sProp 𝕄} {R : sProp 𝕄} (v2) (v70)  (kt : _ → Prog (TpuEff nD τ sig (Elt F) Λ₀ .tc) α)
    (h : ∀ r1 r2 r3 r4 r5 r6 r7 r8 r9, iprop(Ctx m K ∗ SigSt c 15 ∗ R) ⊢ wpc c (kt ⟨r1, r2, r3, r4, r5, r6, r7, r8, r9⟩) Q) :
    iprop(Ctx m K ∗ SigSt c 13 ∗ R) ⊢ wpc c (k0_part4 (F := F) xM xW qM qW oM oW kM kW vM vW rM rW pM pW lM lW fM fW gM gW tM tW cc0_scratch5 cc0_scratch6 cc0_scratch7 cc0_scratch8 cc0_scratch9 c v2 (SemArray.scalar (sig.barrier 0 rfl)) v70 >>= kt) Q := by
  rw [k0_part4_eq_skeleton]; unfold k0_part4_skel
  simp only [semSignalWord, semWaitWord, Prog.lift, bind_assoc, Prog.bind_op, Prog.bind_ret, Prog.pure_eq_ret]
  refine seq (sig_step m K c 14 13 rfl _ (Fin.ext (k0_dev14_eq c)) _ rfl _ Q) ?_
  refine seq (sig_step m K c 15 14 rfl _ (Fin.ext (k0_dev15_eq c)) _ rfl _ Q) ?_
  exact h _ _ _ _ _ _ _ _ _

/-- The loads of the rows and of the query weights. -/
theorem part5 {Q : α → sProp 𝕄} {R : sProp 𝕄} (v2) (v98) (c16_i32_100)  (kt : _ → Prog (TpuEff nD τ sig (Elt F) Λ₀ .tc) α)
    (h : ∀ r1 r2 r3 r4 r5 r6 r7, iprop(Ctx m K ∗ (((c : Thread nD τ).loc cc0_stg0_0) ↦[Finset.univ]{fullShare} xV m c) ∗ (((c : Thread nD τ).loc cc0_stg1_0) ↦[Finset.univ]{fullShare} wqV m c) ∗ R) ⊢ wpc c (kt ⟨r1, r2, r3, r4, r5, r6, r7, qb m c⟩) Q) :
    iprop(Ctx m K ∗ (((c : Thread nD τ).loc cc0_stg0_0) ↦[Finset.univ]{fullShare} xV m c) ∗ (((c : Thread nD τ).loc cc0_stg1_0) ↦[Finset.univ]{fullShare} wqV m c) ∗ R) ⊢ wpc c (k0_part5 (F := F) xM xW qM qW oM oW kM kW vM vW rM rW pM pW lM lW fM fW gM gW tM tW cc0_scratch5 cc0_scratch6 cc0_scratch7 cc0_scratch8 cc0_scratch9 v2 v98 c16_i32_100 >>= kt) Q := by
  rw [k0_part5_eq_skeleton]; unfold k0_part5_skel
  simp only [semSignalWord, semWaitWord, Prog.lift, bind_assoc, Prog.bind_op, Prog.bind_ret, Prog.pure_eq_ret]
  refine seq0 (load_all c 0 rfl hz2 _ (xV m c) _ Q) (swap ?_)
  refine seq0 (load_all c 1 rfl hz2 _ (wqV m c) _ Q) (swap ?_)
  exact h _ _ _ _ _ _ _

/-- Half 0: row sums of head 0, heads 1 and 2. -/
theorem part7 {Q : α → sProp 𝕄} {R : sProp 𝕄}  (kt : _ → Prog (TpuEff nD τ sig (Elt F) Λ₀ .tc) α)
    (h : iprop(Ctx m K ∗ PackSt m c 0 6 ∗ R) ⊢ wpc c (kt (k0_pay15 (qb m c))) Q) :
    iprop(Ctx m K ∗ PackSt m c 0 1 ∗ R) ⊢ wpc c (k0_part7 (F := F) xM xW qM qW oM oW kM kW vM vW rM rW pM pW lM lW fM fW gM gW tM tW cc0_scratch5 cc0_scratch6 cc0_scratch7 cc0_scratch8 cc0_scratch9 (qb m c) (kb m c) (vb m c) (k0_pay6 (qb m c) (kvv m c)) >>= kt) Q := by
  rw [k0_part7_eq_skeleton]; unfold k0_part7_skel
  simp only [semSignalWord, semWaitWord, Prog.lift, bind_assoc, Prog.bind_op, Prog.bind_ret, Prog.pure_eq_ret]
  refine seqL (pack_load m c 0 1 _ _ _ _ _ rfl rfl _ _) fun _ => ?_
  refine seq0 (pack_l m c 0 0 1 rfl _ _ rfl _ rfl _ _) ?_
  refine seqL (pack_load m c 0 2 _ _ _ _ _ rfl rfl _ _) fun _ => ?_
  refine seq0 (pack_o m c 0 1 2 rfl _ _ rfl _ rfl _ _) ?_
  refine seqL (pack_load m c 0 3 _ _ _ _ _ rfl rfl _ _) fun _ => ?_
  refine seq0 (pack_l m c 0 1 3 rfl _ _ rfl _ rfl _ _) ?_
  refine seqL (pack_load m c 0 4 _ _ _ _ _ rfl rfl _ _) fun _ => ?_
  refine seq0 (pack_o m c 0 2 4 rfl _ _ rfl _ rfl _ _) ?_
  refine seqL (pack_load m c 0 5 _ _ _ _ _ rfl rfl _ _) fun _ => ?_
  refine seq0 (pack_l m c 0 2 5 rfl _ _ rfl _ rfl _ _) ?_
  exact h

/-- Half 0: heads 3 and 4. -/
theorem part8 {Q : α → sProp 𝕄} {R : sProp 𝕄}  (kt : _ → Prog (TpuEff nD τ sig (Elt F) Λ₀ .tc) α)
    (h : iprop(Ctx m K ∗ PackSt m c 0 10 ∗ R) ⊢ wpc c (kt ⟨k0_pay22 (vb m c), k0_pay23 (qb m c) (kb m c), k0_pay24 (qb m c) (kb m c)⟩) Q) :
    iprop(Ctx m K ∗ PackSt m c 0 6 ∗ R) ⊢ wpc c (k0_part8 (F := F) xM xW qM qW oM oW kM kW vM vW rM rW pM pW lM lW fM fW gM gW tM tW cc0_scratch5 cc0_scratch6 cc0_scratch7 cc0_scratch8 cc0_scratch9 (qb m c) (kb m c) (vb m c) (k0_pay15 (qb m c)) >>= kt) Q := by
  rw [k0_part8_eq_skeleton]; unfold k0_part8_skel
  simp only [semSignalWord, semWaitWord, Prog.lift, bind_assoc, Prog.bind_op, Prog.bind_ret, Prog.pure_eq_ret]
  refine seqL (pack_load m c 0 6 _ _ _ _ _ rfl rfl _ _) fun _ => ?_
  refine seq0 (pack_o m c 0 3 6 rfl _ _ rfl _ rfl _ _) ?_
  refine seqL (pack_load m c 0 7 _ _ _ _ _ rfl rfl _ _) fun _ => ?_
  refine seq0 (pack_l m c 0 3 7 rfl _ _ rfl _ rfl _ _) ?_
  refine seqL (pack_load m c 0 8 _ _ _ _ _ rfl rfl _ _) fun _ => ?_
  refine seq0 (pack_o m c 0 4 8 rfl _ _ rfl _ rfl _ _) ?_
  refine seqL (pack_load m c 0 9 _ _ _ _ _ rfl rfl _ _) fun _ => ?_
  refine seq0 (pack_l m c 0 4 9 rfl _ _ rfl _ rfl _ _) ?_
  exact h

/-- Half 0: heads 5 and 6. -/
theorem part9 {Q : α → sProp 𝕄} {R : sProp 𝕄}  (kt : _ → Prog (TpuEff nD τ sig (Elt F) Λ₀ .tc) α)
    (h : iprop(Ctx m K ∗ PackSt m c 0 14 ∗ R) ⊢ wpc c (kt ⟨k0_pay31 (qb m c) (kb m c), k0_pay32 (qb m c) (kb m c) (vb m c)⟩) Q) :
    iprop(Ctx m K ∗ PackSt m c 0 10 ∗ R) ⊢ wpc c (k0_part9 (F := F) xM xW qM qW oM oW kM kW vM vW rM rW pM pW lM lW fM fW gM gW tM tW cc0_scratch5 cc0_scratch6 cc0_scratch7 cc0_scratch8 cc0_scratch9 (qb m c) (kb m c) (vb m c) (k0_pay22 (vb m c)) (k0_pay23 (qb m c) (kb m c)) (k0_pay24 (qb m c) (kb m c)) >>= kt) Q := by
  rw [k0_part9_eq_skeleton]; unfold k0_part9_skel
  simp only [semSignalWord, semWaitWord, Prog.lift, bind_assoc, Prog.bind_op, Prog.bind_ret, Prog.pure_eq_ret]
  refine seqL (pack_load m c 0 10 _ _ _ _ _ rfl rfl _ _) fun _ => ?_
  refine seq0 (pack_o m c 0 5 10 rfl _ _ rfl _ rfl _ _) ?_
  refine seqL (pack_load m c 0 11 _ _ _ _ _ rfl rfl _ _) fun _ => ?_
  refine seq0 (pack_l m c 0 5 11 rfl _ _ rfl _ rfl _ _) ?_
  refine seqL (pack_load m c 0 12 _ _ _ _ _ rfl rfl _ _) fun _ => ?_
  refine seq0 (pack_o m c 0 6 12 rfl _ _ rfl _ rfl _ _) ?_
  refine seqL (pack_load m c 0 13 _ _ _ _ _ rfl rfl _ _) fun _ => ?_
  refine seq0 (pack_l m c 0 6 13 rfl _ _ rfl _ rfl _ _) ?_
  refine seqL (pack_load m c 0 14 _ _ _ _ _ rfl rfl _ _) fun _ => ?_
  exact h

/-- Half 1: row sums of head 1 to head 3. -/
theorem part14 {Q : α → sProp 𝕄} {R : sProp 𝕄}  (kt : _ → Prog (TpuEff nD τ sig (Elt F) Λ₀ .tc) α)
    (h : iprop(Ctx m K ∗ PackSt m c 1 8 ∗ R) ⊢ wpc c (kt ⟨k0_pay48 (qb m c), k0_pay49 (kb m c), k0_pay50 (vb m c), constant S128x4096 .f32 0x00000000#32⟩) Q) :
    iprop(Ctx m K ∗ PackSt m c 1 3 ∗ R) ⊢ wpc c (k0_part14 (F := F) xM xW qM qW oM oW kM kW vM vW rM rW pM pW lM lW fM fW gM gW tM tW cc0_scratch5 cc0_scratch6 cc0_scratch7 cc0_scratch8 cc0_scratch9 (qb m c) (kb m c) (vb m c) (k0_pay40 (qb m c) (kb m c)) >>= kt) Q := by
  rw [k0_part14_eq_skeleton]; unfold k0_part14_skel
  simp only [semSignalWord, semWaitWord, Prog.lift, bind_assoc, Prog.bind_op, Prog.bind_ret, Prog.pure_eq_ret]
  refine seqL (pack_load m c 1 3 _ _ _ _ _ rfl rfl _ _) fun _ => ?_
  refine seq0 (pack_l m c 1 1 3 rfl _ _ rfl _ rfl _ _) ?_
  refine seqL (pack_load m c 1 4 _ _ _ _ _ rfl rfl _ _) fun _ => ?_
  refine seq0 (pack_o m c 1 2 4 rfl _ _ rfl _ rfl _ _) ?_
  refine seqL (pack_load m c 1 5 _ _ _ _ _ rfl rfl _ _) fun _ => ?_
  refine seq0 (pack_l m c 1 2 5 rfl _ _ rfl _ rfl _ _) ?_
  refine seqL (pack_load m c 1 6 _ _ _ _ _ rfl rfl _ _) fun _ => ?_
  refine seq0 (pack_o m c 1 3 6 rfl _ _ rfl _ rfl _ _) ?_
  refine seqL (pack_load m c 1 7 _ _ _ _ _ rfl rfl _ _) fun _ => ?_
  refine seq0 (pack_l m c 1 3 7 rfl _ _ rfl _ rfl _ _) ?_
  exact h

/-- Half 1: heads 4 and 5. -/
theorem part15 {Q : α → sProp 𝕄} {R : sProp 𝕄}  (kt : _ → Prog (TpuEff nD τ sig (Elt F) Λ₀ .tc) α)
    (h : iprop(Ctx m K ∗ PackSt m c 1 12 ∗ R) ⊢ wpc c (kt ⟨k0_pay58 (qb m c) (kb m c), k0_pay59 (qb m c) (kb m c) (vb m c)⟩) Q) :
    iprop(Ctx m K ∗ PackSt m c 1 8 ∗ R) ⊢ wpc c (k0_part15 (F := F) xM xW qM qW oM oW kM kW vM vW rM rW pM pW lM lW fM fW gM gW tM tW cc0_scratch5 cc0_scratch6 cc0_scratch7 cc0_scratch8 cc0_scratch9 (qb m c) (kb m c) (vb m c) (k0_pay48 (qb m c)) (k0_pay49 (kb m c)) (k0_pay50 (vb m c)) (constant S128x4096 .f32 0x00000000#32) >>= kt) Q := by
  rw [k0_part15_eq_skeleton]; unfold k0_part15_skel
  simp only [semSignalWord, semWaitWord, Prog.lift, bind_assoc, Prog.bind_op, Prog.bind_ret, Prog.pure_eq_ret]
  refine seqL (pack_load m c 1 8 _ _ _ _ _ rfl rfl _ _) fun _ => ?_
  refine seq0 (pack_o m c 1 4 8 rfl _ _ rfl _ rfl _ _) ?_
  refine seqL (pack_load m c 1 9 _ _ _ _ _ rfl rfl _ _) fun _ => ?_
  refine seq0 (pack_l m c 1 4 9 rfl _ _ rfl _ rfl _ _) ?_
  refine seqL (pack_load m c 1 10 _ _ _ _ _ rfl rfl _ _) fun _ => ?_
  refine seq0 (pack_o m c 1 5 10 rfl _ _ rfl _ rfl _ _) ?_
  refine seqL (pack_load m c 1 11 _ _ _ _ _ rfl rfl _ _) fun _ => ?_
  refine seq0 (pack_l m c 1 5 11 rfl _ _ rfl _ rfl _ _) ?_
  exact h

end Parts

end Cert.KernelIdeal.Run

end
-- ==== Proof.PartsSend.lean ====
/- The parts of the body that send the packed rows. -/
module

public import proofs.«01_k».proof.Proof.Parts

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

section Parts
variable {m K}
variable {α : Type} {c : Dev nD}

/-- Sends 5 to 9 of half 0. -/
theorem part11 {Q : α → sProp 𝕄} {R : sProp 𝕄} (v89) (v92) (v95) (v98) (v101)  (kt : _ → Prog (TpuEff nD τ sig (Elt F) Λ₀ .tc) α)
    (h : iprop(Ctx m K ∗ SendSt m c 0 9 ∗ R) ⊢ wpc c (kt ⟨⟩) Q) :
    iprop(Ctx m K ∗ SendSt m c 0 4 ∗ R) ⊢ wpc c (k0_part11 (F := F) xM xW qM qW oM oW kM kW vM vW rM rW pM pW lM lW fM fW gM gW tM tW cc0_scratch5 cc0_scratch6 cc0_scratch7 cc0_scratch8 cc0_scratch9 c v89 v92 v95 v98 v101 >>= kt) Q := by
  rw [k0_part11_eq_skeleton]; unfold k0_part11_skel
  unfold wpc; rw [wp_bind]
  simp (config := { zeta := false }) only [semSignalWord, semWaitWord, Prog.lift, bind_assoc, Prog.bind_op, Prog.bind_ret, Prog.pure_eq_ret]
  refine seq (send1_if m K c 0 4 5 rfl _ (by clear h; revert c; decide) _ (fun hh => Fin.ext (k0_dev20_eq c)) _ (k0_off5_eq c) _ _ rfl _ _ _) ?_
  refine seq (send1_if m K c 0 5 6 rfl _ (by clear h; revert c; decide) _ (fun hh => Fin.ext (k0_dev21_eq c)) _ (k0_off6_eq c) _ _ rfl _ _ _) ?_
  refine seq (send1_if m K c 0 6 7 rfl _ (by clear h; revert c; decide) _ (fun hh => Fin.ext (k0_dev22_eq c)) _ (k0_off7_eq c) _ _ rfl _ _ _) ?_
  refine seq (send1_if m K c 0 7 8 rfl _ (by clear h; revert c; decide) _ (fun hh => Fin.ext (k0_dev23_eq c)) _ (k0_off8_eq c) _ _ rfl _ _ _) ?_
  refine seq (send1_if m K c 0 8 9 rfl _ (by clear h; revert c; decide) _ (fun hh => Fin.ext (k0_dev24_eq c)) _ (k0_off9_eq c) _ _ rfl _ _ _) ?_
  exact ends h

/-- Sends 10 to 14 of half 0. -/
theorem part12 {Q : α → sProp 𝕄} {R : sProp 𝕄} (v104) (v107) (v110) (v113) (v116)  (kt : _ → Prog (TpuEff nD τ sig (Elt F) Λ₀ .tc) α)
    (h : iprop(Ctx m K ∗ SendSt m c 0 14 ∗ R) ⊢ wpc c (kt ⟨⟩) Q) :
    iprop(Ctx m K ∗ SendSt m c 0 9 ∗ R) ⊢ wpc c (k0_part12 (F := F) xM xW qM qW oM oW kM kW vM vW rM rW pM pW lM lW fM fW gM gW tM tW cc0_scratch5 cc0_scratch6 cc0_scratch7 cc0_scratch8 cc0_scratch9 c v104 v107 v110 v113 v116 >>= kt) Q := by
  rw [k0_part12_eq_skeleton]; unfold k0_part12_skel
  unfold wpc; rw [wp_bind]
  simp (config := { zeta := false }) only [semSignalWord, semWaitWord, Prog.lift, bind_assoc, Prog.bind_op, Prog.bind_ret, Prog.pure_eq_ret]
  refine seq (send1_if m K c 0 9 10 rfl _ (by clear h; revert c; decide) _ (fun hh => Fin.ext (k0_dev25_eq c)) _ (k0_off10_eq c) _ _ rfl _ _ _) ?_
  refine seq (send1_if m K c 0 10 11 rfl _ (by clear h; revert c; decide) _ (fun hh => Fin.ext (k0_dev26_eq c)) _ (k0_off11_eq c) _ _ rfl _ _ _) ?_
  refine seq (send1_if m K c 0 11 12 rfl _ (by clear h; revert c; decide) _ (fun hh => Fin.ext (k0_dev27_eq c)) _ (k0_off12_eq c) _ _ rfl _ _ _) ?_
  refine seq (send1_if m K c 0 12 13 rfl _ (by clear h; revert c; decide) _ (fun hh => Fin.ext (k0_dev28_eq c)) _ (k0_off13_eq c) _ _ rfl _ _ _) ?_
  refine seq (send1_if m K c 0 13 14 rfl _ (by clear h; revert c; decide) _ (fun hh => Fin.ext (k0_dev29_eq c)) _ (k0_off14_eq c) _ _ rfl _ _ _) ?_
  exact ends h

/-- The last send of half 0, then the first stores of half 1. -/
theorem part13 {Q : α → sProp 𝕄} {R : sProp 𝕄} (v119)  (kt : _ → Prog (TpuEff nD τ sig (Elt F) Λ₀ .tc) α)
    (h : iprop(Ctx m K ∗ SendSt m c 0 15 ∗ PackSt m c 1 3 ∗ R) ⊢ wpc c (kt (k0_pay40 (qb m c) (kb m c))) Q) :
    iprop(Ctx m K ∗ SendSt m c 0 14 ∗ PackSt m c 1 0 ∗ R) ⊢ wpc c (k0_part13 (F := F) xM xW qM qW oM oW kM kW vM vW rM rW pM pW lM lW fM fW gM gW tM tW cc0_scratch5 cc0_scratch6 cc0_scratch7 cc0_scratch8 cc0_scratch9 c v119 (qb m c) (kb m c) (vb m c) >>= kt) Q := by
  rw [k0_part13_eq_skeleton]; unfold k0_part13_skel
  unfold wpc; rw [wp_bind]
  simp (config := { zeta := false }) only [semSignalWord, semWaitWord, Prog.lift, bind_assoc, Prog.bind_op, Prog.bind_ret, Prog.pure_eq_ret]
  refine seq (send1_if m K c 0 14 15 rfl _ (by clear h; revert c; decide) _ (fun hh => Fin.ext (k0_dev30_eq c)) _ (k0_off15_eq c) _ _ rfl _ _ _) ?_
  refine swap ?_
  refine seqL (pack_load m c 1 0 _ _ _ _ _ rfl rfl _ _) fun _ => ?_
  refine seq0 (pack_o m c 1 0 0 rfl _ _ rfl _ rfl _ _) ?_
  refine seqL (pack_load m c 1 1 _ _ _ _ _ rfl rfl _ _) fun _ => ?_
  refine seq0 (pack_l m c 1 0 1 rfl _ _ rfl _ rfl _ _) ?_
  refine seqL (pack_load m c 1 2 _ _ _ _ _ rfl rfl _ _) fun _ => ?_
  refine seq0 (pack_o m c 1 1 2 rfl _ _ rfl _ rfl _ _) ?_
  exact swap (ends h)

/-- Sends 2 to 6 of half 1. -/
theorem part17 {Q : α → sProp 𝕄} {R : sProp 𝕄} (v80) (v83) (v86) (v89) (v92) (v95) (v519)  (kt : _ → Prog (TpuEff nD τ sig (Elt F) Λ₀ .tc) α)
    (h : ∀ r, iprop(Ctx m K ∗ SendSt m c 1 6 ∗ R) ⊢ wpc c (kt r) Q) :
    iprop(Ctx m K ∗ SendSt m c 1 1 ∗ R) ⊢ wpc c (k0_part17 (F := F) xM xW qM qW oM oW kM kW vM vW rM rW pM pW lM lW fM fW gM gW tM tW cc0_scratch5 cc0_scratch6 cc0_scratch7 cc0_scratch8 cc0_scratch9 c v80 v83 v86 v89 v92 v95 v519 >>= kt) Q := by
  rw [k0_part17_eq_skeleton]; unfold k0_part17_skel
  unfold wpc; rw [wp_bind]
  simp (config := { zeta := false }) only [semSignalWord, semWaitWord, Prog.lift, bind_assoc, Prog.bind_op, Prog.bind_ret, Prog.pure_eq_ret]
  refine seq (send1_if m K c 1 1 2 rfl _ (by clear h; revert c; decide) _ (fun hh => Fin.ext (k0_dev32_eq c)) _ (k0_off17_eq c) _ _ rfl _ _ _) ?_
  refine seq (send1_if m K c 1 2 3 rfl _ (by clear h; revert c; decide) _ (fun hh => Fin.ext (k0_dev33_eq c)) _ (k0_off18_eq c) _ _ rfl _ _ _) ?_
  refine seq (send1_if m K c 1 3 4 rfl _ (by clear h; revert c; decide) _ (fun hh => Fin.ext (k0_dev34_eq c)) _ (k0_off19_eq c) _ _ rfl _ _ _) ?_
  refine seq (send1_if m K c 1 4 5 rfl _ (by clear h; revert c; decide) _ (fun hh => Fin.ext (k0_dev35_eq c)) _ (k0_off20_eq c) _ _ rfl _ _ _) ?_
  refine seq (send1_if m K c 1 5 6 rfl _ (by clear h; revert c; decide) _ (fun hh => Fin.ext (k0_dev36_eq c)) _ (k0_off21_eq c) _ _ rfl _ _ _) ?_
  exact ends (h _)

/-- Sends 7 to 11 of half 1. -/
theorem part18 {Q : α → sProp 𝕄} {R : sProp 𝕄} (v95) (v98) (v101) (v104) (v107) (v110) (v549)  (kt : _ → Prog (TpuEff nD τ sig (Elt F) Λ₀ .tc) α)
    (h : ∀ r, iprop(Ctx m K ∗ SendSt m c 1 11 ∗ R) ⊢ wpc c (kt r) Q) :
    iprop(Ctx m K ∗ SendSt m c 1 6 ∗ R) ⊢ wpc c (k0_part18 (F := F) xM xW qM qW oM oW kM kW vM vW rM rW pM pW lM lW fM fW gM gW tM tW cc0_scratch5 cc0_scratch6 cc0_scratch7 cc0_scratch8 cc0_scratch9 c v95 v98 v101 v104 v107 v110 v549 >>= kt) Q := by
  rw [k0_part18_eq_skeleton]; unfold k0_part18_skel
  unfold wpc; rw [wp_bind]
  simp (config := { zeta := false }) only [semSignalWord, semWaitWord, Prog.lift, bind_assoc, Prog.bind_op, Prog.bind_ret, Prog.pure_eq_ret]
  refine seq (send1_if m K c 1 6 7 rfl _ (by clear h; revert c; decide) _ (fun hh => Fin.ext (k0_dev37_eq c)) _ (k0_off22_eq c) _ _ rfl _ _ _) ?_
  refine seq (send1_if m K c 1 7 8 rfl _ (by clear h; revert c; decide) _ (fun hh => Fin.ext (k0_dev38_eq c)) _ (k0_off23_eq c) _ _ rfl _ _ _) ?_
  refine seq (send1_if m K c 1 8 9 rfl _ (by clear h; revert c; decide) _ (fun hh => Fin.ext (k0_dev39_eq c)) _ (k0_off24_eq c) _ _ rfl _ _ _) ?_
  refine seq (send1_if m K c 1 9 10 rfl _ (by clear h; revert c; decide) _ (fun hh => Fin.ext (k0_dev40_eq c)) _ (k0_off25_eq c) _ _ rfl _ _ _) ?_
  refine seq (send1_if m K c 1 10 11 rfl _ (by clear h; revert c; decide) _ (fun hh => Fin.ext (k0_dev41_eq c)) _ (k0_off26_eq c) _ _ rfl _ _ _) ?_
  exact ends (h _)

end Parts

end Cert.KernelIdeal.Run

end
-- ==== Proof.PartsWait.lean ====
/- The parts of the body that wait, and that send the finished rows. -/
module

public import proofs.«01_k».proof.Proof.PartsSend

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

section Parts
variable {m K}
variable {α : Type} {c : Dev nD}

/-- Five waits for packed rows. -/
theorem part20 {Q : α → sProp 𝕄} {R : sProp 𝕄} (v80) (v83) (v86) (v89) (v92) (O : CellTallies nD τ sig Unit) (hO : (levAts L lv : sProp 𝕄) ⊢ MayWait (c : Thread nD τ) (csem 2) () O) (kt : _ → Prog (TpuEff nD τ sig (Elt F) Λ₀ .tc) α)
    (h : iprop(Ctx m K ∗ (Coll m c 2 10 ∗ Ow c O) ∗ R) ⊢ wpc c (kt ⟨⟩) Q) :
    iprop(Ctx m K ∗ (Coll m c 2 15 ∗ Ow c O) ∗ R) ⊢ wpc c (k0_part20 (F := F) xM xW qM qW oM oW kM kW vM vW rM rW pM pW lM lW fM fW gM gW tM tW cc0_scratch5 cc0_scratch6 cc0_scratch7 cc0_scratch8 cc0_scratch9 c v80 v83 v86 v89 v92 >>= kt) Q := by
  rw [k0_part20_eq_skeleton]; unfold k0_part20_skel
  simp only [semSignalWord, semWaitWord, Prog.lift, bind_assoc, Prog.bind_op, Prog.bind_ret, Prog.pure_eq_ret]
  refine seq (coll_step m K (k := 2) (wpE_waitDma2_eq 𝒱₀ (c : Thread nD τ) none Set.univ) rfl O hO 13 (by decide) _ _) ?_
  refine seq (coll_step m K (k := 2) (wpE_waitDma2_eq 𝒱₀ (c : Thread nD τ) none Set.univ) rfl O hO 12 (by decide) _ _) ?_
  refine seq (coll_step m K (k := 2) (wpE_waitDma2_eq 𝒱₀ (c : Thread nD τ) none Set.univ) rfl O hO 11 (by decide) _ _) ?_
  refine seq (coll_step m K (k := 2) (wpE_waitDma2_eq 𝒱₀ (c : Thread nD τ) none Set.univ) rfl O hO 10 (by decide) _ _) ?_
  refine seq (coll_step m K (k := 2) (wpE_waitDma2_eq 𝒱₀ (c : Thread nD τ) none Set.univ) rfl O hO 9 (by decide) _ _) ?_
  exact h

/-- Five waits for packed rows. -/
theorem part21 {Q : α → sProp 𝕄} {R : sProp 𝕄} (v95) (v98) (v101) (v104) (v107) (O : CellTallies nD τ sig Unit) (hO : (levAts L lv : sProp 𝕄) ⊢ MayWait (c : Thread nD τ) (csem 2) () O) (kt : _ → Prog (TpuEff nD τ sig (Elt F) Λ₀ .tc) α)
    (h : iprop(Ctx m K ∗ (Coll m c 2 5 ∗ Ow c O) ∗ R) ⊢ wpc c (kt ⟨⟩) Q) :
    iprop(Ctx m K ∗ (Coll m c 2 10 ∗ Ow c O) ∗ R) ⊢ wpc c (k0_part21 (F := F) xM xW qM qW oM oW kM kW vM vW rM rW pM pW lM lW fM fW gM gW tM tW cc0_scratch5 cc0_scratch6 cc0_scratch7 cc0_scratch8 cc0_scratch9 c v95 v98 v101 v104 v107 >>= kt) Q := by
  rw [k0_part21_eq_skeleton]; unfold k0_part21_skel
  simp only [semSignalWord, semWaitWord, Prog.lift, bind_assoc, Prog.bind_op, Prog.bind_ret, Prog.pure_eq_ret]
  refine seq (coll_step m K (k := 2) (wpE_waitDma2_eq 𝒱₀ (c : Thread nD τ) none Set.univ) rfl O hO 8 (by decide) _ _) ?_
  refine seq (coll_step m K (k := 2) (wpE_waitDma2_eq 𝒱₀ (c : Thread nD τ) none Set.univ) rfl O hO 7 (by decide) _ _) ?_
  refine seq (coll_step m K (k := 2) (wpE_waitDma2_eq 𝒱₀ (c : Thread nD τ) none Set.univ) rfl O hO 6 (by decide) _ _) ?_
  refine seq (coll_step m K (k := 2) (wpE_waitDma2_eq 𝒱₀ (c : Thread nD τ) none Set.univ) rfl O hO 5 (by decide) _ _) ?_
  refine seq (coll_step m K (k := 2) (wpE_waitDma2_eq 𝒱₀ (c : Thread nD τ) none Set.univ) rfl O hO 4 (by decide) _ _) ?_
  exact h

/-- Sends 1 to 4 of the finished rows. -/
theorem part24 {Q : α → sProp 𝕄} {R : sProp 𝕄} (v2) (v730) (f : Vec F S16x1024 .bf16) (hf : Rows m c f) (kt : _ → Prog (TpuEff nD τ sig (Elt F) Λ₀ .tc) α)
    (h : ∀ r1 r2 r3 r4, iprop(Ctx m K ∗ Send2St c f 4 ∗ R) ⊢ wpc c (kt ⟨r1, r2, r3, r4⟩) Q) :
    iprop(Ctx m K ∗ Send2St c f 0 ∗ R) ⊢ wpc c (k0_part24 (F := F) xM xW qM qW oM oW kM kW vM vW rM rW pM pW lM lW fM fW gM gW tM tW cc0_scratch5 cc0_scratch6 cc0_scratch7 cc0_scratch8 cc0_scratch9 c v2 v730 >>= kt) Q := by
  rw [k0_part24_eq_skeleton]; unfold k0_part24_skel
  simp only [semSignalWord, semWaitWord, Prog.lift, bind_assoc, Prog.bind_op, Prog.bind_ret, Prog.pure_eq_ret]
  refine seq (send2_step m K c 1 0 f hf rfl _ (Fin.ext (k0_dev46_eq c)) _ (k0_off34_eq c) _ _ Q) ?_
  refine seq (send2_step m K c 2 1 f hf rfl _ (Fin.ext (k0_dev47_eq c)) _ (k0_off34_eq c) _ _ Q) ?_
  refine seq (send2_step m K c 3 2 f hf rfl _ (Fin.ext (k0_dev48_eq c)) _ (k0_off34_eq c) _ _ Q) ?_
  refine seq (send2_step m K c 4 3 f hf rfl _ (Fin.ext (k0_dev49_eq c)) _ (k0_off34_eq c) _ _ Q) ?_
  exact h _ _ _ _

/-- Sends 5 to 9 of the finished rows. -/
theorem part25 {Q : α → sProp 𝕄} {R : sProp 𝕄} (v2) (f : Vec F S16x1024 .bf16) (hf : Rows m c f) (kt : _ → Prog (TpuEff nD τ sig (Elt F) Λ₀ .tc) α)
    (h : ∀ r1 r2 r3 r4 r5 r6, iprop(Ctx m K ∗ Send2St c f 9 ∗ R) ⊢ wpc c (kt ⟨r1, r2, r3, r4, r5, r6⟩) Q) :
    iprop(Ctx m K ∗ Send2St c f 4 ∗ R) ⊢ wpc c (k0_part25 (F := F) xM xW qM qW oM oW kM kW vM vW rM rW pM pW lM lW fM fW gM gW tM tW cc0_scratch5 cc0_scratch6 cc0_scratch7 cc0_scratch8 cc0_scratch9 c v2 >>= kt) Q := by
  rw [k0_part25_eq_skeleton]; unfold k0_part25_skel
  simp only [semSignalWord, semWaitWord, Prog.lift, bind_assoc, Prog.bind_op, Prog.bind_ret, Prog.pure_eq_ret]
  refine seq (send2_step m K c 5 4 f hf rfl _ (Fin.ext (k0_dev50_eq c)) _ (k0_off34_eq c) _ _ Q) ?_
  refine seq (send2_step m K c 6 5 f hf rfl _ (Fin.ext (k0_dev51_eq c)) _ (k0_off34_eq c) _ _ Q) ?_
  refine seq (send2_step m K c 7 6 f hf rfl _ (Fin.ext (k0_dev52_eq c)) _ (k0_off34_eq c) _ _ Q) ?_
  refine seq (send2_step m K c 8 7 f hf rfl _ (Fin.ext (k0_dev53_eq c)) _ (k0_off34_eq c) _ _ Q) ?_
  refine seq (send2_step m K c 9 8 f hf rfl _ (Fin.ext (k0_dev54_eq c)) _ (k0_off34_eq c) _ _ Q) ?_
  exact h _ _ _ _ _ _

/-- Sends 10 to 14 of the finished rows. -/
theorem part26 {Q : α → sProp 𝕄} {R : sProp 𝕄} (v2) (v784) (c1_i32_561) (f : Vec F S16x1024 .bf16) (hf : Rows m c f) (kt : _ → Prog (TpuEff nD τ sig (Elt F) Λ₀ .tc) α)
    (h : ∀ r1 r2 r3 r4 r5, iprop(Ctx m K ∗ Send2St c f 14 ∗ R) ⊢ wpc c (kt ⟨r1, r2, r3, r4, r5⟩) Q) :
    iprop(Ctx m K ∗ Send2St c f 9 ∗ R) ⊢ wpc c (k0_part26 (F := F) xM xW qM qW oM oW kM kW vM vW rM rW pM pW lM lW fM fW gM gW tM tW cc0_scratch5 cc0_scratch6 cc0_scratch7 cc0_scratch8 cc0_scratch9 c v2 v784 c1_i32_561 >>= kt) Q := by
  rw [k0_part26_eq_skeleton]; unfold k0_part26_skel
  simp only [semSignalWord, semWaitWord, Prog.lift, bind_assoc, Prog.bind_op, Prog.bind_ret, Prog.pure_eq_ret]
  refine seq (send2_step m K c 10 9 f hf rfl _ (Fin.ext (k0_dev55_eq c)) _ (k0_off34_eq c) _ _ Q) ?_
  refine seq (send2_step m K c 11 10 f hf rfl _ (Fin.ext (k0_dev56_eq c)) _ (k0_off34_eq c) _ _ Q) ?_
  refine seq (send2_step m K c 12 11 f hf rfl _ (Fin.ext (k0_dev57_eq c)) _ (k0_off34_eq c) _ _ Q) ?_
  refine seq (send2_step m K c 13 12 f hf rfl _ (Fin.ext (k0_dev58_eq c)) _ (k0_off34_eq c) _ _ Q) ?_
  refine seq (send2_step m K c 14 13 f hf rfl _ (Fin.ext (k0_dev59_eq c)) _ (k0_off34_eq c) _ _ Q) ?_
  exact h _ _ _ _ _

/-- Seven waits for the sends of packed rows. -/
theorem part28 {Q : α → sProp 𝕄} {R : sProp 𝕄} (O : CellTallies nD τ sig Unit) (hO : (levAts L lv : sProp 𝕄) ⊢ MayWait (c : Thread nD τ) (csem 1) () O) (kt : _ → Prog (TpuEff nD τ sig (Elt F) Λ₀ .tc) α)
    (h : iprop(Ctx m K ∗ (Coll m c 1 3 ∗ Ow c O) ∗ R) ⊢ wpc c (kt ⟨⟩) Q) :
    iprop(Ctx m K ∗ (Coll m c 1 10 ∗ Ow c O) ∗ R) ⊢ wpc c (k0_part28 (F := F) xM xW qM qW oM oW kM kW vM vW rM rW pM pW lM lW fM fW gM gW tM tW cc0_scratch5 cc0_scratch6 cc0_scratch7 cc0_scratch8 cc0_scratch9 c >>= kt) Q := by
  rw [k0_part28_eq_skeleton]; unfold k0_part28_skel
  simp only [semSignalWord, semWaitWord, Prog.lift, bind_assoc, Prog.bind_op, Prog.bind_ret, Prog.pure_eq_ret]
  refine seq (coll_step m K (k := 1) (wpE_waitDma2_eq 𝒱₀ (c : Thread nD τ) none Set.univ) rfl O hO 8 (by decide) _ _) ?_
  refine seq (coll_step m K (k := 1) (wpE_waitDma2_eq 𝒱₀ (c : Thread nD τ) none Set.univ) rfl O hO 7 (by decide) _ _) ?_
  refine seq (coll_step m K (k := 1) (wpE_waitDma2_eq 𝒱₀ (c : Thread nD τ) none Set.univ) rfl O hO 6 (by decide) _ _) ?_
  refine seq (coll_step m K (k := 1) (wpE_waitDma2_eq 𝒱₀ (c : Thread nD τ) none Set.univ) rfl O hO 5 (by decide) _ _) ?_
  refine seq (coll_step m K (k := 1) (wpE_waitDma2_eq 𝒱₀ (c : Thread nD τ) none Set.univ) rfl O hO 4 (by decide) _ _) ?_
  refine seq (coll_step m K (k := 1) (wpE_waitDma2_eq 𝒱₀ (c : Thread nD τ) none Set.univ) rfl O hO 3 (by decide) _ _) ?_
  refine seq (coll_step m K (k := 1) (wpE_waitDma2_eq 𝒱₀ (c : Thread nD τ) none Set.univ) rfl O hO 2 (by decide) _ _) ?_
  exact h

/-- Nine waits for finished rows. -/
theorem part30 {Q : α → sProp 𝕄} {R : sProp 𝕄} (v760) (v766) (v772) (v778) (v784) (v790) (v796) (v802) (v808) (O : CellTallies nD τ sig Unit) (hO : (levAts L lv : sProp 𝕄) ⊢ MayWait (c : Thread nD τ) (csem 4) () O) (kt : _ → Prog (TpuEff nD τ sig (Elt F) Λ₀ .tc) α)
    (h : ∀ r1 r2, iprop(Ctx m K ∗ (Coll m c 4 2 ∗ Ow c O) ∗ R) ⊢ wpc c (kt ⟨r1, r2⟩) Q) :
    iprop(Ctx m K ∗ (Coll m c 4 11 ∗ Ow c O) ∗ R) ⊢ wpc c (k0_part30 (F := F) xM xW qM qW oM oW kM kW vM vW rM rW pM pW lM lW fM fW gM gW tM tW cc0_scratch5 cc0_scratch6 cc0_scratch7 cc0_scratch8 cc0_scratch9 c v760 v766 v772 v778 v784 v790 v796 v802 v808 >>= kt) Q := by
  rw [k0_part30_eq_skeleton]; unfold k0_part30_skel
  simp only [semSignalWord, semWaitWord, Prog.lift, bind_assoc, Prog.bind_op, Prog.bind_ret, Prog.pure_eq_ret]
  refine seq (coll_step m K (k := 4) (wpE_waitDma2_eq 𝒱₀ (c : Thread nD τ) none Set.univ) (row_amt _ _) O hO 9 (by decide) _ _) ?_
  refine seq (coll_step m K (k := 4) (wpE_waitDma2_eq 𝒱₀ (c : Thread nD τ) none Set.univ) (row_amt _ _) O hO 8 (by decide) _ _) ?_
  refine seq (coll_step m K (k := 4) (wpE_waitDma2_eq 𝒱₀ (c : Thread nD τ) none Set.univ) (row_amt _ _) O hO 7 (by decide) _ _) ?_
  refine seq (coll_step m K (k := 4) (wpE_waitDma2_eq 𝒱₀ (c : Thread nD τ) none Set.univ) (row_amt _ _) O hO 6 (by decide) _ _) ?_
  refine seq (coll_step m K (k := 4) (wpE_waitDma2_eq 𝒱₀ (c : Thread nD τ) none Set.univ) (row_amt _ _) O hO 5 (by decide) _ _) ?_
  refine seq (coll_step m K (k := 4) (wpE_waitDma2_eq 𝒱₀ (c : Thread nD τ) none Set.univ) (row_amt _ _) O hO 4 (by decide) _ _) ?_
  refine seq (coll_step m K (k := 4) (wpE_waitDma2_eq 𝒱₀ (c : Thread nD τ) none Set.univ) (row_amt _ _) O hO 3 (by decide) _ _) ?_
  refine seq (coll_step m K (k := 4) (wpE_waitDma2_eq 𝒱₀ (c : Thread nD τ) none Set.univ) (row_amt _ _) O hO 2 (by decide) _ _) ?_
  refine seq (coll_step m K (k := 4) (wpE_waitDma2_eq 𝒱₀ (c : Thread nD τ) none Set.univ) (row_amt _ _) O hO 1 (by decide) _ _) ?_
  exact h _ _

end Parts

end Cert.KernelIdeal.Run

end
-- ==== Proof.Glue.lean ====
/- What is held between the parts of the body. -/
module

public import proofs.«01_k».proof.Proof.PartsWait

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

section Glue
variable {m K}

/-- A step whose continuation holds something that depends on the value read. -/
theorem seqV {S R W' : sProp 𝕄} {β : Type} {S' V : β → sProp 𝕄} (h : S ⊢ iprop((∀ v, S' v -∗ V v) -∗ W')) (h' : ∀ v, iprop(Ctx m K ∗ S' v ∗ R) ⊢ V v) :
    iprop(Ctx m K ∗ S ∗ R) ⊢ W' := by
  iintro ⟨#HC, HS, HR⟩
  iapply h $$ HS
  iintro %v HS
  iapply (h' v)
  isplitr; · iexact HC
  isplitl [HS]; · iexact HS
  iexact HR

/-- Something held that exists. -/
theorem exE {β : Type} {S : β → sProp 𝕄} {R W : sProp 𝕄} (h : ∀ v, iprop(Ctx m K ∗ S v ∗ R) ⊢ W) : iprop(Ctx m K ∗ (∃ v, S v) ∗ R) ⊢ W := by
  iintro ⟨#HC, ⟨%v, HS⟩, HR⟩
  iapply (h v)
  isplitr; · iexact HC
  isplitl [HS]; · iexact HS
  iexact HR

/-- A fact held. -/
theorem pureE {φ : Prop} {S R W : sProp 𝕄} (h : φ → iprop(Ctx m K ∗ S ∗ R) ⊢ W) : iprop(Ctx m K ∗ (⌜φ⌝ ∗ S) ∗ R) ⊢ W := by
  iintro ⟨#HC, ⟨%hp, HS⟩, HR⟩
  iapply (h hp)
  isplitr; · iexact HC
  isplitl [HS]; · iexact HS
  iexact HR

/-- Everything held, put another way. -/
theorem reg {A B W : sProp 𝕄} (h : A ⊢ B) (h' : iprop(Ctx m K ∗ B) ⊢ W) : iprop(Ctx m K ∗ A) ⊢ W := by
  iintro ⟨#HC, HA⟩
  iapply h'
  isplitr; · iexact HC
  iapply h; iexact HA

variable (m) (c : Dev nD)

/-- Credits of one cell added up. -/
theorem cred_join (g : GSem nD τ sig) (a n : ℕ) : iprop(cred (tallyAt g () n) ∗ cred (tallyAt g () (a * n))) ⊢ (cred (tallyAt g () ((a + 1) * n)) : sProp 𝕄) := by
  rw [show (a + 1) * n = n + a * n from by ring, ← tallyAt_add]
  exact (cred_add _ _).2

/-- The keys and values copied in, and what is left of the cell. -/
theorem copy_done (O : CellTallies nD τ sig Unit) : iprop(Done m c 5 ∗ Ow c O)
    ⊢ iprop((((c : Thread nD τ).loc cc0_scratch4) ↦[Finset.univ]{fullShare} (kvv m c : Vec F S4096x512 .f32))
      ∗ ((((c : Thread nD τ).loc main_arg3) ↦[Finset.univ]{fullShare} (kV m c : Vec F S4096x2x128 .f32))
      ∗ (((c : Thread nD τ).loc main_arg4) ↦[Finset.univ]{fullShare} (vV m c : Vec F S4096x2x128 .f32))
      ∗ atPos ER (cell c 5) 1 ∅ 0 ∗ Ow c O)) := by
  unfold Done
  iintro ⟨⟨Ha, Hp⟩, HO⟩
  ihave Hp := (copy_end m c) $$ [Hp]
  · iapply (bs_mono fun b _ => Entails.of_eq (pay_five m c b)); iexact Hp
  icases Hp with ⟨H4, Hk, Hv⟩
  isplitl [H4]; · iexact H4
  isplitl [Hk]; · iexact Hk
  isplitl [Hv]; · iexact Hv
  isplitl [Ha]; · iexact Ha
  iexact HO

/-- The rows of the other devices' gathered results that `c` fills. -/
def Fill (c : Dev nD) : sProp 𝕄 :=
  bigSep (rem 0) fun d => iprop(∃ g : Vec F S256x1024 .bf16, (((c + d : Dev nD) : Thread nD τ).loc cc0_scratch3) ↦[rowsS c]{fullShare} g)

/-- The tokens the sends of packed rows use. -/
def Toks1 (c : Dev nD) : sProp 𝕄 :=
  iprop((bigSep (rem 0) fun d => dutyTok ER (cell c 1) 0 d) ∗ bigSep (rem 0) fun d => dutyTok ER (cell (c + d) 2) 0 d)

/-- The tokens the sends of finished rows use. -/
def Toks2 (c : Dev nD) : sProp 𝕄 :=
  iprop((bigSep (rem 0) fun d => dutyTok ER (cell c 3) 0 d) ∗ bigSep (rem 0) fun d => dutyTok ER (cell (c + d) 4) 0 d)

theorem cred_none (g : GSem nD τ sig) : (emp : sProp 𝕄) ⊢ cred (tallyAt g () 0) := by
  rw [tallyAt_zero, cred_zero]

/-- The barrier passed: the sends of packed rows may start. -/
theorem bar_done : iprop(Toks1 c ∗ ((Done m c 0 ∗ Ow c (owe c 4 (rem 0) + owe c 2 (rem 0) + owe c 0 ∅)) ∗ bigSep (Mine c 0 0) fun d => packC m c (c + d)))
    ⊢ iprop(SendSt m c 0 0 ∗ (atPos ER (cell c 0) 1 ∅ 0 ∗ Fill c)) := by
  unfold Toks1 Done SendSt Fill sendItem1
  rw [unsent_first, show (15 - (rem 0).card) * amt (Fin.castSucc (1 : Fin 6)) = 0 from by rw [show (rem 0).card = 15 from by decide, Nat.sub_self, Nat.zero_mul]]
  iintro ⟨⟨Ht1, Ht2⟩, ⟨⟨Ha, Hp⟩, HO⟩, HM⟩
  ihave Hp := (bar_end c) $$ [Hp]
  · iapply (bs_mono fun b _ => Entails.of_eq (pay_zero m c b)); iexact Hp
  icases Hp with ⟨Hs, Hr⟩
  isplitl [Ht1 Ht2 HO HM Hs]
  · isplitl [HO]; · iexact HO
    isplitl [Ht1 Ht2 Hs]
    · rw [bs_sep, bs_sep]
      isplitl [Ht1]; · iexact Ht1
      isplitl [Ht2]; · iexact Ht2
      iexact Hs
    isplitl [HM]; · iexact HM
    iapply (cred_none (cell c 1)); iempintro
  isplitl [Ha]; · iexact Ha
  iexact Hr

/-- The chunk of half 0 that is the device's own, when it is there. -/
def Left (c : Dev nD) (h : ℕ) : sProp 𝕄 := bigSep (Mine c h 15) fun d => packC m c (c + d)

/-- Half 0 sent, half 1 packed. -/
theorem half_done : iprop((bigSep (Mine c 1 0) fun d => packC m c (c + d)) ∗ SendSt m c 0 15) ⊢ iprop(SendSt m c 1 0 ∗ Left m c 0) := by
  unfold SendSt Left
  rw [unsent_turn]
  iintro ⟨HM, HO, Hi, HL, Hc⟩
  isplitr [HL]
  · isplitl [HO]; · iexact HO
    isplitl [Hi]; · iexact Hi
    isplitl [HM]; · iexact HM
    iexact Hc
  iexact HL

/-- Both halves sent: what is left is the device's own chunk. -/
theorem sends_done : iprop(SendSt m c 1 15 ∗ Left m c 0)
    ⊢ iprop(packC m c c ∗ (Ow c (owe c 4 (rem 0) + owe c 2 ∅ + owe c 0 ∅) ∗ cred (tallyAt (cell c 1) () (15 * amt (Fin.castSucc (1 : Fin 6)))))) := by
  have hM : iprop((bigSep (Mine c 0 15) fun d => packC m c (c + d)) ∗ (bigSep (Mine c 1 15) fun d => packC m c (c + d))) ⊢ packC m c c := by
    rw [← bs_union (mine_last c).1, (mine_last c).2, show bigSep {0} (fun d : Du => packC m c (c + d)) = packC m c (c + 0) from bigSep_singleton, show c + (0 : Du) = c from add_zero c]
  unfold SendSt Left
  rw [unsent_last, show bigSep ∅ (fun d : Du => sendItem1 (F := F) c d) = iprop(emp) from bigSep_empty]
  iintro ⟨⟨HO, -, HM, Hc⟩, HL⟩
  isplitl [HM HL]
  · iapply hM
    isplitl [HL]; · iexact HL
    iexact HM
  isplitl [HO]; · iexact HO
  iexact Hc

/-- Every device's packed rows landed. -/
theorem land_done (O : CellTallies nD τ sig Unit) : iprop((Done m c 2 ∗ Ow c O) ∗ landPay m c 0)
    ⊢ iprop(∃ a : Vec F S16x16x1152 .bf16, ⌜Landed m c a⌝ ∗ ((((c : Thread nD τ).loc cc0_scratch1) ↦[Finset.univ]{fullShare} a) ∗ (atPos ER (cell c 2) 1 ∅ 0 ∗ Ow c O))) := by
  unfold Done
  iintro ⟨⟨⟨Ha, Hp⟩, HO⟩, H0⟩
  ihave Hp := (land_end m c) $$ [Hp H0]
  · isplitl [H0]; · iexact H0
    iapply (bs_mono fun b _ => Entails.of_eq (pay_two m c b)); iexact Hp
  icases Hp with ⟨%a, %ha, H1⟩
  iexists a
  isplitr; · ipureintro; exact ha
  isplitl [H1]; · iexact H1
  isplitl [Ha]; · iexact Ha
  iexact HO

/-- The finished rows shared out to the sends. -/
theorem rows_ready (f : Vec F S16x1024 .bf16) : iprop((((c : Thread nD τ).loc cc0_scratch2) ↦[Finset.univ]{fullShare} f) ∗ Toks2 c ∗ Fill (F := F) c ∗ Ow c (owe c 4 (rem 0) + owe c 2 ∅ + owe c 0 ∅))
    ⊢ iprop(Send2St c f 0 ∗ (((c : Thread nD τ).loc cc0_scratch2) ↦[Finset.univ]{ShareLeaves.leaf 4 fullShare (0 : Du)} f)) := by
  rw [row_split]
  unfold Toks2 Fill Send2St sendItem2
  rw [Nat.zero_mul]
  iintro ⟨⟨Hl, Hs⟩, ⟨Ht3, Ht4⟩, Hf, HO⟩
  isplitr [Hl]
  · isplitl [HO]; · iexact HO
    isplitl [Ht3 Ht4 Hf Hs]
    · rw [bs_sep, bs_sep, bs_sep]
      isplitl [Ht3]; · iexact Ht3
      isplitl [Ht4]; · iexact Ht4
      isplitl [Hf]; · iexact Hf
      iexact Hs
    iapply (cred_none (cell c 3)); iempintro
  iexact Hl

/-- The finished rows sent: nothing is owed any more. -/
theorem rows_sent (f : Vec F S16x1024 .bf16) : Send2St c f 15 ⊢ iprop(Ow c 0 ∗ cred (tallyAt (cell c 3) () (15 * amt (Fin.castSucc (3 : Fin 6))))) := by
  unfold Send2St
  rw [rem_last, owe_empty, owe_empty, owe_empty, add_zero, add_zero]
  iintro ⟨HO, -, Hc⟩
  isplitl [HO]; · iexact HO
  iexact Hc

/-- Every device's finished rows gathered. -/
theorem gath_done (O : CellTallies nD τ sig Unit) : iprop((Done m c 4 ∗ Ow c O) ∗ gathPay m c 0)
    ⊢ iprop(∃ fs : Dev nD → FVec F S16x1024 .bf16, ⌜∀ p, Rows m p (fs p)⌝ ∗ ((((c : Thread nD τ).loc cc0_scratch3) ↦[Finset.univ]{fullShare} (gather fs : Vec F S256x1024 .bf16)) ∗ (atPos ER (cell c 4) 1 ∅ 0 ∗ Ow c O))) := by
  unfold Done
  iintro ⟨⟨⟨Ha, Hp⟩, HO⟩, H0⟩
  ihave Hp := (gath_end m c) $$ [Hp H0]
  · isplitl [H0]; · iexact H0
    iapply (bs_mono fun b _ => Entails.of_eq (pay_four m c b)); iexact Hp
  icases Hp with ⟨%a, %ha, H1⟩
  iexists a
  isplitr; · ipureintro; exact ha
  isplitl [H1]; · iexact H1
  isplitl [Ha]; · iexact Ha
  iexact HO

theorem turn {A B C : sProp 𝕄} : iprop((A ∗ B) ∗ C) ⊢ iprop((C ∗ A) ∗ B) := by
  iintro ⟨⟨HA, HB⟩, HC⟩
  isplitr [HB]
  · isplitl [HC]; · iexact HC
    iexact HA
  iexact HB

theorem turn' {A B C : sProp 𝕄} : iprop((A ∗ B) ∗ C) ⊢ iprop((C ∗ B) ∗ A) := by
  iintro ⟨⟨HA, HB⟩, HC⟩
  isplitr [HA]
  · isplitl [HC]; · iexact HC
    iexact HB
  iexact HA

/-- The result stored: what is held, put another way. -/
theorem result_turn (c : Dev nD) (g : Vec F S256x1024 .bf16) (out : Vec F S256x1024 .f32) (R : sProp 𝕄) :
    iprop((((c : Thread nD τ).loc cc0_stg3_0) ↦[Finset.univ]{fullShare} out) ∗ ((((c : Thread nD τ).loc cc0_scratch3) ↦[Finset.univ]{fullShare} g) ∗ (atPos ER (cell c 4) 1 ∅ 0 ∗ Ow c 0)) ∗ Coll m c 3 15 ∗ R)
      ⊢ iprop((Coll m c 3 15 ∗ Ow c 0) ∗ ((((c : Thread nD τ).loc cc0_stg3_0) ↦[Finset.univ]{fullShare} out) ∗ (∃ g : Vec F S256x1024 .bf16, (((c : Thread nD τ).loc cc0_scratch3) ↦[Finset.univ]{fullShare} g)) ∗ atPos ER (cell c 4) 1 ∅ 0) ∗ R) := by
  iintro ⟨Ho, ⟨Hg, Ha, HO⟩, HC, HR⟩
  isplitl [HC HO]
  · isplitl [HC]; · iexact HC
    iexact HO
  isplitr [HR]
  · isplitl [Ho]; · iexact Ho
    isplitl [Hg]; · iexists g; iexact Hg
    iexact Ha
  iexact HR

end Glue

end Cert.KernelIdeal.Run

end
-- ==== Proof.PartsMix.lean ====
/- The parts of the body that do several things. -/
module

public import proofs.«01_k».proof.Proof.Glue

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

section Parts
variable {m K}
variable {α : Type} {c : Dev nD}

/-- The copies of the keys and values started, and the first signal. -/
theorem part1 {Q : α → sProp 𝕄} {R : sProp 𝕄}  (kt : _ → Prog (TpuEff nD τ sig (Elt F) Λ₀ .tc) α)
    (h : ∀ v2 v22, iprop(Ctx m K ∗ SigSt c 1 ∗ cred (tallyAt (cell c 5) () (4 * amt (Fin.castSucc (5 : Fin 6)))) ∗ R) ⊢ wpc c (kt ⟨c, v2, (SemArray.scalar (sig.barrier 0 rfl)), v22⟩) Q) :
    iprop(Ctx m K ∗ (dutyTok ER (cell c 5) 0 (0 : Du) ∗ (∃ f : Vec F S4096x512 .f32, ((c : Thread nD τ).loc cc0_scratch4) ↦[colS (0 : Du)]{fullShare} f) ∗ (((c : Thread nD τ).loc main_arg3) ↦[hdS (0 % 2)]{fullShare} (kV m c : Vec F S4096x2x128 .f32))) ∗ (dutyTok ER (cell c 5) 0 (1 : Du) ∗ (∃ f : Vec F S4096x512 .f32, ((c : Thread nD τ).loc cc0_scratch4) ↦[colS (1 : Du)]{fullShare} f) ∗ (((c : Thread nD τ).loc main_arg3) ↦[hdS (1 % 2)]{fullShare} (kV m c : Vec F S4096x2x128 .f32))) ∗ (dutyTok ER (cell c 5) 0 (2 : Du) ∗ (∃ f : Vec F S4096x512 .f32, ((c : Thread nD τ).loc cc0_scratch4) ↦[colS (2 : Du)]{fullShare} f) ∗ (((c : Thread nD τ).loc main_arg4) ↦[hdS (2 % 2)]{fullShare} (vV m c : Vec F S4096x2x128 .f32))) ∗ (dutyTok ER (cell c 5) 0 (3 : Du) ∗ (∃ f : Vec F S4096x512 .f32, ((c : Thread nD τ).loc cc0_scratch4) ↦[colS (3 : Du)]{fullShare} f) ∗ (((c : Thread nD τ).loc main_arg4) ↦[hdS (3 % 2)]{fullShare} (vV m c : Vec F S4096x2x128 .f32))) ∗ SigSt c 0 ∗ R) ⊢ wpc c (k0_part1 (F := F) xM xW qM qW oM oW kM kW vM vW rM rW pM pW lM lW fM fW gM gW tM tW cc0_scratch5 cc0_scratch6 cc0_scratch7 cc0_scratch8 cc0_scratch9  >>= kt) Q := by
  rw [k0_part1_eq_skeleton]; unfold k0_part1_skel
  simp only [semSignalWord, semWaitWord, Prog.lift, bind_assoc, Prog.bind_op, Prog.bind_ret, Prog.pure_eq_ret]
  unfold wpc; rw [wp_deviceId]
  refine seq (copy3 m K c (0 : Du) (by decide) _ rfl _ _ rfl _ _ Q) (seqE (Entails.of_eq (by rw [Nat.one_mul] : (cred (tallyAt (cell c 5) () (amt (Fin.castSucc (5 : Fin 6)))) : sProp 𝕄) = cred (tallyAt (cell c 5) () (1 * amt (Fin.castSucc (5 : Fin 6)))))) (swap ?_))
  refine seq (copy3 m K c (1 : Du) (by decide) _ rfl _ _ rfl _ _ Q) (join (seqE (cred_join (cell c 5) 1 _) (swap ?_)))
  refine seq (copy4 m K c (2 : Du) (by decide) (by decide) _ rfl _ _ rfl _ _ Q) (join (seqE (cred_join (cell c 5) 2 _) (swap ?_)))
  refine seq (copy4 m K c (3 : Du) (by decide) (by decide) _ rfl _ _ rfl _ _ Q) (join (seqE (cred_join (cell c 5) 3 _) (swap ?_)))
  refine seq (sig_step m K c 1 0 rfl _ (Fin.ext (k0_dev1_eq c)) _ rfl _ Q) ?_
  exact h _ _

/-- The copies waited for, the keys and values read, head 0 of half 0 stored. -/
theorem part6 {Q : α → sProp 𝕄} {R : sProp 𝕄} (O : CellTallies nD τ sig Unit) (hO : (levAts L lv : sProp 𝕄) ⊢ MayWait (c : Thread nD τ) (csem 5) () O) (kt : _ → Prog (TpuEff nD τ sig (Elt F) Λ₀ .tc) α)
    (h : iprop(Ctx m K ∗ PackSt m c 0 1 ∗ ((((c : Thread nD τ).loc cc0_scratch4) ↦[Finset.univ]{fullShare} (kvv m c : Vec F S4096x512 .f32)) ∗ ((((c : Thread nD τ).loc main_arg3) ↦[Finset.univ]{fullShare} (kV m c : Vec F S4096x2x128 .f32)) ∗ (((c : Thread nD τ).loc main_arg4) ↦[Finset.univ]{fullShare} (vV m c : Vec F S4096x2x128 .f32)) ∗ atPos ER (cell c 5) 1 ∅ 0 ∗ Ow c O)) ∗ R) ⊢ wpc c (kt ⟨kb m c, vb m c, k0_pay6 (qb m c) (kvv m c)⟩) Q) :
    iprop(Ctx m K ∗ (Coll m c 5 4 ∗ Ow c O) ∗ PackSt m c 0 0 ∗ R) ⊢ wpc c (k0_part6 (F := F) xM xW qM qW oM oW kM kW vM vW rM rW pM pW lM lW fM fW gM gW tM tW cc0_scratch5 cc0_scratch6 cc0_scratch7 cc0_scratch8 cc0_scratch9 (qb m c) >>= kt) Q := by
  rw [k0_part6_eq_skeleton]; unfold k0_part6_skel
  simp only [semSignalWord, semWaitWord, Prog.lift, bind_assoc, Prog.bind_op, Prog.bind_ret, Prog.pure_eq_ret]
  refine seq (coll_step m K (k := 5) (wpE_waitDma2_eq 𝒱₀ (c : Thread nD τ) none Set.univ) rfl O hO 2 (by decide) _ _) ?_
  refine seq (coll_step m K (k := 5) (wpE_waitDma2_eq 𝒱₀ (c : Thread nD τ) none Set.univ) rfl O hO 1 (by decide) _ _) ?_
  refine seq (coll_step m K (k := 5) (wpE_waitDma2_eq 𝒱₀ (c : Thread nD τ) none Set.univ) rfl O hO 0 (by decide) _ _) ?_
  refine seq (coll_last m K (k := 5) (wpE_waitDma2_eq 𝒱₀ (c : Thread nD τ) none Set.univ) rfl O hO (by decide) _ _) ?_
  refine seqE (copy_done m c O) (unjoin ?_)
  refine seq0 (load_all c 8 rfl hz2 _ (kvv m c) _ Q) (join (swap ?_))
  refine seqL (pack_load m c 0 0 _ _ _ _ _ rfl rfl _ _) fun _ => ?_
  refine seq0 (pack_o m c 0 0 0 rfl _ _ rfl _ rfl _ _) ?_
  exact h

/-- Half 0 packed, the barrier passed, sends 1 to 4 of half 0. -/
theorem part10 {Q : α → sProp 𝕄} {R : sProp 𝕄} (v77) (v80) (v83) (v86)  (kt : _ → Prog (TpuEff nD τ sig (Elt F) Λ₀ .tc) α)
    (h : iprop(Ctx m K ∗ SendSt m c 0 4 ∗ (atPos ER (cell c 0) 1 ∅ 0 ∗ Fill c) ∗ R) ⊢ wpc c (kt ⟨⟩) Q) :
    iprop(Ctx m K ∗ PackSt m c 0 14 ∗ ((atPos ER (cell c 0) 0 ∅ 0 ∗ cred (tallyAt (cell c 0) () ((dut (Fin.castSucc (0 : Fin 6))).card * amt (Fin.castSucc (0 : Fin 6))))) ∗ Ow c (owe c 4 (rem 0) + owe c 2 (rem 0) + owe c 0 ∅)) ∗ Toks1 c ∗ R) ⊢ wpc c (k0_part10 (F := F) xM xW qM qW oM oW kM kW vM vW rM rW pM pW lM lW fM fW gM gW tM tW cc0_scratch5 cc0_scratch6 cc0_scratch7 cc0_scratch8 cc0_scratch9 c (SemArray.scalar (sig.barrier 0 rfl)) v77 v80 v83 v86 (k0_pay31 (qb m c) (kb m c)) (k0_pay32 (qb m c) (kb m c) (vb m c)) >>= kt) Q := by
  rw [k0_part10_eq_skeleton]; unfold k0_part10_skel
  unfold wpc; rw [wp_bind]
  simp (config := { zeta := false }) only [semSignalWord, semWaitWord, Prog.lift, bind_assoc, Prog.bind_op, Prog.bind_ret, Prog.pure_eq_ret]
  refine seq0 (pack_o m c 0 7 14 rfl _ _ rfl _ rfl _ _) ?_
  refine seqL (pack_load m c 0 15 _ _ _ _ _ rfl rfl _ _) fun _ => ?_
  refine seq0 (pack_l m c 0 7 15 rfl _ _ rfl _ rfl _ _) ?_
  refine seqE (pack_chunks m c 0) (swap ?_)
  refine seq (coll_all m K (k := 0) (wpE_semWait_eq 𝒱₀ (c : Thread nD τ) none Set.univ) rfl (owe c 4 (rem 0) + owe c 2 (rem 0) + owe c 0 ∅) (mw_owe c (csem 0) _ _ _ (by decide) (Or.inr (by decide)) (Or.inl rfl)) _ _) (join (swap (join ?_)))
  refine seqE (bar_done m c) (unjoin ?_)
  refine seq (send1_if m K c 0 0 1 rfl _ (by clear h; revert c; decide) _ (fun hh => Fin.ext (k0_dev16_eq c)) _ (k0_off1_eq c) _ _ rfl _ _ _) ?_
  refine seq (send1_if m K c 0 1 2 rfl _ (by clear h; revert c; decide) _ (fun hh => Fin.ext (k0_dev17_eq c)) _ (k0_off2_eq c) _ _ rfl _ _ _) ?_
  refine seq (send1_if m K c 0 2 3 rfl _ (by clear h; revert c; decide) _ (fun hh => Fin.ext (k0_dev18_eq c)) _ (k0_off3_eq c) _ _ rfl _ _ _) ?_
  refine seq (send1_if m K c 0 3 4 rfl _ (by clear h; revert c; decide) _ (fun hh => Fin.ext (k0_dev19_eq c)) _ (k0_off4_eq c) _ _ rfl _ _ _) ?_
  exact ends h

/-- Half 1 packed, its first send. -/
theorem part16 {Q : α → sProp 𝕄} {R : sProp 𝕄} (v77) (v80)  (kt : _ → Prog (TpuEff nD τ sig (Elt F) Λ₀ .tc) α)
    (h : ∀ r, iprop(Ctx m K ∗ SendSt m c 1 1 ∗ Left m c 0 ∗ R) ⊢ wpc c (kt r) Q) :
    iprop(Ctx m K ∗ PackSt m c 1 12 ∗ SendSt m c 0 15 ∗ R) ⊢ wpc c (k0_part16 (F := F) xM xW qM qW oM oW kM kW vM vW rM rW pM pW lM lW fM fW gM gW tM tW cc0_scratch5 cc0_scratch6 cc0_scratch7 cc0_scratch8 cc0_scratch9 c v77 v80 (qb m c) (kb m c) (vb m c) (k0_pay58 (qb m c) (kb m c)) (k0_pay59 (qb m c) (kb m c) (vb m c)) >>= kt) Q := by
  rw [k0_part16_eq_skeleton]; unfold k0_part16_skel
  unfold wpc; rw [wp_bind]
  simp (config := { zeta := false }) only [semSignalWord, semWaitWord, Prog.lift, bind_assoc, Prog.bind_op, Prog.bind_ret, Prog.pure_eq_ret]
  refine seqL (pack_load m c 1 12 _ _ _ _ _ rfl rfl _ _) fun _ => ?_
  refine seq0 (pack_o m c 1 6 12 rfl _ _ rfl _ rfl _ _) ?_
  refine seqL (pack_load m c 1 13 _ _ _ _ _ rfl rfl _ _) fun _ => ?_
  refine seq0 (pack_l m c 1 6 13 rfl _ _ rfl _ rfl _ _) ?_
  refine seqL (pack_load m c 1 14 _ _ _ _ _ rfl rfl _ _) fun _ => ?_
  refine seq0 (pack_o m c 1 7 14 rfl _ _ rfl _ rfl _ _) ?_
  refine seqL (pack_load m c 1 15 _ _ _ _ _ rfl rfl _ _) fun _ => ?_
  refine seq0 (pack_l m c 1 7 15 rfl _ _ rfl _ rfl _ _) ?_
  refine seqE (pack_chunks m c 1) (join ?_)
  refine seqE (half_done m c) (unjoin ?_)
  refine seq (send1_if m K c 1 0 1 rfl _ (by clear h; revert c; decide) _ (fun hh => Fin.ext (k0_dev31_eq c)) _ (k0_off16_eq c) _ _ rfl _ _ _) ?_
  exact ends (h _)

/-- The last sends of half 1, the device's own chunk moved to its slot. -/
theorem part19 {Q : α → sProp 𝕄} {R : sProp 𝕄} (v2) (v77) (v110) (v113) (v116) (v119) (v579)  (kt : _ → Prog (TpuEff nD τ sig (Elt F) Λ₀ .tc) α)
    (h : iprop(Ctx m K ∗ landPay m c 0 ∗ (packC m c c ∗ (Ow c (owe c 4 (rem 0) + owe c 2 ∅ + owe c 0 ∅) ∗ cred (tallyAt (cell c 1) () (15 * amt (Fin.castSucc (1 : Fin 6)))))) ∗ R) ⊢ wpc c (kt ⟨⟩) Q) :
    iprop(Ctx m K ∗ SendSt m c 1 11 ∗ Left m c 0 ∗ slot0 c ∗ R) ⊢ wpc c (k0_part19 (F := F) xM xW qM qW oM oW kM kW vM vW rM rW pM pW lM lW fM fW gM gW tM tW cc0_scratch5 cc0_scratch6 cc0_scratch7 cc0_scratch8 cc0_scratch9 c v2 v77 v110 v113 v116 v119 v579 >>= kt) Q := by
  rw [k0_part19_eq_skeleton]; unfold k0_part19_skel
  unfold wpc; rw [wp_bind]
  simp (config := { zeta := false }) only [semSignalWord, semWaitWord, Prog.lift, bind_assoc, Prog.bind_op, Prog.bind_ret, Prog.pure_eq_ret]
  refine seq (send1_if m K c 1 11 12 rfl _ (by clear h; revert c; decide) _ (fun hh => Fin.ext (k0_dev42_eq c)) _ (k0_off27_eq c) _ _ rfl _ _ _) ?_
  refine seq (send1_if m K c 1 12 13 rfl _ (by clear h; revert c; decide) _ (fun hh => Fin.ext (k0_dev43_eq c)) _ (k0_off28_eq c) _ _ rfl _ _ _) ?_
  refine seq (send1_if m K c 1 13 14 rfl _ (by clear h; revert c; decide) _ (fun hh => Fin.ext (k0_dev44_eq c)) _ (k0_off29_eq c) _ _ rfl _ _ _) ?_
  refine seq (send1_if m K c 1 14 15 rfl _ (by clear h; revert c; decide) _ (fun hh => Fin.ext (k0_dev45_eq c)) _ (k0_off30_eq c) _ _ rfl _ _ _) ?_
  refine join (seqE (sends_done m c) (unjoin ?_))
  refine seqV (own_load m c _ (k0_off31_eq c) _ _ _) fun v => pureE fun hv => ?_
  refine join (swap (seqL (slot_load c _ _ _) fun _ => ?_))
  refine seq0 (slot_store m c _ v hv _ _) ?_
  exact ends h

/-- The last waits for packed rows, and the load of what landed. -/
theorem part22 {Q : α → sProp 𝕄} {R : sProp 𝕄} (v110) (v113) (v116) (v119) (O : CellTallies nD τ sig Unit) (hO : (levAts L lv : sProp 𝕄) ⊢ MayWait (c : Thread nD τ) (csem 2) () O) (kt : _ → Prog (TpuEff nD τ sig (Elt F) Λ₀ .tc) α)
    (h : ∀ (a : Vec F S16x16x1152 .bf16), Landed m c a → iprop(Ctx m K ∗ (((c : Thread nD τ).loc cc0_scratch1) ↦[Finset.univ]{fullShare} a) ∗ (atPos ER (cell c 2) 1 ∅ 0 ∗ Ow c O) ∗ R) ⊢ wpc c (kt ⟨k0_pay66 a, k0_pay67 a⟩) Q) :
    iprop(Ctx m K ∗ (Coll m c 2 5 ∗ Ow c O) ∗ landPay m c 0 ∗ R) ⊢ wpc c (k0_part22 (F := F) xM xW qM qW oM oW kM kW vM vW rM rW pM pW lM lW fM fW gM gW tM tW cc0_scratch5 cc0_scratch6 cc0_scratch7 cc0_scratch8 cc0_scratch9 c v110 v113 v116 v119 >>= kt) Q := by
  rw [k0_part22_eq_skeleton]; unfold k0_part22_skel
  simp only [semSignalWord, semWaitWord, Prog.lift, bind_assoc, Prog.bind_op, Prog.bind_ret, Prog.pure_eq_ret]
  refine seq (coll_step m K (k := 2) (wpE_waitDma2_eq 𝒱₀ (c : Thread nD τ) none Set.univ) rfl O hO 3 (by decide) _ _) ?_
  refine seq (coll_step m K (k := 2) (wpE_waitDma2_eq 𝒱₀ (c : Thread nD τ) none Set.univ) rfl O hO 2 (by decide) _ _) ?_
  refine seq (coll_step m K (k := 2) (wpE_waitDma2_eq 𝒱₀ (c : Thread nD τ) none Set.univ) rfl O hO 1 (by decide) _ _) ?_
  refine seq (coll_step m K (k := 2) (wpE_waitDma2_eq 𝒱₀ (c : Thread nD τ) none Set.univ) rfl O hO 0 (by decide) _ _) ?_
  refine seq (coll_last m K (k := 2) (wpE_waitDma2_eq 𝒱₀ (c : Thread nD τ) none Set.univ) rfl O hO (by decide) _ _) ?_
  refine join (seqE (land_done m c O) (exE fun a => pureE fun ha => unjoin ?_))
  refine seq0 (load_all c 5 rfl hz3 _ a _ Q) ?_
  exact h a ha

/-- The output product, stored, and the device's own rows gathered. -/
theorem part23 {Q : α → sProp 𝕄} {R : sProp 𝕄} (v2) (a : Vec F S16x16x1152 .bf16) (ha : Landed m c a) (kt : _ → Prog (TpuEff nD τ sig (Elt F) Λ₀ .tc) α)
    (h : ∀ r, iprop(Ctx m K ∗ gathPay m c 0 ∗ ((((c : Thread nD τ).loc cc0_scratch2) ↦[Finset.univ]{fullShare} (fOf m c a : Vec F S16x1024 .bf16)) ∗ (((c : Thread nD τ).loc cc0_stg2_0) ↦[Finset.univ]{fullShare} (woV m c : Vec F S1024x1024 .f32))) ∗ R) ⊢ wpc c (kt r) Q) :
    iprop(Ctx m K ∗ (((c : Thread nD τ).loc cc0_stg2_0) ↦[Finset.univ]{fullShare} (woV m c : Vec F S1024x1024 .f32)) ∗ (∃ f : Vec F S16x1024 .bf16, (((c : Thread nD τ).loc cc0_scratch2) ↦[Finset.univ]{fullShare} f)) ∗ rows0 c ∗ R) ⊢ wpc c (k0_part23 (F := F) xM xW qM qW oM oW kM kW vM vW rM rW pM pW lM lW fM fW gM gW tM tW cc0_scratch5 cc0_scratch6 cc0_scratch7 cc0_scratch8 cc0_scratch9 c v2 (k0_pay66 a) (k0_pay67 a) >>= kt) Q := by
  rw [k0_part23_eq_skeleton]; unfold k0_part23_skel
  simp only [semSignalWord, semWaitWord, Prog.lift, bind_assoc, Prog.bind_op, Prog.bind_ret, Prog.pure_eq_ret]
  refine seq0 (load_all c 2 rfl hz2 _ (woV m c) _ Q) (swap (exE fun f => ?_))
  refine seq0 (load_all c 6 rfl hz2 _ f _ Q) ?_
  refine seq0 (store_all c 6 rfl hz2 _ f (fOf m c a) _ Q) ?_
  refine seq0 (load_all c 6 rfl hz2 _ (fOf m c a) _ Q) (join (swap ?_))
  refine seqL (rows_load c _ (k0_off33_eq c) _ _ Q) fun _ => ?_
  refine seq0 (rows_store m c _ (k0_off33_eq c) _ (fOf m c a) ⟨a, ha, rfl⟩ _ Q) ?_
  exact h _

/-- The last send of the finished rows, five waits for the sends of packed rows. -/
theorem part27 {Q : α → sProp 𝕄} {R : sProp 𝕄} (v2) (v813) (f : Vec F S16x1024 .bf16) (hf : Rows m c f) (kt : _ → Prog (TpuEff nD τ sig (Elt F) Λ₀ .tc) α)
    (h : ∀ r, iprop(Ctx m K ∗ (Coll m c 1 10 ∗ Ow c 0) ∗ cred (tallyAt (cell c 3) () (15 * amt (Fin.castSucc (3 : Fin 6)))) ∗ R) ⊢ wpc c (kt r) Q) :
    iprop(Ctx m K ∗ Send2St c f 14 ∗ Coll m c 1 15 ∗ R) ⊢ wpc c (k0_part27 (F := F) xM xW qM qW oM oW kM kW vM vW rM rW pM pW lM lW fM fW gM gW tM tW cc0_scratch5 cc0_scratch6 cc0_scratch7 cc0_scratch8 cc0_scratch9 c v2 v813 >>= kt) Q := by
  rw [k0_part27_eq_skeleton]; unfold k0_part27_skel
  simp only [semSignalWord, semWaitWord, Prog.lift, bind_assoc, Prog.bind_op, Prog.bind_ret, Prog.pure_eq_ret]
  refine seq (send2_step m K c 15 14 f hf rfl _ (Fin.ext (k0_dev60_eq c)) _ (k0_off34_eq c) _ _ Q) ?_
  refine seqE (rows_sent c f) (join (seqE turn (unjoin ?_)))
  refine seq (coll_step m K (k := 1) (wpE_waitDma2_eq 𝒱₀ (c : Thread nD τ) none Set.univ) rfl 0 (mw_zero c _) 13 (by decide) _ _) ?_
  refine seq (coll_step m K (k := 1) (wpE_waitDma2_eq 𝒱₀ (c : Thread nD τ) none Set.univ) rfl 0 (mw_zero c _) 12 (by decide) _ _) ?_
  refine seq (coll_step m K (k := 1) (wpE_waitDma2_eq 𝒱₀ (c : Thread nD τ) none Set.univ) rfl 0 (mw_zero c _) 11 (by decide) _ _) ?_
  refine seq (coll_step m K (k := 1) (wpE_waitDma2_eq 𝒱₀ (c : Thread nD τ) none Set.univ) rfl 0 (mw_zero c _) 10 (by decide) _ _) ?_
  refine seq (coll_step m K (k := 1) (wpE_waitDma2_eq 𝒱₀ (c : Thread nD τ) none Set.univ) rfl 0 (mw_zero c _) 9 (by decide) _ _) ?_
  exact h _

/-- The last waits for the sends of packed rows, four waits for finished rows. -/
theorem part29 {Q : α → sProp 𝕄} {R : sProp 𝕄} (v730) (v736) (v742) (v748) (v754)  (kt : _ → Prog (TpuEff nD τ sig (Elt F) Λ₀ .tc) α)
    (h : iprop(Ctx m K ∗ (Coll m c 4 11 ∗ Ow c 0) ∗ Done m c 1 ∗ R) ⊢ wpc c (kt ⟨⟩) Q) :
    iprop(Ctx m K ∗ (Coll m c 1 3 ∗ Ow c 0) ∗ Coll m c 4 15 ∗ R) ⊢ wpc c (k0_part29 (F := F) xM xW qM qW oM oW kM kW vM vW rM rW pM pW lM lW fM fW gM gW tM tW cc0_scratch5 cc0_scratch6 cc0_scratch7 cc0_scratch8 cc0_scratch9 c v730 v736 v742 v748 v754 >>= kt) Q := by
  rw [k0_part29_eq_skeleton]; unfold k0_part29_skel
  simp only [semSignalWord, semWaitWord, Prog.lift, bind_assoc, Prog.bind_op, Prog.bind_ret, Prog.pure_eq_ret]
  refine seq (coll_step m K (k := 1) (wpE_waitDma2_eq 𝒱₀ (c : Thread nD τ) none Set.univ) rfl 0 (mw_zero c _) 1 (by decide) _ _) ?_
  refine seq (coll_step m K (k := 1) (wpE_waitDma2_eq 𝒱₀ (c : Thread nD τ) none Set.univ) rfl 0 (mw_zero c _) 0 (by decide) _ _) ?_
  refine seq (coll_last m K (k := 1) (wpE_waitDma2_eq 𝒱₀ (c : Thread nD τ) none Set.univ) rfl 0 (mw_zero c _) (by decide) _ _) ?_
  refine join (seqE turn' (unjoin ?_))
  refine seq (coll_step m K (k := 4) (wpE_waitDma2_eq 𝒱₀ (c : Thread nD τ) none Set.univ) (row_amt _ _) 0 (mw_zero c _) 13 (by decide) _ _) ?_
  refine seq (coll_step m K (k := 4) (wpE_waitDma2_eq 𝒱₀ (c : Thread nD τ) none Set.univ) (row_amt _ _) 0 (mw_zero c _) 12 (by decide) _ _) ?_
  refine seq (coll_step m K (k := 4) (wpE_waitDma2_eq 𝒱₀ (c : Thread nD τ) none Set.univ) (row_amt _ _) 0 (mw_zero c _) 11 (by decide) _ _) ?_
  refine seq (coll_step m K (k := 4) (wpE_waitDma2_eq 𝒱₀ (c : Thread nD τ) none Set.univ) (row_amt _ _) 0 (mw_zero c _) 10 (by decide) _ _) ?_
  exact h

/-- The last waits for finished rows, the result stored, ten waits for the sends of finished rows. -/
theorem part31 {Q : α → sProp 𝕄} {R : sProp 𝕄} (v814) (v903) (c0_i32_709)  (kt : _ → Prog (TpuEff nD τ sig (Elt F) Λ₀ .tc) α)
    (h : ∀ (out : Vec F S256x1024 .f32), Out m out → iprop(Ctx m K ∗ (Coll m c 3 5 ∗ Ow c 0) ∗ ((((c : Thread nD τ).loc cc0_stg3_0) ↦[Finset.univ]{fullShare} out) ∗ (∃ g : Vec F S256x1024 .bf16, (((c : Thread nD τ).loc cc0_scratch3) ↦[Finset.univ]{fullShare} g)) ∗ atPos ER (cell c 4) 1 ∅ 0) ∗ R) ⊢ wpc c (kt ⟨⟩) Q) :
    iprop(Ctx m K ∗ (Coll m c 4 2 ∗ Ow c 0) ∗ gathPay m c 0 ∗ (∃ f : Vec F S256x1024 .f32, (((c : Thread nD τ).loc cc0_stg3_0) ↦[Finset.univ]{fullShare} f)) ∗ Coll m c 3 15 ∗ R) ⊢ wpc c (k0_part31 (F := F) xM xW qM qW oM oW kM kW vM vW rM rW pM pW lM lW fM fW gM gW tM tW cc0_scratch5 cc0_scratch6 cc0_scratch7 cc0_scratch8 cc0_scratch9 c v814 v903 c0_i32_709 >>= kt) Q := by
  rw [k0_part31_eq_skeleton]; unfold k0_part31_skel
  simp only [semSignalWord, semWaitWord, Prog.lift, bind_assoc, Prog.bind_op, Prog.bind_ret, Prog.pure_eq_ret]
  refine seq (coll_step m K (k := 4) (wpE_waitDma2_eq 𝒱₀ (c : Thread nD τ) none Set.univ) (row_amt _ _) 0 (mw_zero c _) 0 (by decide) _ _) ?_
  refine seq (coll_last m K (k := 4) (wpE_waitDma2_eq 𝒱₀ (c : Thread nD τ) none Set.univ) (row_amt _ _) 0 (mw_zero c _) (by decide) _ _) ?_
  refine join (seqE (gath_done m c 0) (exE fun fs => pureE fun hfs => unjoin ?_))
  refine seq0 (load_all c 7 rfl hz2 _ (gather fs) _ Q) (join (swap (exE fun f => ?_)))
  refine seq0 (load_all c 3 rfl hz2 _ f _ Q) ?_
  refine seq0 (store_all c 3 rfl hz2 _ f (k0_pay70 (gather fs)) _ Q) ?_
  refine reg (result_turn m c _ _ _) ?_
  refine seq (coll_step m K (k := 3) (wpE_waitDma2_eq 𝒱₀ (c : Thread nD τ) none Set.univ) rfl 0 (mw_zero c _) 13 (by decide) _ _) ?_
  refine seq (coll_step m K (k := 3) (wpE_waitDma2_eq 𝒱₀ (c : Thread nD τ) none Set.univ) rfl 0 (mw_zero c _) 12 (by decide) _ _) ?_
  refine seq (coll_step m K (k := 3) (wpE_waitDma2_eq 𝒱₀ (c : Thread nD τ) none Set.univ) rfl 0 (mw_zero c _) 11 (by decide) _ _) ?_
  refine seq (coll_step m K (k := 3) (wpE_waitDma2_eq 𝒱₀ (c : Thread nD τ) none Set.univ) rfl 0 (mw_zero c _) 10 (by decide) _ _) ?_
  refine seq (coll_step m K (k := 3) (wpE_waitDma2_eq 𝒱₀ (c : Thread nD τ) none Set.univ) rfl 0 (mw_zero c _) 9 (by decide) _ _) ?_
  refine seq (coll_step m K (k := 3) (wpE_waitDma2_eq 𝒱₀ (c : Thread nD τ) none Set.univ) rfl 0 (mw_zero c _) 8 (by decide) _ _) ?_
  refine seq (coll_step m K (k := 3) (wpE_waitDma2_eq 𝒱₀ (c : Thread nD τ) none Set.univ) rfl 0 (mw_zero c _) 7 (by decide) _ _) ?_
  refine seq (coll_step m K (k := 3) (wpE_waitDma2_eq 𝒱₀ (c : Thread nD τ) none Set.univ) rfl 0 (mw_zero c _) 6 (by decide) _ _) ?_
  refine seq (coll_step m K (k := 3) (wpE_waitDma2_eq 𝒱₀ (c : Thread nD τ) none Set.univ) rfl 0 (mw_zero c _) 5 (by decide) _ _) ?_
  refine seq (coll_step m K (k := 3) (wpE_waitDma2_eq 𝒱₀ (c : Thread nD τ) none Set.univ) rfl 0 (mw_zero c _) 4 (by decide) _ _) ?_
  exact h _ ⟨fs, hfs, rfl⟩

end Parts

end Cert.KernelIdeal.Run

end
-- ==== Proof.Body.lean ====
/- The body run from its first part to its last, and the obligation the pipeline asks for. -/
module

public import proofs.«01_k».proof.Proof.PartsMix

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-- A whole buffer held at `f`. -/
abbrev Bf (c : Dev nD) (b : Ref sig .tc) (f : Buf (Elt F) ((c : Thread nD τ).loc b)) : sProp 𝕄 := ((c : Thread nD τ).loc b) ↦[Finset.univ]{fullShare} f
/-- A whole buffer held at some contents. -/
abbrev BfE (c : Dev nD) (b : Ref sig .tc) : sProp 𝕄 := iprop(∃ f : Buf (Elt F) ((c : Thread nD τ).loc b), Bf c b f)
/-- The position at the start of the round of one cell, with the credit for all that arrives there. -/
abbrev AtCr (c : Dev nD) (k : Fin 6) : sProp 𝕄 :=
  iprop(atPos ER (cell c k) 0 ∅ 0 ∗ cred (tallyAt (cell c k) () ((dut (Fin.castSucc k)).card * amt (Fin.castSucc k))))
/-- What one copy of keys takes. -/
abbrev InK (c : Dev nD) (b : Du) (r : Fin 2) : sProp 𝕄 :=
  iprop(dutyTok ER (cell c 5) 0 b ∗ (∃ f : Vec F S4096x512 .f32, ((c : Thread nD τ).loc cc0_scratch4) ↦[colS b]{fullShare} f) ∗ (((c : Thread nD τ).loc main_arg3) ↦[hdS r]{fullShare} (kV m c : Vec F S4096x2x128 .f32)))
/-- What one copy of values takes. -/
abbrev InV (c : Dev nD) (b : Du) (r : Fin 2) : sProp 𝕄 :=
  iprop(dutyTok ER (cell c 5) 0 b ∗ (∃ f : Vec F S4096x512 .f32, ((c : Thread nD τ).loc cc0_scratch4) ↦[colS b]{fullShare} f) ∗ (((c : Thread nD τ).loc main_arg4) ↦[hdS r]{fullShare} (vV m c : Vec F S4096x2x128 .f32)))
/-- What is owed once the signals are out, once the packed rows are out. -/
abbrev OB (c : Dev nD) : CellTallies nD τ sig Unit := owe c 4 (rem 0) + owe c 2 (rem 0) + owe c 0 ∅
abbrev OC (c : Dev nD) : CellTallies nD τ sig Unit := owe c 4 (rem 0) + owe c 2 ∅ + owe c 0 ∅

/-- What the body needs last, in the order it takes it up. -/
def In7 (c : Dev nD) : sProp 𝕄 := iprop(AtCr c 4 ∗ atPos ER (cell c 3) 0 ∅ 0 ∗ BfE c cc0_stg3_0)
def In5 (c : Dev nD) : sProp 𝕄 := iprop(Bf c cc0_stg2_0 (woV m c) ∗ BfE c cc0_scratch2 ∗ rows0 c ∗ Toks2 c)
def In4 (c : Dev nD) : sProp 𝕄 := iprop(slot0 c ∗ AtCr c 2 ∗ atPos ER (cell c 1) 0 ∅ 0)

/-- What the body leaves besides the result. -/
def Left₁ (c : Dev nD) : sProp 𝕄 :=
  iprop((BfE c cc0_scratch0 ∗ BfE c cc0_scratch1 ∗ BfE c cc0_scratch2 ∗ BfE c cc0_scratch3 ∗ BfE c cc0_scratch4)
    ∗ (semVal (cell c 0) 0 ∗ semVal (cell c 1) 0 ∗ semVal (cell c 2) 0 ∗ semVal (cell c 3) 0 ∗ semVal (cell c 4) 0 ∗ semVal (cell c 5) 0)
    ∗ Bf c main_arg3 (kV m c) ∗ Bf c main_arg4 (vV m c))

/-- What the body leaves: `Left₁`, nothing owed, the operands and the result in their staging buffers. -/
def Outs (c : Dev nD) : sProp 𝕄 :=
  iprop(Left₁ m c ∗ Ow c 0 ∗ Bf c cc0_stg0_0 (xV m c) ∗ Bf c cc0_stg1_0 (wqV m c) ∗ Bf c cc0_stg2_0 (woV m c)
    ∗ ∃ out : Vec F S256x1024 .f32, ⌜Out m out⌝ ∗ Bf c cc0_stg3_0 out)

/-- The end of the body: the cells closed, the buffers whole again. -/
theorem outs (c : Dev nD) (out : Vec F S256x1024 .f32) (hout : Out m out) (f : Vec F S16x1024 .bf16) (a : Vec F S16x16x1152 .bf16) :
    iprop(Ctx m K ∗ (Done m c 3 ∗ Ow c 0) ∗ (Bf c cc0_stg3_0 out ∗ BfE c cc0_scratch3 ∗ atPos ER (cell c 4) 1 ∅ 0) ∗ Done m c 1
      ∗ ((((c : Thread nD τ).loc cc0_scratch2) ↦[Finset.univ]{ShareLeaves.leaf 4 fullShare (0 : Du)} f) ∗ Bf c cc0_stg2_0 (woV m c))
      ∗ (Bf c cc0_scratch1 a ∗ atPos ER (cell c 2) 1 ∅ 0 ∗ packC m c c ∗ atPos ER (cell c 0) 1 ∅ 0
        ∗ (Bf c cc0_scratch4 (kvv m c) ∗ Bf c main_arg3 (kV m c) ∗ Bf c main_arg4 (vV m c) ∗ atPos ER (cell c 5) 1 ∅ 0)
        ∗ (Bf c cc0_stg0_0 (xV m c) ∗ Bf c cc0_stg1_0 (wqV m c))))
    ⊢ iprop(|={Set.univ}=> Outs m c) := by
  unfold Done
  iintro ⟨#HC, ⟨⟨A3, P3⟩, HO⟩, ⟨Hout, Hs3, A4⟩, ⟨A1, P1⟩, ⟨Hl, Hwo⟩, Hs1, A2, HpC, A0, ⟨Hs4, Hk, Hv, A5⟩, Hx, Hwq⟩
  imod (done_close m K c 0) $$ [A0] with Z0
  · isplitr; · iexact HC
    iexact A0
  imod (done_close m K c 1) $$ [A1] with Z1
  · isplitr; · iexact HC
    iexact A1
  imod (done_close m K c 2) $$ [A2] with Z2
  · isplitr; · iexact HC
    iexact A2
  imod (done_close m K c 3) $$ [A3] with Z3
  · isplitr; · iexact HC
    iexact A3
  imod (done_close m K c 4) $$ [A4] with Z4
  · isplitr; · iexact HC
    iexact A4
  imod (done_close m K c 5) $$ [A5] with Z5
  · isplitr; · iexact HC
    iexact A5
  imodintro
  unfold Outs Left₁
  isplitl [P3 Hs3 P1 Hl Hs1 HpC Hs4 Hk Hv Z0 Z1 Z2 Z3 Z4 Z5]
  · isplitl [P3 Hs3 P1 Hl Hs1 HpC Hs4]
    · isplitl [P1 HpC]
      · iapply (pack_end m c)
        isplitl [HpC]; · iexact HpC
        iapply (bs_mono fun d _ => Entails.of_eq (pay_one m c d)); iexact P1
      isplitl [Hs1]; · iexists a; iexact Hs1
      isplitl [P3 Hl]
      · iexists f
        iapply (row_end c f)
        isplitl [Hl]; · iexact Hl
        iapply (bs_mono fun d _ => Entails.of_eq (pay_three m c d)); iexact P3
      isplitl [Hs3]; · iexact Hs3
      iexists (kvv m c); iexact Hs4
    isplitl [Z0 Z1 Z2 Z3 Z4 Z5]
    · isplitl [Z0]; · iexact Z0
      isplitl [Z1]; · iexact Z1
      isplitl [Z2]; · iexact Z2
      isplitl [Z3]; · iexact Z3
      isplitl [Z4]; · iexact Z4
      iexact Z5
    isplitl [Hk]; · iexact Hk
    iexact Hv
  isplitl [HO]; · iexact HO
  isplitl [Hx]; · iexact Hx
  isplitl [Hwq]; · iexact Hwq
  isplitl [Hwo]; · iexact Hwo
  iexists out
  isplitr; · ipureintro; exact hout
  iexact Hout

/-- The body, all of its parts in order. -/
theorem body_run (c : Dev nD) :
    iprop(Ctx m K ∗ InK m c 0 0 ∗ InK m c 1 1 ∗ InV m c 2 0 ∗ InV m c 3 1 ∗ SigSt c 0
      ∗ Bf c cc0_stg0_0 (xV m c) ∗ Bf c cc0_stg1_0 (wqV m c) ∗ atPos ER (cell c 5) 0 ∅ 0 ∗ PackSt m c 0 0
      ∗ AtCr c 0 ∗ Toks1 c ∗ PackSt m c 1 0 ∗ In4 c ∗ In5 m c ∗ In7 c)
    ⊢ wpc c (cc0_body (F := F) xM xW qM qW oM oW kM kW vM vW rM rW pM pW lM lW fM fW gM gW tM tW cc0_scratch5 cc0_scratch6 cc0_scratch7 cc0_scratch8 cc0_scratch9) (fun _ => Outs m c) := by
  rw [cc0_body_eq_skeleton]; unfold cc0_body_skel
  refine part1 _ fun v2 v22 => ?_
  refine part2 _ _ _ fun v46 => ?_
  refine part3 _ _ _ fun v70 => ?_
  refine part4 _ _ _ fun r1 r2 r3 r4 r5 r6 r7 r8 r9 => ?_
  refine reg (B := iprop(Bf c cc0_stg0_0 (xV m c) ∗ Bf c cc0_stg1_0 (wqV m c) ∗ (Coll m c 5 4 ∗ Ow c (OB c)) ∗ PackSt m c 0 0 ∗ AtCr c 0 ∗ Toks1 c ∗ PackSt m c 1 0 ∗ In4 c ∗ In5 m c ∗ In7 c)) ?_ ?_
  · iintro ⟨HS, Hc, Hx, Hq, Ha, HP, HR⟩
    isplitl [Hx]
    · iexact Hx
    isplitl [Hq]
    · iexact Hq
    isplitl [Hc Ha HS]
    · isplitl [Hc Ha]
      · iapply (coll_start m c 5); (isplitl [Ha]; · iexact Ha); iexact Hc
      unfold SigSt; rw [rem_last]; icases HS with ⟨HO, -⟩; iexact HO
    isplitl [HP]
    · iexact HP
    iexact HR
  refine part5 _ _ _ _ fun r1 r2 r3 r4 r5 r6 r7 => ?_
  refine reg (B := iprop((Coll m c 5 4 ∗ Ow c (OB c)) ∗ PackSt m c 0 0 ∗ (AtCr c 0 ∗ Toks1 c) ∗ PackSt m c 1 0 ∗ (Bf c cc0_stg0_0 (xV m c) ∗ Bf c cc0_stg1_0 (wqV m c)) ∗ In4 c ∗ In5 m c ∗ In7 c)) ?_ ?_
  · iintro ⟨Hx, Hq, HC, HP, Ha, Ht, HP1, HR⟩
    isplitl [HC]
    · iexact HC
    isplitl [HP]
    · iexact HP
    isplitl [Ha Ht]
    · isplitl [Ha]
      · iexact Ha
      iexact Ht
    isplitl [HP1]
    · iexact HP1
    isplitl [Hx Hq]
    · isplitl [Hx]
      · iexact Hx
      iexact Hq
    iexact HR
  refine part6 (OB c) (mw_owe c (csem 5) _ _ _ (by decide) (Or.inr (by decide)) (Or.inl rfl)) _ ?_
  refine part7 _ ?_
  refine part8 _ ?_
  refine part9 _ ?_
  refine reg (B := iprop(PackSt m c 0 14 ∗ (AtCr c 0 ∗ Ow c (OB c)) ∗ Toks1 c ∗ PackSt m c 1 0 ∗ ((Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c))) ∗ In4 c ∗ In5 m c ∗ In7 c)) ?_ ?_
  · iintro ⟨HP, ⟨Hs, Hk, Hv, Ha5, HO⟩, ⟨Ha, Ht⟩, HP1, Hxq, HR⟩
    isplitl [HP]
    · iexact HP
    isplitl [Ha HO]
    · isplitl [Ha]
      · iexact Ha
      iexact HO
    isplitl [Ht]
    · iexact Ht
    isplitl [HP1]
    · iexact HP1
    isplitl [Hs Hk Hv Ha5 Hxq]
    · isplitl [Hs Hk Hv Ha5]
      · isplitl [Hs]
        · iexact Hs
        isplitl [Hk]
        · iexact Hk
        isplitl [Hv]
        · iexact Hv
        iexact Ha5
      iexact Hxq
    iexact HR
  refine part10 _ _ _ _ _ ?_
  refine part11 _ _ _ _ _ _ ?_
  refine part12 _ _ _ _ _ _ ?_
  refine reg (B := iprop(SendSt m c 0 14 ∗ PackSt m c 1 0 ∗ ((atPos ER (cell c 0) 1 ∅ 0 ∗ Fill c) ∗ ((Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c)))) ∗ In4 c ∗ In5 m c ∗ In7 c)) ?_ ?_
  · iintro ⟨HS, Hf, HP, HK, HR⟩
    isplitl [HS]
    · iexact HS
    isplitl [HP]
    · iexact HP
    isplitl [Hf HK]
    · isplitl [Hf]
      · iexact Hf
      iexact HK
    iexact HR
  refine part13 _ _ (swap ?_)
  refine part14 _ ?_
  refine part15 _ ?_
  refine part16 _ _ _ fun r => ?_
  refine part17 _ _ _ _ _ _ _ _ fun r => ?_
  refine part18 _ _ _ _ _ _ _ _ fun r => ?_
  refine reg (B := iprop(SendSt m c 1 11 ∗ Left m c 0 ∗ slot0 c ∗ (AtCr c 2 ∗ atPos ER (cell c 1) 0 ∅ 0) ∗ ((atPos ER (cell c 0) 1 ∅ 0 ∗ Fill c) ∗ ((Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c)))) ∗ In5 m c ∗ In7 c)) ?_ ?_
  · iintro ⟨HS, HL, HK, H4, HR⟩
    isplitl [HS]
    · iexact HS
    isplitl [HL]
    · iexact HL
    unfold In4; icases H4 with ⟨Hs0, H4⟩
    isplitl [Hs0]; · iexact Hs0
    isplitl [H4]; · iexact H4
    isplitl [HK]; · iexact HK
    iexact HR
  refine part19 _ _ _ _ _ _ _ _ ?_
  refine reg (B := iprop((Coll m c 2 15 ∗ Ow c (OC c)) ∗ landPay m c 0 ∗ (packC m c c ∗ Coll m c 1 15) ∗ ((atPos ER (cell c 0) 1 ∅ 0 ∗ Fill c) ∗ ((Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c)))) ∗ In5 m c ∗ In7 c)) ?_ ?_
  · iintro ⟨HL, ⟨Hp, HO, Hc⟩, ⟨H2, Ha1⟩, HK, HR⟩
    isplitl [H2 HO]
    · isplitl [H2]
      · iapply (coll_start m c 2); iexact H2
      iexact HO
    isplitl [HL]
    · iexact HL
    isplitl [Hp Hc Ha1]
    · isplitl [Hp]
      · iexact Hp
      iapply (coll_start m c 1); (isplitl [Ha1]; · iexact Ha1); iexact Hc
    isplitl [HK]
    · iexact HK
    iexact HR
  refine part20 _ _ _ _ _ (OC c) (mw_owe c (csem 2) _ _ _ (by decide) (Or.inl rfl) (Or.inl rfl)) _ ?_
  refine part21 _ _ _ _ _ (OC c) (mw_owe c (csem 2) _ _ _ (by decide) (Or.inl rfl) (Or.inl rfl)) _ ?_
  refine part22 _ _ _ _ (OC c) (mw_owe c (csem 2) _ _ _ (by decide) (Or.inl rfl) (Or.inl rfl)) _ fun a ha => ?_
  refine reg (B := iprop(Bf c cc0_stg2_0 (woV m c) ∗ BfE c cc0_scratch2 ∗ rows0 c ∗ Toks2 c ∗ Fill c ∗ Ow c (OC c) ∗ Coll m c 1 15 ∗ (Bf c cc0_scratch1 a ∗ atPos ER (cell c 2) 1 ∅ 0 ∗ packC m c c ∗ atPos ER (cell c 0) 1 ∅ 0 ∗ (Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c))) ∗ In7 c)) ?_ ?_
  · iintro ⟨Hs1, ⟨Ha2, HO⟩, ⟨Hp, H1⟩, ⟨⟨Ha0, Hf⟩, HK⟩, H5, HR⟩
    unfold In5; icases H5 with ⟨Hwo, Hs2, Hr, Ht⟩
    isplitl [Hwo]
    · iexact Hwo
    isplitl [Hs2]
    · iexact Hs2
    isplitl [Hr]
    · iexact Hr
    isplitl [Ht]
    · iexact Ht
    isplitl [Hf]
    · iexact Hf
    isplitl [HO]
    · iexact HO
    isplitl [H1]
    · iexact H1
    isplitl [Hs1 Ha2 Hp Ha0 HK]
    · isplitl [Hs1]
      · iexact Hs1
      isplitl [Ha2]
      · iexact Ha2
      isplitl [Hp]
      · iexact Hp
      isplitl [Ha0]
      · iexact Ha0
      iexact HK
    iexact HR
  refine part23 _ a ha _ fun r => ?_
  refine reg (B := iprop(Send2St c (fOf m c a) 0 ∗ Coll m c 1 15 ∗ ((((c : Thread nD τ).loc cc0_scratch2) ↦[Finset.univ]{ShareLeaves.leaf 4 fullShare (0 : Du)} (fOf m c a : Vec F S16x1024 .bf16)) ∗ Bf c cc0_stg2_0 (woV m c)) ∗ gathPay m c 0 ∗ (Bf c cc0_scratch1 a ∗ atPos ER (cell c 2) 1 ∅ 0 ∗ packC m c c ∗ atPos ER (cell c 0) 1 ∅ 0 ∗ (Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c))) ∗ In7 c)) ?_ ?_
  · iintro ⟨Hg, ⟨Hs2, Hwo⟩, Ht, Hf, HO, H1, HK, HR⟩
    ihave H := (rows_ready c (fOf m c a)) $$ [Hs2 Ht Hf HO]
    · isplitl [Hs2]; · iexact Hs2
      isplitl [Ht]; · iexact Ht
      isplitl [Hf]; · iexact Hf
      iexact HO
    icases H with ⟨HS, Hl⟩
    isplitl [HS]
    · iexact HS
    isplitl [H1]
    · iexact H1
    isplitl [Hl Hwo]
    · isplitl [Hl]
      · iexact Hl
      iexact Hwo
    isplitl [Hg]
    · iexact Hg
    isplitl [HK]
    · iexact HK
    iexact HR
  refine part24 _ _ (fOf m c a) ⟨a, ha, rfl⟩ _ fun r1 r2 r3 r4 => ?_
  refine part25 _ (fOf m c a) ⟨a, ha, rfl⟩ _ fun r1 r2 r3 r4 r5 r6 => ?_
  refine part26 _ _ _ (fOf m c a) ⟨a, ha, rfl⟩ _ fun r1 r2 r3 r4 r5 => ?_
  refine part27 _ _ (fOf m c a) ⟨a, ha, rfl⟩ _ fun r => ?_
  refine part28 0 (mw_zero c _) _ ?_
  refine reg (B := iprop((Coll m c 1 3 ∗ Ow c 0) ∗ Coll m c 4 15 ∗ gathPay m c 0 ∗ BfE c cc0_stg3_0 ∗ Coll m c 3 15 ∗ ((((c : Thread nD τ).loc cc0_scratch2) ↦[Finset.univ]{ShareLeaves.leaf 4 fullShare (0 : Du)} (fOf m c a : Vec F S16x1024 .bf16)) ∗ Bf c cc0_stg2_0 (woV m c)) ∗ (Bf c cc0_scratch1 a ∗ atPos ER (cell c 2) 1 ∅ 0 ∗ packC m c c ∗ atPos ER (cell c 0) 1 ∅ 0 ∗ (Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c))))) ?_ ?_
  · iintro ⟨H1, Hc3, Hl, Hg, HK, H7⟩
    unfold In7; icases H7 with ⟨H4, Ha3, Ho⟩
    isplitl [H1]; · iexact H1
    isplitl [H4]; · iapply (coll_start m c 4); iexact H4
    isplitl [Hg]; · iexact Hg
    isplitl [Ho]; · iexact Ho
    isplitl [Ha3 Hc3]
    · iapply (coll_start m c 3); isplitl [Ha3]; · iexact Ha3
      iexact Hc3
    isplitl [Hl]; · iexact Hl
    iexact HK
  refine part29 _ _ _ _ _ _ ?_
  refine part30 _ _ _ _ _ _ _ _ _ 0 (mw_zero c _) _ fun r1 r2 => ?_
  refine reg (B := iprop((Coll m c 4 2 ∗ Ow c 0) ∗ gathPay m c 0 ∗ BfE c cc0_stg3_0 ∗ Coll m c 3 15 ∗ Done m c 1 ∗ ((((c : Thread nD τ).loc cc0_scratch2) ↦[Finset.univ]{ShareLeaves.leaf 4 fullShare (0 : Du)} (fOf m c a : Vec F S16x1024 .bf16)) ∗ Bf c cc0_stg2_0 (woV m c)) ∗ (Bf c cc0_scratch1 a ∗ atPos ER (cell c 2) 1 ∅ 0 ∗ packC m c c ∗ atPos ER (cell c 0) 1 ∅ 0 ∗ (Bf c cc0_scratch4 (kvv m c) ∗ Bf c main_arg3 (kV m c) ∗ Bf c main_arg4 (vV m c) ∗ atPos ER (cell c 5) 1 ∅ 0) ∗ (Bf c cc0_stg0_0 (xV m c) ∗ Bf c cc0_stg1_0 (wqV m c))))) ?_ ?_
  · iintro ⟨H4, HD, Hg, Ho, H3, HR⟩
    isplitl [H4]
    · iexact H4
    isplitl [Hg]
    · iexact Hg
    isplitl [Ho]
    · iexact Ho
    isplitl [H3]
    · iexact H3
    isplitl [HD]
    · iexact HD
    iexact HR
  refine part31 _ _ _ _ fun out hout => ?_
  simp only [Prog.lift, bind_assoc, Prog.bind_op, Prog.bind_ret, Prog.pure_eq_ret]
  refine seq (coll_step m K (k := 3) (wpE_waitDma2_eq 𝒱₀ (c : Thread nD τ) none Set.univ) rfl 0 (mw_zero c _) 3 (by decide) _ _) ?_
  refine seq (coll_step m K (k := 3) (wpE_waitDma2_eq 𝒱₀ (c : Thread nD τ) none Set.univ) rfl 0 (mw_zero c _) 2 (by decide) _ _) ?_
  refine seq (coll_step m K (k := 3) (wpE_waitDma2_eq 𝒱₀ (c : Thread nD τ) none Set.univ) rfl 0 (mw_zero c _) 1 (by decide) _ _) ?_
  refine seq (coll_step m K (k := 3) (wpE_waitDma2_eq 𝒱₀ (c : Thread nD τ) none Set.univ) rfl 0 (mw_zero c _) 0 (by decide) _ _) ?_
  refine seq (coll_last m K (k := 3) (wpE_waitDma2_eq 𝒱₀ (c : Thread nD τ) none Set.univ) rfl 0 (mw_zero c _) (by decide) _ _) ?_
  unfold wpc; rw [wp_ret]
  exact outs m K c out hout (fOf m c a) a

end Cert.KernelIdeal.Run

end
-- ==== Proof.Oblig.lean ====
/- The data of the pipeline's one region and the body's obligation to it. -/
module

public import proofs.«01_k».proof.Proof.Body

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-- The positions of a device's six cells at the start. -/
def At (c : Dev nD) : sProp 𝕄 := bigSep Finset.univ fun k : Fin 6 => atPos ER (cell c k) 0 ∅ 0
/-- The tokens a device starts with: those of what it does to the others' cells and to its own. -/
def Tk (c : Dev nD) : sProp 𝕄 :=
  iprop((bigSep (rem 0) fun d => dutyTok ER (cell (c + d) 0) 0 d) ∗ Toks1 c ∗ Toks2 c ∗ (bigSep (dut 5) fun d => dutyTok ER (cell c 5) 0 d))
/-- The credit for all that arrives at one cell. -/
def Cr (c : Dev nD) (k : Fin 6) : sProp 𝕄 := cred (tallyAt (cell c k) () ((dut (Fin.castSucc k)).card * amt (Fin.castSucc k)))
/-- What a device starts with besides its scratch buffers. -/
def start (c : Dev nD) : sProp 𝕄 :=
  iprop((∃ K : Dev nD × Fin 6 → ℕ, Ctx m K ∗ At c ∗ Tk c) ∗ (Cr c 0 ∗ Cr c 2 ∗ Cr c 4) ∗ Bf c main_arg3 (kV m c) ∗ Bf c main_arg4 (vV m c))
/-- The scratch buffers at some contents. -/
def Scr (c : Dev nD) : sProp 𝕄 := iprop(BfE c cc0_scratch0 ∗ BfE c cc0_scratch1 ∗ BfE c cc0_scratch2 ∗ BfE c cc0_scratch3 ∗ BfE c cc0_scratch4)

/-- The region's data: the operands at the launch contents, the resources before and after its one point. -/
def dats (_ : Fin 1) (c : Dev nD) : Dat τ (Elt F) Unit ℕ UU ℕ cfg0 c where
  A w := m ((cfg0.win w).arr.view.loc (c : Thread nD τ))
  after w _ := match w with
    | ⟨0, _⟩ => xV m c
    | ⟨1, _⟩ => wqV m c
    | ⟨2, _⟩ => woV m c
    | ⟨3, _⟩ => k0_pay70 (gather fun _ => fOf m c (fun _ => pk m c 0 0))
  Φ t := match t with
    | ⟨0, _⟩ => iprop(start m c ∗ Scr c)
    | ⟨_ + 1, _⟩ => Left₁ m c
  q _ := fullShare
  owed t := match t with
    | ⟨0, _⟩ => O₀ c
    | ⟨_ + 1, _⟩ => 0

/-- The result's window is held to a relation. -/
abbrev fgt : Fin cfg0.W → Bool := fun w => decide (w = (3 : Fin 4))
/-- What the result's staging buffer may be left at. -/
def Rl (c : Dev nD) : (w : Fin cfg0.W) → Fin cfg0.N → ((cfg0.win w).block.Idx → Elt F (cfg0.win w).elt) → Prop := fun w _ X =>
  match w, X with
  | ⟨0, _⟩, _ => True
  | ⟨1, _⟩, _ => True
  | ⟨2, _⟩, _ => True
  | ⟨3, _⟩, X => Out m X

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer read back as a points-to. -/
theorem stage_in (c : Dev nD) (b : Ref sig .tc) (X : b.ty.Contents (Elt F)) :
    (iprop(∃ f : Buf (Elt F) (((c : Dev nD) : Thread nD τ).loc b), ⌜f = X⌝ ∗ (((c : Thread nD τ).loc b) ↦{fullShare} f)) : sProp 𝕄) ⊢ Bf c b X := by
  iintro ⟨%f, %h, H⟩; subst h; iexact H

theorem stage_out (c : Dev nD) (b : Ref sig .tc) (X : b.ty.Contents (Elt F)) :
    Bf c b X ⊢ (iprop(∃ f : Buf (Elt F) (((c : Dev nD) : Thread nD τ).loc b), ⌜f = X⌝ ∗ (((c : Thread nD τ).loc b) ↦{fullShare} f)) : sProp 𝕄) := by
  iintro H; iexists X; isplitr; · ipureintro; rfl
  iexact H

/-- What a device starts with, in the order the body takes it up. -/
theorem body_start (c : Dev nD) :
    iprop((Ctx m K ∗ At c ∗ Tk c) ∗ (Cr c 0 ∗ Cr c 2 ∗ Cr c 4) ∗ (Bf c main_arg3 (kV m c) ∗ Bf c main_arg4 (vV m c)) ∗ Scr c
        ∗ Ow c (O₀ c) ∗ Bf c cc0_stg0_0 (xV m c) ∗ Bf c cc0_stg1_0 (wqV m c) ∗ Bf c cc0_stg2_0 (woV m c) ∗ BfE c cc0_stg3_0)
    ⊢ iprop(Ctx m K ∗ InK m c 0 0 ∗ InK m c 1 1 ∗ InV m c 2 0 ∗ InV m c 3 1 ∗ SigSt c 0
      ∗ Bf c cc0_stg0_0 (xV m c) ∗ Bf c cc0_stg1_0 (wqV m c) ∗ atPos ER (cell c 5) 0 ∅ 0 ∗ PackSt m c 0 0
      ∗ AtCr c 0 ∗ Toks1 c ∗ PackSt m c 1 0 ∗ In4 c ∗ In5 m c ∗ In7 c) := by
  unfold At Tk Cr Scr In4 In5 In7 AtCr SigSt
  rw [bigSep_univ_eq_bigSepL [(0 : Fin 6), 1, 2, 3, 4, 5] (by decide) (by decide), bs_five]
  show iprop((_ ∗ (atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0 ∗ atPos ER (cell c 5) 0 ∅ 0) ∗ _) ∗ _) ⊢ _
  iintro ⟨⟨#HC, ⟨A0, A1, A2, A3, A4, A5⟩, T0, T1, T2, ⟨Ta, Tb, Tc, Td⟩⟩, ⟨C0, C2, C4⟩, ⟨Hk, Hv⟩, ⟨S0, S1, S2, S3, S4⟩, HO, Hx, Hq, Hw, Ho⟩
  ihave Hk := (keys_split c (kV m c)).1 $$ Hk
  icases Hk with ⟨K0, K1⟩
  ihave Hv := (vals_split c (vV m c)).1 $$ Hv
  icases Hv with ⟨V0, V1⟩
  ihave S4 := ((cols_start c).trans (Entails.of_eq (bs_five _))) $$ S4
  icases S4 with ⟨B0, B1, B2, B3⟩
  ihave S0 := (pack_start m c) $$ S0
  icases S0 with ⟨P0, P1⟩
  ihave S1 := (land_start c) $$ S1
  icases S1 with ⟨L0, L1⟩
  ihave S3 := (rows_start c) $$ S3
  icases S3 with ⟨R0, R1⟩
  isplitr; · iexact HC
  isplitl [Ta B0 K0]
  · isplitl [Ta]; · iexact Ta
    isplitl [B0]; · iexact B0
    iexact K0
  isplitl [Tb B1 K1]
  · isplitl [Tb]; · iexact Tb
    isplitl [B1]; · iexact B1
    iexact K1
  isplitl [Tc B2 V0]
  · isplitl [Tc]; · iexact Tc
    isplitl [B2]; · iexact B2
    iexact V0
  isplitl [Td B3 V1]
  · isplitl [Td]; · iexact Td
    isplitl [B3]; · iexact B3
    iexact V1
  isplitl [HO T0 L1 R1]
  · isplitl [HO]; · iexact HO
    iapply (sig_start c)
    isplitl [T0]; · iexact T0
    isplitl [L1]; · iexact L1
    iexact R1
  isplitl [Hx]; · iexact Hx
  isplitl [Hq]; · iexact Hq
  isplitl [A5]; · iexact A5
  isplitl [P0]; · iexact P0
  isplitl [A0 C0]
  · isplitl [A0]; · iexact A0
    iexact C0
  isplitl [T1]; · iexact T1
  isplitl [P1]; · iexact P1
  isplitl [L0 A2 C2 A1]
  · isplitl [L0]; · unfold slot0; iexact L0
    isplitl [A2 C2]
    · isplitl [A2]; · iexact A2
      iexact C2
    iexact A1
  isplitl [Hw S2 R0 T2]
  · isplitl [Hw]; · iexact Hw
    isplitl [S2]; · iexact S2
    isplitl [R0]; · unfold rows0; iexact R0
    iexact T2
  isplitl [A4 C4]
  · isplitl [A4]; · iexact A4
    iexact C4
  isplitl [A3]; · iexact A3
  iexact Ho

/-- The body's resources in and out, as the pipeline hands them over. -/
def Pre (c : Dev nD) : sProp 𝕄 :=
  iprop((start m c ∗ Scr c) ∗ (dats m 0 c).owesAt () t0_0.castSucc
    ∗ (∃ d : (cfg0.win (0 : Fin 4)).block.Idx → Elt F (cfg0.win (0 : Fin 4)).elt, ∃ f : Buf (Elt F) (((c : Dev nD) : Thread nD τ).loc cc0_stg0_0), ⌜f = (dats m 0 c).before (0 : Fin 4) t0_0 d⌝ ∗ (((c : Thread nD τ).loc cc0_stg0_0) ↦{fullShare} f))
    ∗ (∃ d : (cfg0.win (1 : Fin 4)).block.Idx → Elt F (cfg0.win (1 : Fin 4)).elt, ∃ f : Buf (Elt F) (((c : Dev nD) : Thread nD τ).loc cc0_stg1_0), ⌜f = (dats m 0 c).before (1 : Fin 4) t0_0 d⌝ ∗ (((c : Thread nD τ).loc cc0_stg1_0) ↦{fullShare} f))
    ∗ (∃ d : (cfg0.win (2 : Fin 4)).block.Idx → Elt F (cfg0.win (2 : Fin 4)).elt, ∃ f : Buf (Elt F) (((c : Dev nD) : Thread nD τ).loc cc0_stg2_0), ⌜f = (dats m 0 c).before (2 : Fin 4) t0_0 d⌝ ∗ (((c : Thread nD τ).loc cc0_stg2_0) ↦{fullShare} f))
    ∗ (∃ Y, ⌜((dats m 0 c).toRRel fgt (Rl m c)).Finds (3 : Fin 4) t0_0 Y⌝ ∗ ∃ f : Buf (Elt F) (((c : Dev nD) : Thread nD τ).loc cc0_stg3_0), ⌜f = Y⌝ ∗ (((c : Thread nD τ).loc cc0_stg3_0) ↦{fullShare} f)))
def Post (c : Dev nD) : sProp 𝕄 :=
  iprop(Left₁ m c ∗ (dats m 0 c).owesAt () t0_0.succ
    ∗ (∃ f : Buf (Elt F) (((c : Dev nD) : Thread nD τ).loc cc0_stg0_0), ⌜f = xV m c⌝ ∗ (((c : Thread nD τ).loc cc0_stg0_0) ↦{fullShare} f))
    ∗ (∃ f : Buf (Elt F) (((c : Dev nD) : Thread nD τ).loc cc0_stg1_0), ⌜f = wqV m c⌝ ∗ (((c : Thread nD τ).loc cc0_stg1_0) ↦{fullShare} f))
    ∗ (∃ f : Buf (Elt F) (((c : Dev nD) : Thread nD τ).loc cc0_stg2_0), ⌜f = woV m c⌝ ∗ (((c : Thread nD τ).loc cc0_stg2_0) ↦{fullShare} f))
    ∗ (∃ X, ⌜Out m X⌝ ∗ ∃ f : Buf (Elt F) (((c : Dev nD) : Thread nD τ).loc cc0_stg3_0), ⌜f = X⌝ ∗ (((c : Thread nD τ).loc cc0_stg3_0) ↦{fullShare} f)))

/-- The body's outcome as the pipeline takes it. -/
theorem post_of (c : Dev nD) : Outs m c ⊢ Post m c := by
  unfold Outs Post Ow Dat.owesAt Pipeline.owesWithin
  rw [show (dats m 0 c).owed t0_0.succ = 0 from rfl]
  iintro ⟨HL, ⟨%W, HO⟩, Hx, Hq, Hw, ⟨%out, %hout, Ho⟩⟩
  isplitl [HL]; · iexact HL
  isplitl [HO]
  · iexists W
    isplitr; · ipureintro; exact fun _ _ => Or.inl trivial
    iexact HO
  isplitl [Hx]; · iapply (stage_out c cc0_stg0_0 (xV m c)); iexact Hx
  isplitl [Hq]; · iapply (stage_out c cc0_stg1_0 (wqV m c)); iexact Hq
  isplitl [Hw]; · iapply (stage_out c cc0_stg2_0 (woV m c)); iexact Hw
  iexists out
  isplitr; · ipureintro; exact hout
  iapply (stage_out c cc0_stg3_0 out); iexact Ho

/-- A window's block is its whole array. -/
theorem whole_0 (f : Vec F S256x1024 .f32) : (win0_0.blk t0_0).view.read (Elt F) f = f := by
  funext j
  refine (congrArg f (funext fun a => Fin.ext ?_) : f ((win0_0.blk t0_0).view.emb j) = f j)
  fin_cases a
  · show 0 + 1 * (j 0).val = (j 0).val; omega
  · show 0 + 1 * (j 1).val = (j 1).val; omega
theorem whole_1 (f : Vec F S1024x1024 .f32) : (win0_1.blk t0_0).view.read (Elt F) f = f := by
  funext j
  refine (congrArg f (funext fun a => Fin.ext ?_) : f ((win0_1.blk t0_0).view.emb j) = f j)
  fin_cases a
  · show 0 + 1 * (j 0).val = (j 0).val; omega
  · show 0 + 1 * (j 1).val = (j 1).val; omega
theorem whole_2 (f : Vec F S1024x1024 .f32) : (win0_2.blk t0_0).view.read (Elt F) f = f := by
  funext j
  refine (congrArg f (funext fun a => Fin.ext ?_) : f ((win0_2.blk t0_0).view.emb j) = f j)
  fin_cases a
  · show 0 + 1 * (j 0).val = (j 0).val; omega
  · show 0 + 1 * (j 1).val = (j 1).val; omega

/-- The body from the pipeline's resources to the pipeline's resources. -/
theorem body_sound (c : Dev nD) : Pre m c ⊢ wp frame (wpE (defs₀ (F := F)) 𝒱₀ c none) Set.univ (cc0_body (F := F) xM xW qM qW oM oW kM kW vM vW rM rW pM pW lM lW fM fW gM gW tM tW cc0_scratch5 cc0_scratch6 cc0_scratch7 cc0_scratch8 cc0_scratch9) (fun _ => Post m c) := by
  have b0 (d) : (dats m 0 c).before (0 : Fin 4) t0_0 d = xV m c := by unfold Dat.before; rw [if_pos (fetch0_0 t0_0)]; exact whole_0 (xV m c)
  have b1 (d) : (dats m 0 c).before (1 : Fin 4) t0_0 d = wqV m c := by unfold Dat.before; rw [if_pos (fetch0_1 t0_0)]; exact whole_1 (wqV m c)
  have b2 (d) : (dats m 0 c).before (2 : Fin 4) t0_0 d = woV m c := by unfold Dat.before; rw [if_pos (fetch0_2 t0_0)]; exact whole_2 (woV m c)
  unfold Pre start
  simp only [b0, b1, b2]
  iintro ⟨⟨⟨⟨%K, HG⟩, HC, HA⟩, HS⟩, Ho, ⟨%d0, Hx⟩, ⟨%d1, Hq⟩, ⟨%d2, Hw⟩, ⟨%Y, -, Hr⟩⟩
  ihave Hx := (stage_in c cc0_stg0_0 (xV m c)) $$ Hx
  ihave Hq := (stage_in c cc0_stg1_0 (wqV m c)) $$ Hq
  ihave Hw := (stage_in c cc0_stg2_0 (woV m c)) $$ Hw
  ihave Hr := (stage_in c cc0_stg3_0 Y) $$ Hr
  unfold Dat.owesAt Pipeline.owesWithin
  icases Ho with ⟨%W, %hW, HO⟩
  rw [show (dats m 0 c).owed t0_0.castSucc = O₀ c from rfl]
  iapply (((body_start m K c).trans (body_run m K c)).trans ((wp frame (wpE (defs₀ (F := F)) 𝒱₀ c none) Set.univ _).mono fun _ => post_of m c))
  isplitl [HG]; · iexact HG
  isplitl [HC]; · iexact HC
  isplitl [HA]; · iexact HA
  isplitl [HS]; · iexact HS
  isplitl [HO]; · unfold Ow; iexists W; iexact HO
  isplitl [Hx]; · iexact Hx
  isplitl [Hq]; · iexact Hq
  isplitl [Hw]; · iexact Hw
  iexists Y; iexact Hr

/-- The pipeline's obligation for the body. -/
theorem body_obligation (c : Dev nD) : Pipeline.BodyObligationRel (dats m 0 c) (defs₀ (F := F)) 𝒱₀ () Set.univ fgt (Rl m c) := fun t => by
  rw [fin_N0 t]
  rw [bigSep_W0, bigSep_W0]
  simp only [owns_whole]
  show Pre m c ⊢ wp frame (wpE (defs₀ (F := F)) 𝒱₀ c none) Set.univ (cc0_body (F := F) xM xW qM qW oM oW kM kW vM vW rM rW pM pW lM lW fM fW gM gW tM tW cc0_scratch5 cc0_scratch6 cc0_scratch7 cc0_scratch8 cc0_scratch9) (fun _ => Post m c)
  exact body_sound m c

end Cert.KernelIdeal.Run

end
-- ==== Proof.Deal.lean ====
/- The launch: cells, tokens and credit dealt to the devices. -/
module

public import proofs.«01_k».proof.Proof.Oblig

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 6 → ℕ)

/-! ## The cells and the tokens the launch mints -/

/-- A device's own five semaphores. -/
abbrev osem : Fin 5 → SemLoc sig := fun k => csem k.succ

theorem ownSemFacts : Pipeline.OwnSemFacts cfg0.spec osem := by decide

theorem csem_inj : Function.Injective csem := fun k k' h => Fin.castSucc_injective _ ((kd_csem k).symm.trans ((congrArg kd h).trans (kd_csem k')))

theorem cell_inj : Function.Injective (fun ck : Dev nD × Fin 6 => cell ck.1 ck.2) := by
  rintro ⟨c, k⟩ ⟨c', k'⟩ h
  have h1 : c = c' := congrArg (fun g : GSem nD τ sig => g.1.1) h
  have h2 : k = k' := csem_inj (congrArg Prod.snd h)
  rw [h1, h2]

/-- All cells. -/
def allCells : Finset (GSem nD τ sig) := Finset.univ.map ⟨_, cell_inj⟩

/-- A cell's token at each distance. -/
abbrev tokOf (x : Dev nD × (Fin 6 × Du)) : GSem nD τ sig × ℕ × Du := (cell x.1 x.2.1, 0, x.2.2)
theorem tokOf_inj : Function.Injective tokOf := by
  rintro ⟨c, k, d⟩ ⟨c', k', d'⟩ h
  have h1 := cell_inj (a₁ := (c, k)) (a₂ := (c', k')) (congrArg Prod.fst h)
  have h2 : d = d' := congrArg (fun x : GSem nD τ sig × ℕ × Du => x.2.2) h
  rw [Prod.mk.injEq] at h1
  rw [h1.1, h1.2, h2]
/-- All tokens. -/
def allToks : Finset (GSem nD τ sig × ℕ × Du) := Finset.univ.map ⟨tokOf, tokOf_inj⟩

/-- What the run is launched from. -/
def u₀ : UU := (initOf (Pipeline.cells cfgs cellOf_inj) (Pipeline.launchToks cfgs cellOf_inj), initOf allCells allToks)

/-- The tokens of cell `k` of device `c`. -/
def tokRow (c : Dev nD) (k : Fin 6) : sProp 𝕄 := bigSep Finset.univ fun d : Du => dutyTok ER (cell c k) 0 d
/-- The tokens device `c` holds of the others' cells of kind `k`. -/
def tokFar (c : Dev nD) (k : Fin 6) : sProp 𝕄 := bigSep Finset.univ fun d : Du => dutyTok ER (cell (c + d) k) 0 d

/-- What the launch deals device `c`. -/
def G (c : Dev nD) : sProp 𝕄 :=
  iprop((bigSep Finset.univ fun k : Fin 6 => roundState ER (Rd m) (cell c k) 0)
    ∗ At c ∗ (bigSep Finset.univ fun k : Fin 6 => reached ER (cell c k) 0) ∗ bigSep Finset.univ fun k : Fin 6 => tokRow c k)

/-- Every cell's invariant, and that its round 0 is reached. -/
def recs : sProp 𝕄 :=
  iprop((bigSep Finset.univ fun ck : Dev nD × Fin 6 => (cellInv ER (Rd m) (K ck) (cell ck.1 ck.2) : sProp 𝕄))
    ∗ (bigSep Finset.univ fun ck : Dev nD × Fin 6 => (reached ER (cell ck.1 ck.2) 0 : sProp 𝕄)))

instance recs_persistent : BI.Persistent (recs m K) := by unfold recs; infer_instance

/-- What the first step makes of it. -/
def G' (c : Dev nD) : sProp 𝕄 := iprop(∃ K : Dev nD × Fin 6 → ℕ, recs m K ∗ At c ∗ Tk c)

/-- A family over six kinds. -/
theorem bs_six (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- The launch element dealt to the devices. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 6 => Φ (cell c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Fin 6 => tokRow c k := by
    unfold allToks; rw [bigSep_map, bigSep_univ_prod]
    refine bigSep_congr fun c _ => ?_
    rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · unfold At; iexact Hat'
  isplitl [Hr']; · iexact Hr'
  iexact Htok'

/-! ## The semaphores -/

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0) := by
  rw [Pipeline.ownSems0_eq_of_list c osem [0, 1, 2, 3, 4] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (cell c k) 0 : sProp 𝕄) := by
  rw [ownSems0_eq, unscopedSems0_eq, bs_six]
  iintro ⟨H, H0⟩
  isplitl [H0]; · iexact H0
  iexact H

/-- A device's cells become invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 6 => iprop(∃ κ : ℕ, cellInv ER (Rd m) κ (cell c k)))
          ∗ At c ∗ (bigSep Finset.univ fun k : Fin 6 => reached ER (cell c k) 0) ∗ bigSep Finset.univ fun k : Fin 6 => tokRow c k) := by
  unfold G
  iintro ⟨Hos, Hus, Hst, Hat⟩
  ihave Hv := (sems_all (F := F) c) $$ [Hos Hus]
  · isplitl [Hos] <;> iassumption
  imod (show iprop((bigSep Finset.univ fun k : Fin 6 => semVal (cell c k) 0) ∗ bigSep Finset.univ fun k : Fin 6 => roundState ER (Rd m) (cell c k) 0)
      ⊢ (|={Set.univ}=> bigSep Finset.univ fun k : Fin 6 => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  iexact Hat

/-! ## The tokens, each to the device that pays with it -/

/-- A device and a distance, and the device that far on. -/
def shift : Dev nD × Du ≃ Dev nD × Du where
  toFun x := (x.1 + x.2, x.2)
  invFun x := (x.1 - x.2, x.2)
  left_inv x := Prod.ext (by exact add_sub_cancel_right x.1 x.2) rfl
  right_inv x := Prod.ext (by exact sub_add_cancel x.1 x.2) rfl

/-- All tokens of one kind, by the cell's device or by the paying device. -/
theorem row_far (k : Fin 6) : (bigSep Finset.univ fun c : Dev nD => (tokRow c k : sProp 𝕄)) = bigSep Finset.univ fun c : Dev nD => tokFar c k := by
  unfold tokRow tokFar
  rw [← bigSep_univ_prod (fun x : Dev nD × Du => (dutyTok ER (cell x.1 k) 0 x.2 : sProp 𝕄)),
    ← bigSep_univ_prod (fun x : Dev nD × Du => (dutyTok ER (cell (x.1 + x.2) k) 0 x.2 : sProp 𝕄)),
    bigSep_univ_equiv shift (fun x : Dev nD × Du => (dutyTok ER (cell x.1 k) 0 x.2 : sProp 𝕄))]
  rfl

/-- The tokens a device starts with are among those dealt to it. -/
theorem tk_of (c : Dev nD) : iprop(tokFar c 0 ∗ tokRow c 1 ∗ tokFar c 2 ∗ tokRow c 3 ∗ tokFar c 4 ∗ tokRow c 5) ⊢ (Tk c : sProp 𝕄) := by
  unfold tokFar tokRow Tk Toks1 Toks2
  have hr (Φ : Du → sProp 𝕄) : bigSep Finset.univ Φ ⊢ bigSep (rem 0) Φ := bigSep_subset (Finset.subset_univ _)
  have h5 (Φ : Du → sProp 𝕄) : bigSep Finset.univ Φ ⊢ bigSep (dut 5) Φ := bigSep_subset (Finset.subset_univ _)
  iintro ⟨T0, T1, T2, T3, T4, T5⟩
  isplitl [T0]; · iapply (hr fun d => dutyTok ER (cell (c + d) 0) 0 d); iexact T0
  isplitl [T1 T2]
  · isplitl [T1]; · iapply (hr fun d => dutyTok ER (cell c 1) 0 d); iexact T1
    iapply (hr fun d => dutyTok ER (cell (c + d) 2) 0 d); iexact T2
  isplitl [T3 T4]
  · isplitl [T3]; · iapply (hr fun d => dutyTok ER (cell c 3) 0 d); iexact T3
    iapply (hr fun d => dutyTok ER (cell (c + d) 4) 0 d); iexact T4
  iapply (h5 fun d => dutyTok ER (cell c 5) 0 d); iexact T5

/-- The tokens dealt around. -/
theorem toks_around : (bigSep Finset.univ fun c : Dev nD => bigSep Finset.univ fun k : Fin 6 => (tokRow c k : sProp 𝕄)) ⊢ bigSep Finset.univ fun c : Dev nD => Tk c := by
  refine Entails.trans (Entails.of_eq ?_) (bigSep_mono fun c _ => tk_of c)
  rw [bigSep_congr (s := Finset.univ) (fun (c : Dev nD) _ => bs_six (fun k => (tokRow c k : sProp 𝕄)))]
  simp only [bigSep_sep']
  rw [row_far 0, row_far 2, row_far 4]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' cells gathered into the records all of them share. -/
theorem regroup :
    (bigSep Finset.univ fun c : Dev nD => iprop((bigSep Finset.univ fun k : Fin 6 => iprop(∃ κ : ℕ, cellInv ER (Rd m) κ (cell c k)))
          ∗ At c ∗ (bigSep Finset.univ fun k : Fin 6 => reached ER (cell c k) 0) ∗ bigSep Finset.univ fun k : Fin 6 => tokRow c k) : sProp 𝕄)
      ⊢ bigSep Finset.univ (G' m) := by
  rw [bigSep_sep', bigSep_sep', bigSep_sep', ← bigSep_univ_prod (fun ck : Dev nD × Fin 6 => iprop(∃ κ : ℕ, cellInv ER (Rd m) κ (cell ck.1 ck.2))),
    ← bigSep_univ_prod (fun ck : Dev nD × Fin 6 => (reached ER (cell ck.1 ck.2) 0 : sProp 𝕄))]
  iintro ⟨HI, Hat, #HR, Htok⟩
  ihave HK := (BI.bigSep_exists_pi Finset.univ (fun (ck : Dev nD × Fin 6) (κ : ℕ) => (cellInv ER (Rd m) κ (cell ck.1 ck.2) : sProp 𝕄))) $$ HI
  icases HK with ⟨%K, #HI⟩
  ihave Htk := (toks_around (F := F)) $$ Htok
  iapply (with_persistent (R := recs m K) (Φ := fun c => iprop(At c ∗ Tk c)) fun c _ => by unfold G'; iintro H; iexists K; iexact H)
  isplitr
  · unfold recs; isplitl; · iexact HI
    iexact HR
  · rw [bigSep_sep']
    isplitl [Hat]; · iexact Hat
    iexact Htk

/-- The step all devices take together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The launch credit -/

theorem cell_eq (a b : Dev nD) (k j : Fin 6) : (cell a k = cell b j) ↔ (a = b ∧ k = j) :=
  ⟨fun h => by have := cell_inj (a₁ := (a, k)) (a₂ := (b, j)) h; rwa [Prod.mk.injEq] at this, fun h => by rw [h.1, h.2]⟩

/-- What all devices together owe one cell at one kind. -/
theorem owe_sum (c : Dev nD) (k j : Fin 6) (S : Finset Du) :
    ∑ d : Dev nD, owe d j S (cell c k) () = if k = j then S.card * amt j.castSucc else 0 := by
  classical
  have h (d : Dev nD) : owe d j S (cell c k) () = ∑ e ∈ S, if d = c - e then (if k = j then amt j.castSucc else 0) else 0 := by
    unfold owe
    rw [Finset.sum_apply, Finsupp.finset_sum_apply]
    refine Finset.sum_congr rfl fun e _ => ?_
    rw [tallyAt_apply]
    by_cases hd : d = c - e
    · subst hd
      by_cases hk : k = j
      · subst hk; rw [if_pos ⟨by rw [sub_add_cancel], rfl⟩, if_pos rfl, if_pos rfl]
      · rw [if_neg (fun hh => hk ((cell_eq _ _ _ _).1 hh.1).2), if_pos rfl, if_neg hk]
    · rw [if_neg (fun hh => hd (by rw [((cell_eq _ _ _ _).1 hh.1).1, add_sub_cancel_right])), if_neg hd]
  rw [Finset.sum_congr rfl fun d _ => h d, Finset.sum_comm]
  simp only [Finset.sum_ite_eq', Finset.mem_univ, if_true, Finset.sum_const, smul_eq_mul]
  split <;> simp

/-- What all devices together owe one cell. -/
theorem O₀_sum (c : Dev nD) (k : Fin 6) (hk : k = 0 ∨ k = 2 ∨ k = 4) :
    ∑ d : Dev nD, O₀ d (cell c k) () = (dut k.castSucc).card * amt k.castSucc := by
  unfold O₀
  simp only [Pi.add_apply, Finsupp.add_apply, Finset.sum_add_distrib, owe_sum]
  rcases hk with rfl | rfl | rfl <;> simp <;> exact Or.inl (by decide)

theorem launch_at (c : Dev nD) (k : Fin 6) (hk : k = 0 ∨ k = 2 ∨ k = 4) :
    tallyOn (cell c k) (launchCredit (Pipeline.owing O₀) 0 (cell c k))
      = (tallyAt (cell c k) () ((dut k.castSucc).card * amt k.castSucc) : CellTallies nD τ sig Unit) := by
  unfold tallyAt; refine congrArg _ (Finsupp.ext fun u => ?_); cases u
  rw [Pipeline.launchCredit_owing, Finsupp.single_eq_same, O₀_sum c k hk]

/-- The credit a device is launched with. -/
theorem creds (c : Dev nD) : (Pipeline.launchCred O₀ c : sProp 𝕄) ⊢ iprop(Cr c 0 ∗ Cr c 2 ∗ Cr c 4) := by
  unfold Pipeline.launchCred Cr
  rw [← launch_at c 0 (Or.inl rfl), ← launch_at c 2 (Or.inr (Or.inl rfl)), ← launch_at c 4 (Or.inr (Or.inr rfl)),
    bigSep_univ_at _ (csem 0)]
  refine sep_mono_right ?_
  rw [bigSep_erase (i := csem 2) (Finset.mem_erase.mpr ⟨by decide, Finset.mem_univ _⟩)]
  refine sep_mono_right ?_
  exact bigSep_elim (i := csem 4) (Finset.mem_erase.mpr ⟨by decide, Finset.mem_erase.mpr ⟨by decide, Finset.mem_univ _⟩⟩)

end Cert.KernelIdeal.Run

end
-- ==== Proof.Run.lean ====
/- The run of the sixteen devices. -/
module

public import proofs.«01_k».proof.Proof.Deal
public import Idealize.ShloMosaic.Lib.Pipeline.ArrRel
public import Idealize.ShloMosaic.Lib.Pipeline.CollectiveSegs
public import Idealize.ShloMosaic.Lib.Quiescent

@[expose] public section

set_option maxRecDepth 100000

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (ρ : Dev nD → PrngReg) (m : (ℓ : Loc nD τ sig) → Buf (Elt F) ℓ) (K : Dev nD × Fin 6 → ℕ)

/-! ## The theorem's side conditions -/

/-- The region's data, the result's window held to `Out`. -/
def rdats (p : Fin 1) (c : Dev nD) : Pipeline.RDat τ (Elt F) Unit ℕ UU ℕ (cfgs p) c := (dats m p c).toRRel fgt (Rl m c)

theorem share_eq (c : Dev nD) (w : Fin cfg0.W) : (rdats m 0 c).share w = fullShare := by
  show (dats m 0 c).share w = fullShare
  unfold Dat.share; split <;> rfl

/-- A device's start from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨H3, H4⟩, #Hlev, Hcr, -, HG⟩
  ihave Hc := (creds (F := F) c) $$ Hcr
  imodintro
  unfold start G' recs Ctx
  icases HG with ⟨%K, ⟨#HI, #HR⟩, Hat, Htk⟩
  isplitl
  · isplitl [Hat Htk]
    · iexists K
      isplitr
      · isplitr; · iexact HI
        isplitr; · iexact HR
        iexact Hlev
      isplitl [Hat]; · iexact Hat
      iexact Htk
    isplitl [Hc]; · iexact Hc
    isplitl [H3]; · iexact H3
    iexact H4
  · iempintro

theorem phi0_intro (c : Dev nD) :
    iprop(start m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = iprop(start m c ∗ Scr c) from rfl, scopedRest0_eq]
  unfold Scr
  iintro ⟨Hs, -, Hr⟩
  isplitl [Hs]; · iexact Hs
  iexact Hr

/-- What is kept for the final memory. -/
def Kept (c : Dev nD) : sProp 𝕄 := iprop(unscopedSems0 c ∗ Bf c main_arg3 (kV m c) ∗ Bf c main_arg4 (vV m c))

theorem phi1_exit (c : Dev nD) :
    (rdats m 0 c).Φ (Fin.last cfg0.N) ⊢ iprop(Kept m c ∗ Pipeline.ownSems0 osem c ∗ Pipeline.scopedRest cfg0.spec c) := by
  rw [show (rdats m 0 c).Φ (Fin.last cfg0.N) = Left₁ m c from rfl, scopedRest0_eq, ownSems0_eq]
  unfold Left₁ Kept
  rw [unscopedSems0_eq]
  iintro ⟨HS, ⟨H0, H1⟩, Hk, Hv⟩
  isplitl [H0 Hk Hv]
  · isplitl [H0]; · iexact H0
    isplitl [Hk]; · iexact Hk
    iexact Hv
  isplitl [H1]; · iexact H1
  iexact HS

theorem stage_kd : ∀ (w : Fin cfg0.W) (s : Fin (cfg0.win w).nbuf), kd (.dma ((cfg0.win w).sem s)) = 6 := by decide

theorem may_stage (c : Dev nD) (q : DmaSem sig) (hk : kd (.dma q) = 6) (O : CellTallies nD τ sig Unit) (hO : O = O₀ c ∨ O = 0) :
    (levAts L lv : sProp 𝕄) ⊢ MayWait (c : Thread nD τ) (.dma q) () O := by
  rcases hO with rfl | rfl
  · unfold O₀
    exact mw_owe c _ _ _ _ (by rw [hk]; decide) (Or.inr (by rw [hk]; decide)) (Or.inr (by rw [hk]; decide))
  · exact mw_zero c _

theorem waits (c : Dev nD) : (levAts L lv : sProp 𝕄) ⊢ Pipeline.RDat.cellsWaits cfgs (rdats m) () 0 c :=
  Pipeline.RDat.cellsWaits_intro cfgs (rdats m) () 0 c fun w s t =>
    may_stage c _ (stage_kd w s) _ (by
      rcases t with ⟨_ | _, ht⟩
      · exact Or.inl rfl
      · exact Or.inr rfl)

/-- The facts read off what is kept. -/
def Fin₁ (c : Dev nD) (s : MemSt nD τ sig (Elt F)) : Prop :=
  s.mem ((c : Thread nD τ).loc main_arg3) = kV m c ∧ s.mem ((c : Thread nD τ).loc main_arg4) = vV m c
    ∧ ∀ sm : SemLoc sig, sm.isScoped .tc = false → s.sem ((c.tc : Thread nD τ), sm) = 0

theorem kept_read (c : Dev nD) (s' : Phys nD τ sig (Elt F)) :
    iprop(Kept m c ∗ emp ∗ SI s') ⊢ |={Set.univ}=> iprop(⌜Fin₁ m c s'.mem⌝ ∗ SI s') := by
  unfold Kept Fin₁
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨Buf.eq_of_forall_mem_univ hk, Buf.eq_of_forall_mem_univ hv, hs⟩
  iexact HSI

/-! ## The run -/

/-- What the run leaves: every argument as it was, every device's result one of the outcomes. -/
def QC (s : MemSt nD τ sig (Elt F)) : Prop := ∀ c : Dev nD,
  s.mem ((c : Thread nD τ).loc main_arg0) = xV m c ∧ s.mem ((c : Thread nD τ).loc main_arg1) = wqV m c
    ∧ s.mem ((c : Thread nD τ).loc main_arg2) = woV m c ∧ s.mem ((c : Thread nD τ).loc main_arg3) = kV m c
    ∧ s.mem ((c : Thread nD τ).loc main_arg4) = vV m c ∧ Out m (s.mem ((c : Thread nD τ).loc main_v1))

/-- An input array is as it was. -/
theorem in_of (c : Dev nD) (w : Fin cfg0.W) (hw : (cfg0.win w).isOut = false) (X : Buf (Elt F) (((cfg0.win w).arr.view.loc (c : Thread nD τ))))
    (h : (rdats m 0 c).ArrAt w cfg0.N X) : X = m ((cfg0.win w).arr.view.loc (c : Thread nD τ)) := by
  have e := Pipeline.RDat.ArrAt_in (dats m 0 c |>.toRRel fgt (Rl m c)) w hw cfg0.N
  exact (congrFun e X).mp h

theorem whole_at : (cfg0.win (3 : Fin 4)).WholeAt t0_0 := by decide

/-- The result array holds what the body left in its window. -/
theorem out_of [∀ e, Nonempty (Elt F e)] (c : Dev nD) (X : Buf (Elt F) (((cfg0.win (3 : Fin 4)).arr.view.loc (c : Thread nD τ))))
    (h : (rdats m 0 c).ArrAt (3 : Fin 4) cfg0.N X) : Out m X := by
  obtain ⟨Y, hY, hj⟩ := h.emb_eq_of_wholeAt whole_at
  have hO : Out m Y := (dats m 0 c).toRRel_leaves (by decide) hY
  have : X = Y := by
    funext j
    have := hj j
    have e : ((cfg0.win (3 : Fin 4)).arr.view.emb j) = j := rfl
    rw [e] at this
    rw [this]; rfl
  rw [this]; exact hO

/-- From any memory with zero counters, every weakly fair execution of the sixteen devices ends; at the end every argument is as it
    was, every device's result is one of the outcomes, and every semaphore counter is zero. -/
theorem run_main [∀ e, Nonempty (Elt F e)] : θ_run defs (onTc (τ := τ) (main (F := F))) (s₀ m ρ) (fun r => QC m r.2 ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := fun c => (body_obligation m c).toRRel) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := fun g hg => if_neg hg) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := Kept m) (Z := fun _ => iprop(emp))
    (hX := start_intro ρ m) (hin := phi0_intro m) (hout := phi1_exit m)
    (QY := Fin₁ m) (hY := kept_read m)
    (hQ := fun s h hs => ⟨fun c => ⟨in_of m c (0 : Fin 4) rfl _ ((h c).1 (0 : Fin 4)), in_of m c (1 : Fin 4) rfl _ ((h c).1 (1 : Fin 4)), in_of m c (2 : Fin 4) rfl _ ((h c).1 (2 : Fin 4)),
        (h c).2.2.1, (h c).2.2.2.1, out_of m c _ ((h c).1 (3 : Fin 4))⟩, sem_eq_zero hs fun c => (h c).2.2.2.2⟩)

end Cert.KernelIdeal.Run

end
-- ==== Proof.Frames.lean ====
/- The frames of the programs and the constant the kernel's idealization names. -/
module

public import proofs.«01_k».proof.Proof.Run
public import proofs.«01_k».proof.Defs
public import proofs.«01_k».proof.Proof.Gen.Kernel
public import proofs.«01_k».proof.Proof.Gen.ReferenceIdeal.Run

@[expose] public section

set_option maxRecDepth 100000

noncomputable section

namespace Cert.Final

open Idealize.ShloMosaic Idealize.ShloMosaic.TcCoe Idealize.SL.Sem

/-- What the kernel as printed has for the constant its idealization names: the number its word is. -/
abbrev plainNamed : Named Bits where
  named _ _ {φ} bits := Scalar.ofBits φ bits

/-- Over any floats, with any reading of the named constant, the kernel ends with its arguments unchanged and its counters at zero. -/
theorem frame_any {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Run.run_main ρ m)

/-- The two programs' bodies are the same at every label. -/
theorem defs₀_eq : (@Cert.KernelIdeal.defs₀ Bits _ plainNamed _ : Defs Cert.Kernel.nD Cert.Kernel.τ Cert.Kernel.sig (Elt Bits) Cert.Kernel.Λ₀) = Cert.Kernel.defs₀ (F := Bits) := by
  refine congrArg Defs.onTc (funext fun ℓ => funext fun a => ?_)
  match ℓ, a with
  | (0 : Fin 1), (t, s) => rfl

/-- So are their procedures with the pipeline's own. -/
theorem defs_eq : (@Cert.KernelIdeal.defs Bits _ plainNamed _ : Defs Cert.Kernel.nD Cert.Kernel.τ Cert.Kernel.sig (Elt Bits) (Pipeline.Sig Cert.Kernel.Λ₀ (Fin 1) fun p => (Cert.Kernel.pcfgs (F := Bits) p).Adm)) = Cert.Kernel.defs (F := Bits) :=
  congrArg (Pipeline.defs (Cert.Kernel.pcfgs (F := Bits))) defs₀_eq

/-- The kernel as printed ends with its arguments unchanged and its counters at zero. -/
theorem frame_p : Cert.quiescent_Kernel := fun m ρ _ => by
  rw [← defs_eq]
  exact @frame_any Bits _ plainNamed m ρ

/-- The kernel read over the extended reals ends with its arguments unchanged and its counters at zero. -/
theorem frame_pi : Cert.quiescent_KernelIdeal := fun m ρ _ => frame_any m ρ

/-- The reference has no semaphore: it ends with its arguments unchanged. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The constant's name stands for the scale times the logarithm's base. -/
theorem preserves : Cert.preserves_Kernel_KernelIdeal :=
  IdealRules.named_const.statement Cert.KernelIdeal.κ "scale_log2e" .f32 0x3E0293EE#32 ((((Real.log 2) * (Real.sqrt 128))⁻¹ : ℝ) : EReal) rfl

end Cert.Final

end
-- ==== Proof.Attn.lean ====
/- Softmax over the extended reals: what the two programs' weights have in common. -/
module

public import Idealize.ShloMosaic.PureOps.Ideal
public import Idealize.ShloMosaic.Lib.Pointwise

@[expose] public section

noncomputable section

namespace Cert.Attn

open Idealize.ShloMosaic

/-- A nonnegative real goes into a sum. -/
theorem scale_sum {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-- A sum of reals is real. -/
theorem sum_real {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A contraction of reals is real. -/
theorem dot_real {ι : Type} (t : Finset ι) (f g : ι → ℝ) :
    ∑ i ∈ t, ((f i : ℝ) : EReal) * ((g i : ℝ) : EReal) = ((∑ i ∈ t, f i * g i : ℝ) : EReal) := by
  rw [← sum_real]
  exact Finset.sum_congr rfl fun i _ => (EReal.coe_mul _ _).symm

/-- The maximum of finitely many reals, and at least one, is real. -/
theorem max_real {n : ℕ} (hn : 0 < n) (s : Fin n → ℝ) :
    ∃ r : ℝ, (Finset.univ.fold max (⊥ : EReal) fun j => (s j : EReal)) = (r : EReal) := by
  have ht : (Finset.univ.fold max (⊥ : EReal) fun j => (s j : EReal)) < ⊤ :=
    (Finset.fold_max_lt _).mpr ⟨bot_lt_top, fun j _ => EReal.coe_lt_top _⟩
  have hb : ⊥ < (Finset.univ.fold max (⊥ : EReal) fun j => (s j : EReal)) :=
    (Finset.lt_fold_max _).mpr (.inr ⟨⟨0, hn⟩, Finset.mem_univ _, EReal.bot_lt_coe _⟩)
  exact ⟨_, (EReal.coe_toReal ht.ne hb.ne').symm⟩

/-- Softmax with the row's maximum taken off, applied to any values, is the quotient of the plain exponential sums. -/
theorem softmax_shift {n : ℕ} (hn : 0 < n) (s : Fin n → ℝ) (v : Fin n → EReal) :
    Ideal.div (∑ j, v j * Ideal.exp ((s j : EReal) - Finset.univ.fold max (⊥ : EReal) fun j => (s j : EReal)))
        (∑ j, Ideal.exp ((s j : EReal) - Finset.univ.fold max (⊥ : EReal) fun j => (s j : EReal)))
      = Ideal.div (∑ j, ((Real.exp (s j) : ℝ) : EReal) * v j) (∑ j, ((Real.exp (s j) : ℝ) : EReal)) := by
  obtain ⟨r, hr⟩ := max_real hn s
  rw [hr]
  have he (j : Fin n) : Ideal.exp ((s j : EReal) - (r : EReal)) = ((Real.exp (-r) * Real.exp (s j) : ℝ) : EReal) := by
    rw [← EReal.coe_sub, Ideal.exp_coe, ← Real.exp_add]
    congr 2; ring
  have hc : 0 < Real.exp (-r) := Real.exp_pos _
  have hs : 0 < ∑ j, Real.exp (s j) :=
    Finset.sum_pos (fun j _ => Real.exp_pos _) ⟨⟨0, hn⟩, Finset.mem_univ _⟩
  have h1 : (∑ j, v j * Ideal.exp ((s j : EReal) - (r : EReal)))
      = ((Real.exp (-r) : ℝ) : EReal) * ∑ j, ((Real.exp (s j) : ℝ) : EReal) * v j := by
    rw [scale_sum _ _ hc.le]
    refine Finset.sum_congr rfl fun j _ => ?_
    rw [he, EReal.coe_mul, mul_comm, mul_assoc]
  have h2 : (∑ j, Ideal.exp ((s j : EReal) - (r : EReal))) = ((Real.exp (-r) * ∑ j, Real.exp (s j) : ℝ) : EReal) := by
    rw [Finset.mul_sum, ← sum_real]
    exact Finset.sum_congr rfl fun j _ => he j
  rw [h1, h2, sum_real, Ideal.div_coe (mul_pos hc hs).ne', Ideal.div_coe hs.ne', mul_comm ((Real.exp (-r) : ℝ) : EReal), mul_assoc,
    ← EReal.coe_mul]
  congr 2
  field_simp

/-- The kernel's constant turns the base-two exponential of a scaled score into the exponential of the score over the root. -/
theorem exp2_scaled (t : ℝ) :
    Ideal.exp2 (((t * ((Real.log 2) * (Real.sqrt 128))⁻¹ : ℝ) : EReal)) = ((Real.exp (t / Real.sqrt 128) : ℝ) : EReal) := by
  have h2 : Real.log 2 ≠ 0 := (Real.log_pos (by norm_num)).ne'
  have h128 : Real.sqrt 128 ≠ 0 := (Real.sqrt_pos.mpr (by norm_num)).ne'
  rw [Ideal.exp2_coe]
  congr 1
  rw [Real.rpow_eq_pow]
  rw [Real.rpow_def_of_pos (by norm_num)]
  congr 1
  field_simp

/-- A score's scale taken out of the contraction. -/
theorem dot_scaled {ι : Type} (t : Finset ι) (c : ℝ) (f g : ι → ℝ) :
    ∑ i ∈ t, (((f i : ℝ) : EReal) * (c : EReal)) * ((g i : ℝ) : EReal) = (((∑ i ∈ t, f i * g i) * c : ℝ) : EReal) := by
  rw [Finset.sum_mul, ← sum_real]
  refine Finset.sum_congr rfl fun i _ => ?_
  rw [← EReal.coe_mul, ← EReal.coe_mul]
  congr 1; ring

/-- The query of row `i` in column `c`, of real factors. -/
def query (x : (⟨2, ![256, 1024]⟩ : Shape).Idx → ℝ) (w : (⟨2, ![1024, 1024]⟩ : Shape).Idx → ℝ) (i : Fin 256) (c : Fin 1024) : ℝ :=
  ∑ k : Fin 1024, x (ix2 i k) * w (ix2 k c)

/-- The unscaled score of head `h`, row `i`, against key `j` of an array of `n` keys. -/
def score {n : ℕ} (x : (⟨2, ![256, 1024]⟩ : Shape).Idx → ℝ) (w : (⟨2, ![1024, 1024]⟩ : Shape).Idx → ℝ)
    (k : (⟨3, ![n, 2, 128]⟩ : Shape).Idx → ℝ) (h : Fin 8) (i : Fin 256) (j : Fin n) : ℝ :=
  ∑ d : Fin 128, query x w i ⟨h.val * 128 + d.val, by omega⟩ * k (ix3 j ⟨h.val / 4, by omega⟩ d)

/-- The weight of a key before its row is normalised. -/
def weight {n : ℕ} (x : (⟨2, ![256, 1024]⟩ : Shape).Idx → ℝ) (w : (⟨2, ![1024, 1024]⟩ : Shape).Idx → ℝ)
    (k : (⟨3, ![n, 2, 128]⟩ : Shape).Idx → ℝ) (h : Fin 8) (i : Fin 256) (j : Fin n) : ℝ :=
  Real.exp (score x w k h i j / Real.sqrt 128)

/-- The attention of row `i` in column `c`: the weighted mean of the values of the column's head. -/
def attend (x : (⟨2, ![256, 1024]⟩ : Shape).Idx → ℝ) (w : (⟨2, ![1024, 1024]⟩ : Shape).Idx → ℝ)
    (k : (⟨3, ![65536, 2, 128]⟩ : Shape).Idx → ℝ) (v : (⟨3, ![65536, 2, 128]⟩ : Shape).Idx → EReal) (i : Fin 256) (c : Fin 1024) : EReal :=
  Ideal.div
    (∑ j : Fin 65536, ((weight x w k ⟨c.val / 128, by omega⟩ i j : ℝ) : EReal) * v (ix3 j ⟨c.val / 128 / 4, by omega⟩ ⟨c.val % 128, by omega⟩))
    (∑ j : Fin 65536, ((weight x w k ⟨c.val / 128, by omega⟩ i j : ℝ) : EReal))

/-- Sixteen blocks of keys, summed in the order in which they arrive at device `c`, are all the keys. -/
theorem sum_blocks (c : Fin 16) (f : Fin 65536 → EReal) :
    ∑ d : Fin 16, ∑ j : Fin 4096, f ⟨(c - d).val * 4096 + j.val, by omega⟩ = ∑ k : Fin 65536, f k := by
  rw [Fin.sum_univ_tiles 16 4096 rfl f]
  exact (Equiv.subLeft c).sum_comp fun d : Fin 16 => ∑ j : Fin 4096, f ⟨d.val * 4096 + j.val, by omega⟩

end Cert.Attn

end
-- ==== Proof.KerValue.lean ====
/- What the kernel's partial sums and finished rows are over the extended reals. -/
module

public import proofs.«01_k».proof.Proof.Vals
public import proofs.«01_k».proof.Proof.Attn
public import Idealize.ShloMosaic.Lib.Pointwise

@[expose] public section

set_option maxRecDepth 100000

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ)

/-- The kernel's named constant. -/
theorem scale_named : Named.named (F := Ideal) Cert.KernelIdeal.κ "scale_log2e" (φ := .f32) 0x3E0293EE#32
    = ((((Real.log 2) * (Real.sqrt 128))⁻¹ : ℝ) : EReal) :=
  IdealRules.named_const.ideal_named_scalar _ _ _ _ rfl

/-- The scaled queries: the query times the named constant. -/
theorem pay1_at (x : FVec Ideal S256x1024 .f32) (w : FVec Ideal S1024x1024 .f32) (i : Fin 256) (c : Fin 1024) :
    k0_pay1 (F := Ideal) x w (ix2 i c) = (∑ k : Fin 1024, x (ix2 i k) * w (ix2 k c)) * ((((Real.log 2) * (Real.sqrt 128))⁻¹ : ℝ) : EReal) := by
  pointwise [k0_pay1, scale_named]

/-- The keys are the scratch's first columns, -/
theorem pay3_at (kv : FVec Ideal S4096x512 .f32) (r : Fin 4096) (c : Fin 256) :
    k0_pay3 (F := Ideal) kv (ix2 r c) = kv (ix2 r ⟨c.val, by omega⟩) := by
  pointwise [k0_pay3, k0_pay2]

/-- the values its last. -/
theorem pay4_at (kv : FVec Ideal S4096x512 .f32) (r : Fin 4096) (c : Fin 256) :
    k0_pay4 (F := Ideal) kv (ix2 r c) = kv (ix2 r ⟨256 + c.val, by omega⟩) := by
  pointwise [k0_pay4, k0_pay2]

/-- A key head in the scratch is the argument's, -/
theorem kvv_key (c : Dev nD) (r : Fin 4096) (g : Fin 2) (d : Fin 128) :
    kvv m c (ix2 r ⟨128 * g.val + d.val, by omega⟩) = kV m c (ix3 r g d) := by
  have h1 : (128 * g.val + d.val) / 128 = g.val := by omega
  have h2 : (128 * g.val + d.val) % 128 = d.val := by omega
  have h3 : g.val % 2 = g.val := by omega
  show kvBlock m c ((128 * g.val + d.val) / 128) r ⟨(128 * g.val + d.val) % 128, _⟩ = _
  simp only [h1, h2, kvBlock, if_pos g.isLt, h3]
  rfl

/-- and so is a value head. -/
theorem kvv_value (c : Dev nD) (r : Fin 4096) (g : Fin 2) (d : Fin 128) :
    kvv m c (ix2 r ⟨256 + (128 * g.val + d.val), by omega⟩) = vV m c (ix3 r g d) := by
  have h1 : (256 + (128 * g.val + d.val)) / 128 = 2 + g.val := by omega
  have h2 : (256 + (128 * g.val + d.val)) % 128 = d.val := by omega
  have h3 : (2 + g.val) % 2 = g.val := by omega
  show kvBlock m c ((256 + (128 * g.val + d.val)) / 128) r ⟨(256 + (128 * g.val + d.val)) % 128, _⟩ = _
  simp only [h1, h2, kvBlock, if_neg (show ¬(2 + g.val < 2) by omega), h3]
  rfl

/-- The sums of the sixteen landed slots. -/
theorem pay66_at (a : FVec Ideal S16x16x1152 .bf16) (i : Fin 16) (c : Fin 1152) :
    k0_pay66 (F := Ideal) a (ix2 i c) = ∑ d : Fin 16, a (ix3 d i c) := by
  pointwise [k0_pay66]

/-- The first head's row sums among them. -/
theorem pay67_at (a : FVec Ideal S16x16x1152 .bf16) (i : Fin 16) :
    k0_pay67 (F := Ideal) a (ix2 i 0) = ∑ d : Fin 16, a (ix3 d i 1024) := by
  pointwise [k0_pay67, k0_pay66]

/-- Finished rows: each column over its head's row sum, times the output matrix. -/
theorem pay68_at (s : FVec Ideal S16x1152 .f32) (l : FVec Ideal S16x1 .f32) (wo : FVec Ideal S1024x1024 .f32) (i : Fin 16) (c : Fin 1024)
    (hl : l (ix2 i 0) = s (ix2 i 1024)) :
    k0_pay68 (F := Ideal) s l wo (ix2 i c)
      = ∑ k : Fin 1024, Ideal.div (s (ix2 i ⟨k.val, by omega⟩)) (s (ix2 i ⟨1024 + k.val / 128, by omega⟩)) * wo (ix2 k c) := by
  pointwise [k0_pay68, hl]
  refine Finset.sum_congr rfl fun k _ => congrArg (· * wo (ix2 k c)) ?_
  have key (p q p' q' : Fin 1152) (h : p.val = p'.val) (h' : q.val = q'.val) :
      Ideal.div (s (ix2 i p)) (s (ix2 i q)) = Ideal.div (s (ix2 i p')) (s (ix2 i q')) := by
    rw [Fin.ext h, Fin.ext h']
  have hk := k.isLt
  split_ifs <;> refine key _ _ _ _ ?_ ?_ <;> simp <;> omega

/-! ## One device's partial sums, of finite queries and keys -/

variable (xr : S256x1024.Idx → ℝ) (wr : S1024x1024.Idx → ℝ) (kr : (⟨3, ![65536, 2, 128]⟩ : Shape).Idx → ℝ)
  (V : (⟨3, ![65536, 2, 128]⟩ : Shape).Idx → EReal) (wo : FVec Ideal S1024x1024 .f32)

/-- The key of the whole array that is device `c`'s key `j`. -/
def keyOf (c : Dev nD) (j : Fin 4096) : Fin 65536 := ⟨c.val * 4096 + j.val, by have : c.val < 16 := c.isLt; omega⟩

/-- The devices hold these arrays: all of them the queries' factors and the output matrix, each its block of keys and values. -/
structure Holds : Prop where
  x (c : Dev nD) (i : Fin 256) (k : Fin 1024) : xV m c (ix2 i k) = ((xr (ix2 i k) : ℝ) : EReal)
  w (c : Dev nD) (k : Fin 1024) (j : Fin 1024) : wqV m c (ix2 k j) = ((wr (ix2 k j) : ℝ) : EReal)
  o (c : Dev nD) : woV m c = wo
  k (c : Dev nD) (j : Fin 4096) (g : Fin 2) (d : Fin 128) : kV m c (ix3 j g d) = ((kr (ix3 (keyOf c j) g d) : ℝ) : EReal)
  v (c : Dev nD) (j : Fin 4096) (g : Fin 2) (d : Fin 128) : vV m c (ix3 j g d) = V (ix3 (keyOf c j) g d)

variable {m xr wr kr V wo} (H : Holds m xr wr kr V wo)
include H

/-- The kernel's weight of a local key is the weight of the key in the whole array. -/
theorem weight_at (c : Dev nD) (a : Fin 2) (h : Fin 8) (i : Fin 128) (j : Fin 4096) :
    wH (qH m c a h) (kH m c h) (ix2 i j) = ((Attn.weight xr wr kr h ⟨128 * a.val + i.val, by omega⟩ (keyOf c j) : ℝ) : EReal) := by
  have hq (d : Fin 128) : qb m c (ix2 (⟨128 * a.val + i.val, by omega⟩ : Fin 256) (⟨128 * h.val + d.val, by omega⟩ : Fin 1024))
      = ((Attn.query xr wr ⟨128 * a.val + i.val, by omega⟩ ⟨h.val * 128 + d.val, by omega⟩ : ℝ) : EReal)
        * ((((Real.log 2) * (Real.sqrt 128))⁻¹ : ℝ) : EReal) := by
    rw [qb, pay1_at]
    simp only [H.x, H.w, Attn.dot_real, Nat.mul_comm 128 h.val]
    rfl
  have hk (d : Fin 128) : kb m c (ix2 j (⟨128 * (h.val / 4) + d.val, by omega⟩ : Fin 256))
      = ((kr (ix3 (keyOf c j) ⟨h.val / 4, by omega⟩ d) : ℝ) : EReal) := by
    rw [kb, pay3_at]
    exact (kvv_key m c j ⟨h.val / 4, by omega⟩ d).trans (H.k c j _ d)
  pointwise [wH, qH, kH]
  show Ideal.exp2 _ = _
  simp only [hq, hk]
  rw [Attn.dot_scaled, Attn.exp2_scaled]
  rfl

/-- Head `h`'s partial output. -/
theorem oH_at (c : Dev nD) (a : Fin 2) (h : Fin 8) (i : Fin 128) (e : Fin 128) :
    oH m c a h (ix2 i e) = ∑ j : Fin 4096, ((Attn.weight xr wr kr h ⟨128 * a.val + i.val, by omega⟩ (keyOf c j) : ℝ) : EReal)
      * V (ix3 (keyOf c j) ⟨h.val / 4, by omega⟩ e) := by
  have hv (j : Fin 4096) : vb m c (ix2 j (⟨128 * (h.val / 4) + e.val, by omega⟩ : Fin 256))
      = V (ix3 (keyOf c j) ⟨h.val / 4, by omega⟩ e) := by
    rw [vb, pay4_at]
    exact (kvv_value m c j ⟨h.val / 4, by omega⟩ e).trans (H.v c j _ e)
  pointwise [oH, vH]
  simp only [weight_at H, hv]

/-- Head `h`'s partial row sum. -/
theorem lH_at (c : Dev nD) (a : Fin 2) (h : Fin 8) (i : Fin 128) :
    lH m c a h (ix2 i 0) = ∑ j : Fin 4096, ((Attn.weight xr wr kr h ⟨128 * a.val + i.val, by omega⟩ (keyOf c j) : ℝ) : EReal) := by
  pointwise [lH]
  simp only [weight_at H]

/-! ## The finished rows -/

/-- A packed output column is a partial output. -/
theorem pk_out (c : Dev nD) (r : Fin 256) (k : Fin 1024) :
    pk m c r ⟨k.val, by omega⟩ = ∑ j : Fin 4096, ((Attn.weight xr wr kr ⟨k.val / 128, by omega⟩ r (keyOf c j) : ℝ) : EReal)
      * V (ix3 (keyOf c j) ⟨k.val / 128 / 4, by omega⟩ ⟨k.val % 128, by omega⟩) := by
  have hr : (⟨128 * (r.val / 128) + r.val % 128, by omega⟩ : Fin 256) = r := Fin.ext (by show 128 * (r.val / 128) + r.val % 128 = r.val; omega)
  rw [pk, dif_pos k.isLt]
  refine (oH_at H c ⟨r.val / 128, by omega⟩ ⟨k.val / 128, by omega⟩ ⟨r.val % 128, by omega⟩ ⟨k.val % 128, by omega⟩).trans ?_
  simp only [hr]

/-- A packed row sum is a partial row sum. -/
theorem pk_sum (c : Dev nD) (r : Fin 256) (h : Fin 8) :
    pk m c r ⟨1024 + h.val, by omega⟩ = ∑ j : Fin 4096, ((Attn.weight xr wr kr h r (keyOf c j) : ℝ) : EReal) := by
  have hr : (⟨128 * (r.val / 128) + r.val % 128, by omega⟩ : Fin 256) = r := Fin.ext (by show 128 * (r.val / 128) + r.val % 128 = r.val; omega)
  have hh : (⟨(1024 + h.val - 1024) % 8, by omega⟩ : Fin 8) = h := Fin.ext (by show (1024 + h.val - 1024) % 8 = h.val; omega)
  rw [pk, dif_neg (by show ¬(1024 + h.val < 1024); omega)]
  refine (lH_at H c ⟨r.val / 128, by omega⟩ ⟨(1024 + h.val - 1024) % 8, by omega⟩ ⟨r.val % 128, by omega⟩).trans ?_
  simp only [hr, hh]

/-- Device `c`'s finished rows are rows of the attention times the output matrix. -/
theorem rows_at (c : Dev nD) (f : FVec Ideal S16x1024 .bf16) (hf : Rows m c f) (i : Fin 16) (col : Fin 1024) :
    f (ix2 i col) = ∑ k : Fin 1024, Attn.attend xr wr kr V (chunkRow c i) k * wo (ix2 k col) := by
  obtain ⟨a, ha, rfl⟩ := hf
  have ho (k : Fin 1024) : (∑ d : Fin 16, a (ix3 d i ⟨k.val, by omega⟩))
      = ∑ j : Fin 65536, ((Attn.weight xr wr kr ⟨k.val / 128, by omega⟩ (chunkRow c i) j : ℝ) : EReal)
        * V (ix3 j ⟨k.val / 128 / 4, by omega⟩ ⟨k.val % 128, by omega⟩) := by
    rw [← Attn.sum_blocks c]
    refine Finset.sum_congr rfl fun d _ => ?_
    exact (ha d i ⟨k.val, by omega⟩ (by show k.val < 1032; omega)).trans (pk_out H (c - d) (chunkRow c i) k)
  have hl (h : Fin 8) : (∑ d : Fin 16, a (ix3 d i ⟨1024 + h.val, by omega⟩))
      = ∑ j : Fin 65536, ((Attn.weight xr wr kr h (chunkRow c i) j : ℝ) : EReal) := by
    rw [← Attn.sum_blocks c]
    refine Finset.sum_congr rfl fun d _ => ?_
    exact (ha d i ⟨1024 + h.val, by omega⟩ (by show 1024 + h.val < 1032; omega)).trans (pk_sum H (c - d) (chunkRow c i) h)
  rw [fOf, pay68_at _ _ _ _ _ ((pay67_at a i).trans (pay66_at a i 1024).symm), H.o c]
  refine Finset.sum_congr rfl fun k _ => congrArg (· * wo (ix2 k col)) ?_
  rw [pay66_at, pay66_at, ho k, hl ⟨k.val / 128, by omega⟩]
  rfl

/-- The kernel's result is the attention times the output matrix. -/
theorem out_at (out : FVec Ideal S256x1024 .f32) (h : Out m out) (r : Fin 256) (col : Fin 1024) :
    out (ix2 r col) = ∑ k : Fin 1024, Attn.attend xr wr kr V r k * wo (ix2 k col) := by
  obtain ⟨fs, hfs, rfl⟩ := h
  have hp : r.val / 16 < 16 := by omega
  have hr : chunkRow (⟨r.val / 16, hp⟩ : Dev nD) ⟨r.val % 16, by omega⟩ = r := Fin.ext (by show 16 * (r.val / 16) + r.val % 16 = r.val; omega)
  pointwise [k0_pay70]
  refine (rows_at H ⟨r.val / 16, hp⟩ _ (hfs ⟨r.val / 16, hp⟩) ⟨r.val % 16, by omega⟩ col).trans ?_
  rw [hr]

end Cert.KernelIdeal.Run

end
-- ==== Proof.Consts.lean ====
/- The float words of the programs, as extended reals. -/
module

public import Idealize.ShloMosaic.PureOps.Ideal

@[expose] public section

noncomputable section

namespace Cert.Words

open Idealize.ShloMosaic

/-- The word of the head's width. -/
theorem width_word : Ideal.ofBits .f32 0x43000000#32 = ((128 : ℝ) : EReal) := by
  simp [Ideal.ofBits, Ideal.ieee, -EReal.coe_mul]; norm_num

/-- The word a maximum starts at. -/
theorem bottom_word : Ideal.ofBits .f32 0xFF800000#32 = (⊥ : EReal) := by
  simp [Ideal.ofBits, Ideal.ieee]

/-- The word of the bound that a finite number is below. -/
theorem top_word : Ideal.ofBits .f32 0x7F800000#32 = (⊤ : EReal) := by
  simp [Ideal.ofBits, Ideal.ieee]

end Cert.Words

end
-- ==== Proof.RefValue.lean ====
/- What the reference computes, element by element. -/
module

public import proofs.«01_k».proof.Proof.Gen.ReferenceIdeal.Run
public import proofs.«01_k».proof.Proof.Consts
public import proofs.«01_k».proof.Proof.Attn
public import Idealize.ShloMosaic.Lib.Pointwise

@[expose] public section

set_option maxRecDepth 100000

noncomputable section

namespace Cert.ReferenceIdeal.Plain

open Cert.ReferenceIdeal Cert.ReferenceIdeal.Gen
open Idealize.ShloMosaic Idealize.ShloMosaic.TcCoe Idealize.SL.Sem

variable (x : FVec Ideal S256x1024 .f32) (wq wo : FVec Ideal S1024x1024 .f32) (K V : FVec Ideal S65536x2x128 .f32)

/-- The scores, scaled. -/
def scores : FVec Ideal S8x256x65536 .f32 :=
  Host.divf (Host.dotGeneral dot_S256x8x128_S65536x8x128_S8x256x65536_2_2_0_0_1_1 none (shapeCast _ (Host.dotGeneral dot_S256x1024_S1024x1024_S256x1024_1_0_0_1_n_n none x wq) shapeCasts_S256x1024_S256x8x128) (shapeCast _ (broadcastInDim S65536x2x4x128 ![0, 1, 3] bcast_S65536x2x128_S65536x2x4x128_0_1_3 K) shapeCasts_S65536x2x4x128_S65536x8x128)) (broadcastInDim S8x256x65536 ![] bcast_S_S8x256x65536 (Host.sqrt (constant S_ .f32 0x43000000#32)))

/-- The exponentials of the scores less their row's maximum. -/
def weights (S : FVec Ideal S8x256x65536 .f32) : FVec Ideal S8x256x65536 .f32 :=
  Host.exp (subf S (broadcastInDim S8x256x65536 ![0, 1, 2] bcast_S8x256x1_S8x256x65536_0_1_2 (broadcastInDim S8x256x1 ![0, 1] bcast_S8x256_S8x256x1_0_1 (Host.reduce FloatOps.maximumf S (constant S_ .f32 0xFF800000#32) reducesTo_S8x256x65536_S8x256_d2 h_S_))))

/-- The heads' weighted means of the values. -/
def heads (W : FVec Ideal S8x256x65536 .f32) : FVec Ideal S256x1024 .f32 :=
  shapeCast _ (Host.divf (transpose S256x8x128 [2, 0, 1] (Host.dotGeneral dot_S65536x8x128_S8x256x65536_S8x128x256_0_2_2_1_1_0 none (shapeCast _ (broadcastInDim S65536x2x4x128 ![0, 1, 3] bcast_S65536x2x128_S65536x2x4x128_0_1_3 V) shapeCasts_S65536x2x4x128_S65536x8x128) W) transposes_S8x128x256_S256x8x128_2_0_1) (broadcastInDim S256x8x128 ![0, 1, 2] bcast_S256x8x1_S256x8x128_0_1_2 (broadcastInDim S256x8x1 ![0, 1] bcast_S256x8_S256x8x1_0_1 (transpose S256x8 [1, 0] (Host.reduceAdd W (constant S_ .f32 0x00000000#32) reducesTo_S8x256x65536_S8x256_d2 h_S_) transposes_S8x256_S256x8_1_0)))) shapeCasts_S256x8x128_S256x1024

/-- The reference's result. -/
def result : FVec Ideal S256x1024 .f32 :=
  Host.dotGeneral dot_S256x1024_S1024x1024_S256x1024_1_0_0_1_n_n none (heads V (weights (scores x wq K))) wo

/-- The scores of finite factors are real. -/
theorem scores_at (xr : S256x1024.Idx → ℝ) (wr : S1024x1024.Idx → ℝ) (kr : S65536x2x128.Idx → ℝ) (h : Fin 8) (i : Fin 256) (j : Fin 65536) :
    scores (fun a => (xr a : EReal)) (fun a => (wr a : EReal)) (fun a => (kr a : EReal)) (ix3 h i j)
      = ((Attn.score xr wr kr h i j / Real.sqrt 128 : ℝ) : EReal) := by
  pointwise [scores]
  simp only [Attn.dot_real, Words.width_word, Ideal.sqrt_coe, show ¬(128 : ℝ) < 0 from by norm_num, ↓reduceIte,
    Ideal.div_coe (show Real.sqrt 128 ≠ 0 from (Real.sqrt_pos.mpr (by norm_num)).ne')]
  exact (EReal.coe_mul _ _).symm.trans (congrArg _ (mul_one_div _ _))

/-- A weight is the exponential of its score less the row's maximum. -/
theorem weights_at (S : FVec Ideal S8x256x65536 .f32) (h : Fin 8) (i : Fin 256) (j : Fin 65536) :
    weights S (ix3 h i j) = Ideal.exp (S (ix3 h i j) - Finset.univ.fold max (⊥ : EReal) fun k : Fin 65536 => S (ix3 h i k)) := by
  pointwise [weights, Words.bottom_word]

/-- A column of the heads is a weighted sum of values over the sum of the weights. -/
theorem heads_at (W : FVec Ideal S8x256x65536 .f32) (i : Fin 256) (col : Fin 1024) :
    heads V W (ix2 i col) = Ideal.div
      (∑ j : Fin 65536, V (ix3 j ⟨col.val / 128 / 4, by omega⟩ ⟨col.val % 128, by omega⟩) * W (ix3 ⟨col.val / 128, by omega⟩ i j))
      (∑ j : Fin 65536, W (ix3 ⟨col.val / 128, by omega⟩ i j)) := by
  pointwise [heads]

/-- The reference's heads are the attention. -/
theorem attend_at (xr : S256x1024.Idx → ℝ) (wr : S1024x1024.Idx → ℝ) (kr : S65536x2x128.Idx → ℝ) (i : Fin 256) (col : Fin 1024) :
    heads V (weights (scores (fun a => (xr a : EReal)) (fun a => (wr a : EReal)) (fun a => (kr a : EReal)))) (ix2 i col)
      = Attn.attend xr wr kr V i col := by
  rw [heads_at]
  simp only [weights_at, scores_at]
  exact Attn.softmax_shift (by decide) _ _

/-- The reference's result is the attention times the output matrix. -/
theorem result_at (xr : S256x1024.Idx → ℝ) (wr : S1024x1024.Idx → ℝ) (kr : S65536x2x128.Idx → ℝ) (i : Fin 256) (col : Fin 1024) :
    result (fun a => (xr a : EReal)) (fun a => (wr a : EReal)) wo (fun a => (kr a : EReal)) V (ix2 i col)
      = ∑ k : Fin 1024, Attn.attend xr wr kr V i k * wo (ix2 k col) := by
  pointwise [result]
  simp only [attend_at]

end Cert.ReferenceIdeal.Plain

end
-- ==== Proof.Algebra.lean ====
/- The kernel and the reference compute the same function over the extended reals. -/
module

public import proofs.«01_k».proof.Proof.Frames
public import proofs.«01_k».proof.Proof.KerValue
public import proofs.«01_k».proof.Proof.RefValue
public import proofs.«01_k».proof.Proof.Gen.Pre_finite_scores_KernelIdeal
public import proofs.«01_k».proof.Proof.Gen.Pre_finite_scores_ReferenceIdeal
public import Idealize.ShloMosaic.Lib.ReduceAll
public import Idealize.ShloMosaic.Lib.Layout

@[expose] public section

set_option maxRecDepth 100000

noncomputable section

namespace Cert.Final

open Idealize.ShloMosaic Idealize.ShloMosaic.TcCoe Idealize.SL.Sem

/-! ## The precondition read back -/

/-- A number whose absolute value is below infinity is real. -/
theorem real_of_bounded (x : EReal) (h : Ideal.cmp .olt (max x (-x)) ⊤ = 1#1) : ∃ r : ℝ, x = (r : EReal) := by
  have hlt : max x (-x) < ⊤ := by
    by_contra hn
    simp [Ideal.cmp, hn] at h
  obtain ⟨h1, h2⟩ := max_lt_iff.mp hlt
  have hb : x ≠ ⊥ := by
    rintro rfl
    simp at h2
  exact ⟨_, (EReal.coe_toReal h1.ne hb).symm⟩

/-- The precondition says that the queries' factors and the keys are real. -/
theorem finite_of_pre (x : FVec Ideal ⟨2, ![256, 1024]⟩ .f32) (w o : FVec Ideal ⟨2, ![1024, 1024]⟩ .f32) (k v : FVec Ideal ⟨3, ![4096, 2, 128]⟩ .f32)
    (i₀ : (⟨0, ![]⟩ : Shape).Idx)
    (h : Cert.Pre_finite_scores_KernelIdeal.fn (F := Ideal) x w o k v i₀ = 1#1) :
    (∀ i, ∃ r : ℝ, x i = (r : EReal)) ∧ (∀ i, ∃ r : ℝ, w i = (r : EReal)) ∧ (∀ i, ∃ r : ℝ, k i = (r : EReal)) := by
  haveI : Subsingleton Cert.Pre_finite_scores_KernelIdeal.S_.Idx := ⟨fun a b => funext fun d => d.elim0⟩
  obtain ⟨hxw, hk⟩ := IntOp.andi_eq_one.1 h
  obtain ⟨hx, hw⟩ := IntOp.andi_eq_one.1 hxw
  refine ⟨fun i => real_of_bounded _ ?_, fun i => real_of_bounded _ ?_, fun i => real_of_bounded _ ?_⟩
  · rw [← Words.top_word]
    exact Host.reduce_andi_all _ _ _ _ _ hx i
  · rw [← Words.top_word]
    exact Host.reduce_andi_all _ _ _ _ _ hw i
  · rw [← Words.top_word]
    exact Host.reduce_andi_all _ _ _ _ _ hk i

/-! ## The claims under the precondition -/

/-- The ideal kernel's frame under the precondition. -/
theorem frame_pi_pre : Cert.quiescent_KernelIdeal_pre_finite_scores_KernelIdeal := fun m ρ _ => frame_pi m ρ trivial

/-- The reference's frame under the precondition. -/
theorem frame_ri_pre : Cert.quiescent_ReferenceIdeal_pre_finite_scores_ReferenceIdeal := fun m ρ _ => frame_ri m ρ trivial

/-- Device `c`'s block of an array of keys, read at a key. -/
theorem block_at (c : Dev Cert.KernelIdeal.nD) (v : (⟨3, ![65536, 2, 128]⟩ : Shape).Idx → EReal) (j : Fin 4096) (g : Fin 2) (d : Fin 128) :
    Layout.block ⟨3, ![4096, 2, 128]⟩ ⟨3, ![65536, 2, 128]⟩ 0 16 c v (by decide) (ix3 j g d) = v (ix3 (Cert.KernelIdeal.Run.keyOf c j) g d) := by
  rw [Layout.block_apply]
  refine congrArg v (funext fun b => Fin.ext ?_)
  match b with
  | 0 => rfl
  | 1 => rfl
  | 2 => rfl

/-- Every key of the whole array is some device's. -/
theorem key_of (j : Fin 65536) : ∃ (c : Dev Cert.KernelIdeal.nD) (i : Fin 4096), Cert.KernelIdeal.Run.keyOf c i = j :=
  ⟨⟨j.val / 4096, by show _ < 16; omega⟩, ⟨j.val % 4096, by omega⟩, Fin.ext (by show j.val / 4096 * 4096 + j.val % 4096 = j.val; omega)⟩

open Cert.KernelIdeal.Run in
/-- Both programs end with the attention times the output matrix. -/
theorem algebraic : Cert.algebraic_KernelIdeal_ReferenceIdeal_pre_finite_scores_KernelIdeal := by
  intro m ρ m' ρ' hpre hagree
  have hfin (c : Dev Cert.KernelIdeal.nD) :=
    finite_of_pre (xV m c) (wqV m c) (woV m c) (kV m c) (vV m c) (fun d => d.elim0) (congrFun (hpre c) _)
  let x : FVec Ideal ⟨2, ![256, 1024]⟩ .f32 := m' (((0 : Dev Cert.ReferenceIdeal.nD).tc : Thread Cert.ReferenceIdeal.nD Cert.ReferenceIdeal.τ).loc Cert.ReferenceIdeal.main_arg0)
  let w : FVec Ideal ⟨2, ![1024, 1024]⟩ .f32 := m' (((0 : Dev Cert.ReferenceIdeal.nD).tc : Thread Cert.ReferenceIdeal.nD Cert.ReferenceIdeal.τ).loc Cert.ReferenceIdeal.main_arg1)
  let o : FVec Ideal ⟨2, ![1024, 1024]⟩ .f32 := m' (((0 : Dev Cert.ReferenceIdeal.nD).tc : Thread Cert.ReferenceIdeal.nD Cert.ReferenceIdeal.τ).loc Cert.ReferenceIdeal.main_arg2)
  let k : FVec Ideal ⟨3, ![65536, 2, 128]⟩ .f32 := m' (((0 : Dev Cert.ReferenceIdeal.nD).tc : Thread Cert.ReferenceIdeal.nD Cert.ReferenceIdeal.τ).loc Cert.ReferenceIdeal.main_arg3)
  let v : FVec Ideal ⟨3, ![65536, 2, 128]⟩ .f32 := m' (((0 : Dev Cert.ReferenceIdeal.nD).tc : Thread Cert.ReferenceIdeal.nD Cert.ReferenceIdeal.τ).loc Cert.ReferenceIdeal.main_arg4)
  have ax (c : Dev Cert.KernelIdeal.nD) : xV m c = x := (hagree c).1
  have aw (c : Dev Cert.KernelIdeal.nD) : wqV m c = w := (hagree c).2.1
  have ao (c : Dev Cert.KernelIdeal.nD) : woV m c = o := (hagree c).2.2.1
  have ak (c : Dev Cert.KernelIdeal.nD) (j : Fin 4096) (g : Fin 2) (d : Fin 128) : kV m c (ix3 j g d) = k (ix3 (keyOf c j) g d) :=
    (congrFun (hagree c).2.2.2.1 _).trans (block_at c k j g d)
  have av (c : Dev Cert.KernelIdeal.nD) (j : Fin 4096) (g : Fin 2) (d : Fin 128) : vV m c (ix3 j g d) = v (ix3 (keyOf c j) g d) :=
    (congrFun (hagree c).2.2.2.2 _).trans (block_at c v j g d)
  have hx : ∀ i, ∃ r : ℝ, x i = (r : EReal) := fun i => by
    rw [← ax 0]; exact (hfin 0).1 i
  have hw : ∀ i, ∃ r : ℝ, w i = (r : EReal) := fun i => by
    rw [← aw 0]; exact (hfin 0).2.1 i
  have hk : ∀ i, ∃ r : ℝ, k i = (r : EReal) := fun i => by
    obtain ⟨c, j, hj⟩ := key_of (i 0)
    obtain ⟨r, hr⟩ := (hfin c).2.2 (ix3 j (i 1) (i 2))
    refine ⟨r, Eq.trans ?_ ((ak c j (i 1) (i 2)).symm.trans hr)⟩
    rw [hj]
    exact congrArg k (eq_ix3 i)
  choose xr hxr using hx
  choose wr hwr using hw
  choose kr hkr using hk
  have H : Holds m xr wr kr v o :=
    { x := fun c i j => (congrFun (ax c) _).trans (hxr _)
      w := fun c i j => (congrFun (aw c) _).trans (hwr _)
      o := ao
      k := fun c j g d => (ak c j g d).trans (hkr _)
      v := av }
  have hres (i : Fin 256) (col : Fin 1024) : Cert.ReferenceIdeal.Plain.result x w o k v (ix2 i col)
      = ∑ j : Fin 1024, Attn.attend xr wr kr v i j * o (ix2 j col) := by
    rw [funext hxr, funext hwr, funext hkr]
    exact Cert.ReferenceIdeal.Plain.result_at o v xr wr kr i col
  refine ⟨Cert.ReferenceIdeal.Plain.result x w o k v, ?_, ?_⟩
  · refine (θ_run Cert.KernelIdeal.defs _ _).mono (fun r h c => ⟨?_, (h.1 c).1, (h.1 c).2.1, (h.1 c).2.2.1, (h.1 c).2.2.2.1, (h.1 c).2.2.2.2.1⟩)
      (run_main ρ m)
    funext t
    rw [eq_ix2 t]
    exact (out_at H _ (h.1 c).2.2.2.2.2 (t 0) (t 1)).trans (hres (t 0) (t 1)).symm
  · exact (θ_run Cert.ReferenceIdeal.defs _ _).mono (fun r h => ⟨(h 0).1, (h 0).2⟩) (Cert.ReferenceIdeal.Value.run (F := Ideal) m' ρ')

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Gen.Pre_finite_scores_KernelIdeal
public import proofs.«01_k».proof.Proof.Gen.Pre_finite_scores_ReferenceIdeal
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Final.frame_p, Cert.Final.frame_pi, Cert.Final.frame_pi_pre, Cert.Final.frame_ri, Cert.Final.frame_ri_pre,
    Cert.Final.preserves, Cert.Final.algebraic⟩

end Cert.Proof

end
